-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts [hPre_experts : Cert.Pre_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts [hReference3Ideal : Cert.Reference3Ideal.Facts] [hPre_experts : Cert.Pre_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v26_0)) (v1 : (c : Dev Cert.Kernel4Ideal.nD) → Buf (Elt Ideal) ((c.tc : Thread Cert.Kernel4Ideal.nD Cert.Kernel4Ideal.τ).loc Cert.Kernel4Ideal.main_v26_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26_0) = v0 c
          ∧ r.2.mem ((c.tc : Thread Cert.Kernel4Ideal.nD Cert.Kernel4Ideal.τ).loc Cert.Kernel4Ideal.main_v26_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v115_4)) (v1 : (c : Dev Cert.Kernel5Ideal.nD) → Buf (Elt Ideal) ((c.tc : Thread Cert.Kernel5Ideal.nD Cert.Kernel5Ideal.τ).loc Cert.Kernel5Ideal.main_v115_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v115_4) = v0 c
          ∧ r.2.mem ((c.tc : Thread Cert.Kernel5Ideal.nD Cert.Kernel5Ideal.τ).loc Cert.Kernel5Ideal.main_v115_5) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3) (hPre_experts := hPre_experts)
    ∧ quiescent_Kernel3Ideal (hKernel3Ideal := hKernel3Ideal) (hPre_experts := hPre_experts)
    ∧ quiescent_Reference3Ideal (hReference3Ideal := hReference3Ideal)
    ∧ quiescent_Reference3Ideal_pre_experts (hReference3Ideal := hReference3Ideal) (hPre_experts := hPre_experts)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal) (hPre_experts := hPre_experts)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts.lean ====
abbrev S152 : Shape := ⟨1, ![152]⟩
abbrev S38912x1024 : Shape := ⟨2, ![38912, 1024]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel

variable [Facts]

def fn {F : FTy → Type} [FloatOps F] (main_arg0 : IVec S152 32) (main_arg1 : IVec S152 32) (main_arg2 : FVec F S38912x1024 .f32) (main_arg3 : FVec F S16x1024x512 .f32) (main_arg4 : FVec F S16x1024x512 .f32) (main_arg5 : FVec F S16x512x1024 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 16#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_c_2 : IVec S_ 32 := constantI S_ 32 0#32
  let main_v6 : IVec S152 32 := broadcastInDim S152 ![] bcast_S_S152 main_c_2
  let main_v7 : IVec S152 1 := cmpi .sge main_arg1 main_v6
  let main_c_3 : IVec S_ 32 := constantI S_ 32 16#32
  let main_v8 : IVec S152 32 := broadcastInDim S152 ![] bcast_S_S152 main_c_3
  let main_v9 : IVec S152 1 := cmpi .slt main_arg1 main_v8
  let main_v10 : IVec S152 1 := andi main_v7 main_v9
  let main_c_4 : IVec S_ 1 := constantI S_ 1 1#1
  let main_v11 : IVec S_ 1 := (fun x v => Host.reduce IntOp.andi x v reducesTo_S152_S_d0 h_S_) main_v10 main_c_4
  let main_v12 : IVec S_ 1 := andi main_v5 main_v11
  main_v12
-- ==== Pre_finite.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S96 : Shape := ⟨1, ![96]⟩
abbrev S_ : Shape := ⟨0, ![]⟩

class Facts : Prop where
  bcast_S_S2x16384x8x96 : S_.BroadcastsInDim S2x16384x8x96 (![] : Fin 0 → Fin S2x16384x8x96.rank)
  reducesTo_S2x16384x8x96_S_d0_1_2_3 : S2x16384x8x96.ReducesTo [0, 1, 2, 3] S_
  h_S_ : 0 < S_.numel
  bcast_S_S2x256x8x96 : S_.BroadcastsInDim S2x256x8x96 (![] : Fin 0 → Fin S2x256x8x96.rank)
  reducesTo_S2x256x8x96_S_d0_1_2_3 : S2x256x8x96.ReducesTo [0, 1, 2, 3] S_
  bcast_S_S96 : S_.BroadcastsInDim S96 (![] : Fin 0 → Fin S96.rank)
  reducesTo_S96_S_d0 : S96.ReducesTo [0] S_

variable [Facts]

def fn_part1 {F : FTy → Type} [FloatOps F] (main_arg6 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg6
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  main_v23

def fn {F : FTy → Type} [FloatOps F] (main_arg0 : FVec F S2x16384x8x96 .f32) (main_arg1 : FVec F S2x16384x8x96 .f32) (main_arg2 : FVec F S2x16384x8x64 .f32) (main_arg3 : FVec F S2x256x8x96 .f32) (main_arg4 : FVec F S2x256x8x64 .f32) (main_arg5 : FVec F S96 .f32) (main_arg6 : FVec F S96 .f32) : IVec S_ 1 :=
  let main_v0 : FVec F S2x16384x8x96 .f32 := Host.absf main_arg0
  let main_cst : FVec F S_ .f32 := constant S_ .f32 0x7F800000#32
  let main_v1 : FVec F S2x16384x8x96 .f32 := broadcastInDim S2x16384x8x96 ![] bcast_S_S2x16384x8x96 main_cst
  let main_v2 : IVec S2x16384x8x96 1 := cmpf .olt main_v0 main_v1
  let main_c : IVec S_ 1 := constantI S_ 1 1#1
  let main_v3 : IVec S_ 1 := (fun x v => Host.reduce IntOp.andi x v reducesTo_S2x16384x8x96_S_d0_1_2_3 h_S_) main_v2 main_c
  let main_v4 : FVec F S2x16384x8x96 .f32 := Host.absf main_arg1
  let main_cst_0 : FVec F S_ .f32 := constant S_ .f32 0x7F800000#32
  let main_v5 : FVec F S2x16384x8x96 .f32 := broadcastInDim S2x16384x8x96 ![] bcast_S_S2x16384x8x96 main_cst_0
  let main_v6 : IVec S2x16384x8x96 1 := cmpf .olt main_v4 main_v5
  let main_c_1 : IVec S_ 1 := constantI S_ 1 1#1
  let main_v7 : IVec S_ 1 := (fun x v => Host.reduce IntOp.andi x v reducesTo_S2x16384x8x96_S_d0_1_2_3 h_S_) main_v6 main_c_1
  let main_v8 : IVec S_ 1 := andi main_v3 main_v7
  let main_v9 : FVec F S2x256x8x96 .f32 := Host.absf main_arg3
  let main_cst_2 : FVec F S_ .f32 := constant S_ .f32 0x7F800000#32
  let main_v10 : FVec F S2x256x8x96 .f32 := broadcastInDim S2x256x8x96 ![] bcast_S_S2x256x8x96 main_cst_2
  let main_v11 : IVec S2x256x8x96 1 := cmpf .olt main_v9 main_v10
  let main_c_3 : IVec S_ 1 := constantI S_ 1 1#1
  let main_v12 : IVec S_ 1 := (fun x v => Host.reduce IntOp.andi x v reducesTo_S2x256x8x96_S_d0_1_2_3 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_v13 main_v16
-- ==== Kernel.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S96 : Shape := ⟨1, ![96]⟩
abbrev S_ : Shape := ⟨0, ![]⟩
abbrev S2x16384x8x1 : Shape := ⟨4, ![2, 16384, 8, 1]⟩
abbrev S2x16384x8x31 : Shape := ⟨4, ![2, 16384, 8, 31]⟩
abbrev S2x16384x8x128 : Shape := ⟨4, ![2, 16384, 8, 128]⟩
abbrev S64x512x1024 : Shape := ⟨3, ![64, 512, 1024]⟩
abbrev S64x1024x512 : Shape := ⟨3, ![64, 1024, 512]⟩
abbrev S32768x1024 : Shape := ⟨2, ![32768, 1024]⟩
abbrev S2x16384x8x15 : Shape := ⟨4, ![2, 16384, 8, 15]⟩
abbrev S2x16384x8x80 : Shape := ⟨4, ![2, 16384, 8, 80]⟩
abbrev S2x8x2048x640 : Shape := ⟨4, ![2, 8, 2048, 640]⟩
abbrev S2x8x640x2048 : Shape := ⟨4, ![2, 8, 640, 2048]⟩
abbrev S2x256x8x1 : Shape := ⟨4, ![2, 256, 8, 1]⟩
abbrev S2x256x8x31 : Shape := ⟨4, ![2, 256, 8, 31]⟩
abbrev S2x256x8x128 : Shape := ⟨4, ![2, 256, 8, 128]⟩
abbrev S512x1024 : Shape := ⟨2, ![512, 1024]⟩
abbrev S2x256x8x15 : Shape := ⟨4, ![2, 256, 8, 15]⟩
abbrev S2x256x8x80 : Shape := ⟨4, ![2, 256, 8, 80]⟩
abbrev S2x1x256x640 : Shape := ⟨4, ![2, 1, 256, 640]⟩
abbrev S2x1x640x256 : Shape := ⟨4, ![2, 1, 640, 256]⟩
abbrev S32768x512 : Shape := ⟨2, ![32768, 512]⟩
abbrev S1x256x512 : Shape := ⟨3, ![1, 256, 512]⟩
abbrev S16384x256 : Shape := ⟨2, ![16384, 256]⟩
abbrev S1x8x160x2048 : Shape := ⟨4, ![1, 8, 160, 2048]⟩
abbrev S256x256 : Shape := ⟨2, ![256, 256]⟩
abbrev S1x1x160x256 : Shape := ⟨4, ![1, 1, 160, 256]⟩
abbrev S512x128 : Shape := ⟨2, ![512, 128]⟩
abbrev S80x512 : Shape := ⟨2, ![80, 512]⟩
abbrev S2048x128 : Shape := ⟨2, ![2048, 128]⟩
abbrev S1x1x80x2048 : Shape := ⟨4, ![1, 1, 80, 2048]⟩
abbrev S80x2048 : Shape := ⟨2, ![80, 2048]⟩
abbrev S1x128x512 : Shape := ⟨3, ![1, 128, 512]⟩
abbrev S128x512 : Shape := ⟨2, ![128, 512]⟩
abbrev S2048x512 : Shape := ⟨2, ![2048, 512]⟩
abbrev S256x128 : Shape := ⟨2, ![256, 128]⟩
abbrev S1x1x80x256 : Shape := ⟨4, ![1, 1, 80, 256]⟩
abbrev S80x256 : Shape := ⟨2, ![80, 256]⟩
abbrev S256x512 : Shape := ⟨2, ![256, 512]⟩
abbrev S64x512 : Shape := ⟨2, ![64, 512]⟩
abbrev S1x512 : Shape := ⟨2, ![1, 512]⟩

abbrev nBuf : Space → Nat
  | .hbm => 62
  | .vmem => 12
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S2x256x8x96, .f32⟩
  | .hbm, ⟨4, _⟩ => ⟨S2x256x8x64, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S96, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x16384x8x96, .f32⟩
  | .hbm, ⟨22, _⟩ => ⟨S2x16384x8x96, .f32⟩
  | .hbm, ⟨23, _⟩ => ⟨S_, .f32⟩
  | .hbm, ⟨24, _⟩ => ⟨S2x16384x8x1, .f32⟩
  | .hbm, ⟨25, _⟩ => ⟨S_, .f32⟩
  | .hbm, ⟨26, _⟩ => ⟨S2x16384x8x31, .f32⟩
  | .hbm, ⟨27, _⟩ => ⟨S2x16384x8x128, .f32⟩
  | .hbm, ⟨28, _⟩ => ⟨S64x512x1024, .f32⟩
  | .hbm, ⟨29, _⟩ => ⟨S64x1024x512, .f32⟩
  | .hbm, ⟨30, _⟩ => ⟨S64x1024x512, .bf16⟩
  | .hbm, ⟨31, _⟩ => ⟨S_, .f32⟩
  | .hbm, ⟨32, _⟩ => ⟨S2x16384x8x1, .f32⟩
  | .hbm, ⟨33, _⟩ => ⟨S_, .f32⟩
  | .hbm, ⟨34, _⟩ => ⟨S2x16384x8x31, .f32⟩
  | .hbm, ⟨35, _⟩ => ⟨S2x16384x8x128, .f32⟩
  | .hbm, ⟨36, _⟩ => ⟨S32768x1024, .f32⟩
  | .hbm, ⟨37, _⟩ => ⟨S32768x1024, .bf16⟩
  | .hbm, ⟨38, _⟩ => ⟨S_, .f32⟩
  | .hbm, ⟨39, _⟩ => ⟨S2x16384x8x1, .f32⟩
  | .hbm, ⟨40, _⟩ => ⟨S_, .f32⟩
  | .hbm, ⟨41, _⟩ => ⟨S2x16384x8x15, .f32⟩
  | .hbm, ⟨42, _⟩ => ⟨S2x16384x8x80, .f32⟩
  | .hbm, ⟨43, _⟩ => ⟨S2x8x2048x640, .f32⟩
  | .hbm, ⟨44, _⟩ => ⟨S2x8x640x2048, .f32⟩
  | .hbm, ⟨45, _⟩ => ⟨S2x8x640x2048, .bf16⟩
  | .hbm, ⟨46, _⟩ => ⟨S_, .f32⟩
  | .hbm, ⟨47, _⟩ => ⟨S2x256x8x1, .f32⟩
  | .hbm, ⟨48, _⟩ => ⟨S_, .f32⟩
  | .hbm, ⟨49, _⟩ => ⟨S2x256x8x31, .f32⟩
  | .hbm, ⟨50, _⟩ => ⟨S2x256x8x128, .f32⟩
  | .hbm, ⟨51, _⟩ => ⟨S512x1024, .f32⟩
  | .hbm, ⟨52, _⟩ => ⟨S512x1024, .bf16⟩
  | .hbm, ⟨53, _⟩ => ⟨S_, .f32⟩
  | .hbm, ⟨54, _⟩ => ⟨S2x256x8x1, .f32⟩
  | .hbm, ⟨55, _⟩ => ⟨S_, .f32⟩
  | .hbm, ⟨56, _⟩ => ⟨S2x256x8x15, .f32⟩
  | .hbm, ⟨57, _⟩ => ⟨S2x256x8x80, .f32⟩
  | .hbm, ⟨58, _⟩ => ⟨S2x1x256x640, .f32⟩
  | .hbm, ⟨59, _⟩ => ⟨S2x1x640x256, .f32⟩
  | .hbm, ⟨60, _⟩ => ⟨S2x1x640x256, .bf16⟩
  | .hbm, ⟨61, _⟩ => ⟨S32768x512, .bf16⟩
  | .local _ .vmem, ⟨0, _⟩ => ⟨S1x256x512, .bf16⟩
  | .local _ .vmem, ⟨1, _⟩ => ⟨S1x256x512, .bf16⟩
  | .local _ .vmem, ⟨2, _⟩ => ⟨S16384x256, .bf16⟩
  | .local _ .vmem, ⟨3, _⟩ => ⟨S16384x256, .bf16⟩
  | .local _ .vmem, ⟨4, _⟩ => ⟨S1x8x160x2048, .bf16⟩
  | .local _ .vmem, ⟨5, _⟩ => ⟨S1x8x160x2048, .bf16⟩
  | .local _ .vmem, ⟨6, _⟩ => ⟨S256x256, .bf16⟩
  | .local _ .vmem, ⟨7, _⟩ => ⟨S256x256, .bf16⟩
  | .local _ .vmem, ⟨8, _⟩ => ⟨S1x1x160x256, .bf16⟩
  | .local _ .vmem, ⟨9, _⟩ => ⟨S1x1x160x256, .bf16⟩
  | .local _ .vmem, ⟨10, _⟩ => ⟨S512x128, .bf16⟩
  | .local _ .vmem, ⟨11, _⟩ => ⟨S512x128, .bf16⟩
  | _, _ => ⟨S2x16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 32], ![false, false, false]⟩

def k0_mult1 : BitVec 32 :=
  let c0_i32 : BitVec 32 := 0#32
  let c2048_i32 : BitVec 32 := 2048#32
  let v2 : BitVec 32 := Scalar.muli c0_i32 c2048_i32
  v2
def k0_off1 (c0_i32 : BitVec 32) : Fin 2 → Nat :=
  let c2048_i32 : BitVec 32 := 2048#32
  let v2 : BitVec 32 := Scalar.muli c0_i32 c2048_i32
  let v3 : BitVec 32 := v2
  let v4 : Index := Scalar.indexCast v3
  let c0 : Index := 0#32
  ![v4.toNat, 0]
def k0_off2 (c0_i32 : BitVec 32) : Fin 2 → Nat :=
  let c2048_i32 : BitVec 32 := 2048#32
  let v2 : BitVec 32 := Scalar.muli c0_i32 c2048_i32
  let v3 : BitVec 32 := v2
  let v17 : Index := Scalar.indexCast v3
  let c128 : Index := 128#32
  ![v17.toNat, 128]
def k0_mult2 : BitVec 32 :=
  let c1_i32 : BitVec 32 := 1#32
  let c2048_i32_16 : BitVec 32 := 2048#32
  let v30 : BitVec 32 := Scalar.muli c1_i32 c2048_i32_16
  v30
def k0_mult3 : BitVec 32 :=
  let c2_i32 : BitVec 32 := 2#32
  let c2048_i32_35 : BitVec 32 := 2048#32
  let v58 : BitVec 32 := Scalar.muli c2_i32 c2048_i32_35
  v58
def k0_mult4 : BitVec 32 :=
  let c3_i32 : BitVec 32 := 3#32
  let c2048_i32_54 : BitVec 32 := 2048#32
  let v86 : BitVec 32 := Scalar.muli c3_i32 c2048_i32_54
  v86
def k0_mult5 : BitVec 32 :=
  let c4_i32 : BitVec 32 := 4#32
  let c2048_i32_73 : BitVec 32 := 2048#32
  let v114 : BitVec 32 := Scalar.muli c4_i32 c2048_i32_73
  v114
def k0_mult6 : BitVec 32 :=
  let c5_i32 : BitVec 32 := 5#32
  let c2048_i32_92 : BitVec 32 := 2048#32
  let v142 : BitVec 32 := Scalar.muli c5_i32 c2048_i32_92
  v142
def k0_mult7 : BitVec 32 :=
  let c6_i32 : BitVec 32 := 6#32
  let c2048_i32_111 : BitVec 32 := 2048#32
  let v170 : BitVec 32 := Scalar.muli c6_i32 c2048_i32_111
  v170
def k0_mult8 : BitVec 32 :=
  let c7_i32 : BitVec 32 := 7#32
  let c2048_i32_130 : BitVec 32 := 2048#32
  let v198 : BitVec 32 := Scalar.muli c7_i32 c2048_i32_130
  v198
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x160x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x160x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x8x96 : Shape := ⟨4, ![2, 16384, 8, 96]⟩
abbrev S2x16384x8x64 : Shape := ⟨4, ![2, 16384, 8, 64]⟩
abbrev S2x256x8x96 : Shape := ⟨4, ![2, 256, 8, 96]⟩
abbrev S2x256x8x64 : Shape := ⟨4, ![2, 256, 8, 64]⟩
abbrev S96 : Shape := ⟨1, ![96]⟩
abbrev S2x16640x8x96 : Shape := ⟨4, ![2, 16640, 8, 96]⟩
abbrev S2x16640x8x64 : Shape := ⟨4, ![2, 16640, 8, 64]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S32768x512 : Shape := ⟨2, ![32768, 512]⟩

abbrev nBuf : Space → Nat
  | .hbm => 32
  | .vmem => 0
  | .smem => 0
  | _ => 0

abbrev bufTy : (tb : Table) → Fin (tcTables nBuf tb) → BufTy
  | .hbm, ⟨0, _⟩ => ⟨S2x16384x8x96, .f32⟩
  | .hbm, ⟨1, _⟩ => ⟨S2x16384x8x96, .f32⟩
  | .hbm, ⟨2, _⟩ => ⟨S2x16384x8x64, .f32⟩
  | .hbm, ⟨3, _⟩ => ⟨S2x256x8x96, .f32⟩
  | .hbm, ⟨4, _⟩ => ⟨S2x256x8x64, .f32⟩
  | .hbm, ⟨5, _⟩ => ⟨S96, .f32⟩
  | .hbm, ⟨6, _⟩ => ⟨S96, .f32⟩
  | .hbm, ⟨7, _⟩ => ⟨S2x16640x8x96, .f32⟩
  | .hbm, ⟨8, _⟩ => ⟨S2x16640x8x64, .f32⟩
  | .hbm, ⟨9, _⟩ => ⟨S2x8x16384x16640, .f32⟩
  | .hbm, ⟨10, _⟩ => ⟨S_, .f32⟩
  | .hbm, ⟨11, _⟩ => ⟨S_, .f32⟩
  | .hbm, ⟨12, _⟩ => ⟨S2x8x16384x16640, .f32⟩
  | .hbm, ⟨13, _⟩ => ⟨S2x8x16384x16640, .f32⟩
  | .hbm, ⟨14, _⟩ => ⟨S_, .f32⟩
  | .hbm, ⟨15, _⟩ => ⟨S2x8x16384, .f32⟩
  | .hbm, ⟨16, _⟩ => ⟨S_, .f32⟩
  | .hbm, ⟨17, _⟩ => ⟨S2x8x16384, .f32⟩
  | .hbm, ⟨18, _⟩ => ⟨S2x8x16384, .f32⟩
  | .hbm, ⟨19, _⟩ => ⟨S2x8x16384x1, .f32⟩
  | .hbm, ⟨20, _⟩ => ⟨S2x8x16384x16640, .f32⟩
  | .hbm, ⟨21, _⟩ => ⟨S2x8x16384x16640, .f32⟩
  | .hbm, ⟨22, _⟩ => ⟨S2x8x16384x16640, .f32⟩
  | .hbm, ⟨23, _⟩ => ⟨S_, .f32⟩
  | .hbm, ⟨24, _⟩ => ⟨S2x8x16384, .f32⟩
  | .hbm, ⟨25, _⟩ => ⟨S2x8x16384x1, .f32⟩
  | .hbm, ⟨26, _⟩ => ⟨S2x8x16384x16640, .f32⟩
  | .hbm, ⟨27, _⟩ => ⟨S2x8x16384x16640, .f32⟩
  | .hbm, ⟨28, _⟩ => ⟨S2x8x64x16384, .f32⟩
  | .hbm, ⟨29, _⟩ => ⟨S2x16384x8x64, .f32⟩
  | .hbm, ⟨30, _⟩ => ⟨S32768x512, .f32⟩
  | .hbm, ⟨31, _⟩ => ⟨S32768x512, .bf16⟩
  | _, _ => ⟨S2x16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel3.lean ====
abbrev S152 : Shape := ⟨1, ![152]⟩
abbrev S38912x1024 : Shape := ⟨2, ![38912, 1024]⟩
abbrev S16x1024x512 : Shape := ⟨3, ![16, 1024, 512]⟩
abbrev S16x512x1024 : Shape := ⟨3, ![16, 512, 1024]⟩
abbrev S16x1024x1024 : Shape := ⟨3, ![16, 1024, 1024]⟩
abbrev S38912x2048 : Shape := ⟨2, ![38912, 2048]⟩
abbrev S256x1024 : Shape := ⟨2, ![256, 1024]⟩
abbrev S1x1024x1024 : Shape := ⟨3, ![1, 1024, 1024]⟩
abbrev S1 : Shape := ⟨1, ![1]⟩
abbrev S1x512x1024 : Shape := ⟨3, ![1, 512, 1024]⟩
abbrev S256x2048 : Shape := ⟨2, ![256, 2048]⟩
abbrev S1024x1024 : Shape := ⟨2, ![1024, 1024]⟩
abbrev S256x512 : Shape := ⟨2, ![256, 512]⟩
abbrev S512x1024 : Shape := ⟨2, ![512, 1024]⟩

abbrev nBuf : Space → Nat
  | .hbm => 8
  | .vmem => 12
  | .smem => 2
  | _ => 0

abbrev bufTy : (tb : Table) → Fin (tcTables nBuf tb) → BufTy
  | .hbm, ⟨0, _⟩ => ⟨S38912x1024, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x1024x1024, .f32⟩
  | .hbm, ⟨5, _⟩ => ⟨S16x1024x1024, .bf16⟩
  | .hbm, ⟨6, _⟩ => ⟨S16x512x1024, .bf16⟩
  | .hbm, ⟨7, _⟩ => ⟨S38912x2048, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S256x2048, .f32⟩
  | .local _ .vmem, ⟨11, _⟩ => ⟨S256x2048, .f32⟩
  | .local _ .smem, ⟨0, _⟩ => ⟨S152, .i32⟩
  | .local _ .smem, ⟨1, _⟩ => ⟨S152, .i32⟩
  | _, _ => ⟨S38912x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S152 : Shape := ⟨1, ![152]⟩
abbrev S38912x1024 : Shape := ⟨2, ![38912, 1024]⟩
abbrev S16x1024x512 : Shape := ⟨3, ![16, 1024, 512]⟩
abbrev S16x512x1024 : Shape := ⟨3, ![16, 512, 1024]⟩
abbrev S16x512x38912 : Shape := ⟨3, ![16, 512, 38912]⟩
abbrev S16x38912x512 : Shape := ⟨3, ![16, 38912, 512]⟩
abbrev S_ : Shape := ⟨0, ![]⟩
abbrev S16x38912x1024 : Shape := ⟨3, ![16, 38912, 1024]⟩
abbrev S152x256 : Shape := ⟨2, ![152, 256]⟩
abbrev S38912 : Shape := ⟨1, ![38912]⟩
abbrev S38912x1 : Shape := ⟨2, ![38912, 1]⟩
abbrev S1x16 : Shape := ⟨2, ![1, 16]⟩
abbrev S38912x16 : Shape := ⟨2, ![38912, 16]⟩
abbrev S38912x2048 : Shape := ⟨2, ![38912, 2048]⟩

abbrev nBuf : Space → Nat
  | .hbm => 40
  | .vmem => 0
  | .smem => 0
  | _ => 0

abbrev bufTy : (tb : Table) → Fin (tcTables nBuf tb) → BufTy
  | .hbm, ⟨0, _⟩ => ⟨S152, .i32⟩
  | .hbm, ⟨1, _⟩ => ⟨S152, .i32⟩
  | .hbm, ⟨2, _⟩ => ⟨S38912x1024, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S16x512x38912, .f32⟩
  | .hbm, ⟨7, _⟩ => ⟨S16x38912x512, .f32⟩
  | .hbm, ⟨8, _⟩ => ⟨S16x38912x512, .f32⟩
  | .hbm, ⟨9, _⟩ => ⟨S16x38912x512, .f32⟩
  | .hbm, ⟨10, _⟩ => ⟨S_, .f32⟩
  | .hbm, ⟨11, _⟩ => ⟨S16x38912x512, .f32⟩
  | .hbm, ⟨12, _⟩ => ⟨S16x38912x512, .f32⟩
  | .hbm, ⟨13, _⟩ => ⟨S_, .f32⟩
  | .hbm, ⟨14, _⟩ => ⟨S16x38912x512, .f32⟩
  | .hbm, ⟨15, _⟩ => ⟨S16x38912x512, .f32⟩
  | .hbm, ⟨16, _⟩ => ⟨S16x38912x512, .f32⟩
  | .hbm, ⟨17, _⟩ => ⟨S16x512x38912, .f32⟩
  | .hbm, ⟨18, _⟩ => ⟨S16x38912x512, .f32⟩
  | .hbm, ⟨19, _⟩ => ⟨S16x38912x512, .f32⟩
  | .hbm, ⟨20, _⟩ => ⟨S16x38912x1024, .f32⟩
  | .hbm, ⟨21, _⟩ => ⟨S152x256, .i32⟩
  | .hbm, ⟨22, _⟩ => ⟨S38912, .i32⟩
  | .hbm, ⟨23, _⟩ => ⟨S38912x1, .i32⟩
  | .hbm, ⟨24, _⟩ => ⟨S1x16, .i32⟩
  | .hbm, ⟨25, _⟩ => ⟨S38912x16, .i32⟩
  | .hbm, ⟨26, _⟩ => ⟨S38912x16, .i32⟩
  | .hbm, ⟨27, _⟩ => ⟨S38912x16, .i1⟩
  | .hbm, ⟨28, _⟩ => ⟨S38912x16, .f32⟩
  | .hbm, ⟨29, _⟩ => ⟨S38912x1024, .f32⟩
  | .hbm, ⟨30, _⟩ => ⟨S152x256, .i32⟩
  | .hbm, ⟨31, _⟩ => ⟨S38912, .i32⟩
  | .hbm, ⟨32, _⟩ => ⟨S38912x1, .i32⟩
  | .hbm, ⟨33, _⟩ => ⟨S1x16, .i32⟩
  | .hbm, ⟨34, _⟩ => ⟨S38912x16, .i32⟩
  | .hbm, ⟨35, _⟩ => ⟨S38912x16, .i32⟩
  | .hbm, ⟨36, _⟩ => ⟨S38912x16, .i1⟩
  | .hbm, ⟨37, _⟩ => ⟨S38912x16, .f32⟩
  | .hbm, ⟨38, _⟩ => ⟨S38912x1024, .f32⟩
  | .hbm, ⟨39, _⟩ => ⟨S38912x2048, .f32⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩

abbrev nD : Nat := 1
abbrev τ : Topo := Topo.v7x

variable {F : FTy → Type} [FloatOps F]
-- ==== Kernel4.lean ====
abbrev S2x16384x512 : Shape := ⟨3, ![2, 16384, 512]⟩
abbrev S2x16384x256 : Shape := ⟨3, ![2, 16384, 256]⟩
abbrev S2x16384x3072 : Shape := ⟨3, ![2, 16384, 3072]⟩
abbrev S2x16384x1024 : Shape := ⟨3, ![2, 16384, 1024]⟩
abbrev S2x1024 : Shape := ⟨2, ![2, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x16 : Shape := ⟨2, ![1024, 16]⟩
abbrev S16 : Shape := ⟨1, ![16]⟩
abbrev S1x1024 : Shape := ⟨2, ![1, 1024]⟩
abbrev S32768x512 : Shape := ⟨2, ![32768, 512]⟩
abbrev S32768x256 : Shape := ⟨2, ![32768, 256]⟩
abbrev S32768x3072 : Shape := ⟨2, ![32768, 3072]⟩
abbrev S_ : Shape := ⟨0, ![]⟩
abbrev S32768x1024 : Shape := ⟨2, ![32768, 1024]⟩
abbrev S2x1x1024 : Shape := ⟨3, ![2, 1, 1024]⟩
abbrev S16x1024 : Shape := ⟨2, ![16, 1024]⟩
abbrev S16x1 : Shape := ⟨2, ![16, 1]⟩
abbrev S2x32768 : Shape := ⟨2, ![2, 32768]⟩
abbrev S1024x512 : Shape := ⟨2, ![1024, 512]⟩
abbrev S1024x256 : Shape := ⟨2, ![1024, 256]⟩
abbrev S1024x3072 : Shape := ⟨2, ![1024, 3072]⟩
abbrev S1x1x1024 : Shape := ⟨3, ![1, 1, 1024]⟩
abbrev S1024x1 : Shape := ⟨2, ![1024, 1]⟩

abbrev nBuf : Space → Nat
  | .hbm => 48
  | .vmem => 31
  | .smem => 0
  | _ => 0

abbrev bufTy : (tb : Table) → Fin (tcTables nBuf tb) → BufTy
  | .hbm, ⟨0, _⟩ => ⟨S2x16384x512, .f32⟩
  | .hbm, ⟨1, _⟩ => ⟨S2x16384x256, .f32⟩
  | .hbm, ⟨2, _⟩ => ⟨S2x16384x256, .f32⟩
  | .hbm, ⟨3, _⟩ => ⟨S2x16384x3072, .f32⟩
  | .hbm, ⟨4, _⟩ => ⟨S2x16384x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x16, .f32⟩
  | .hbm, ⟨14, _⟩ => ⟨S16, .f32⟩
  | .hbm, ⟨15, _⟩ => ⟨S1x1024, .f32⟩
  | .hbm, ⟨16, _⟩ => ⟨S512x1024, .bf16⟩
  | .hbm, ⟨17, _⟩ => ⟨S256x1024, .bf16⟩
  | .hbm, ⟨18, _⟩ => ⟨S256x1024, .bf16⟩
  | .hbm, ⟨19, _⟩ => ⟨S1024x1024, .bf16⟩
  | .hbm, ⟨20, _⟩ => ⟨S32768x512, .f32⟩
  | .hbm, ⟨21, _⟩ => ⟨S32768x512, .bf16⟩
  | .hbm, ⟨22, _⟩ => ⟨S32768x256, .f32⟩
  | .hbm, ⟨23, _⟩ => ⟨S32768x256, .bf16⟩
  | .hbm, ⟨24, _⟩ => ⟨S32768x256, .f32⟩
  | .hbm, ⟨25, _⟩ => ⟨S32768x256, .bf16⟩
  | .hbm, ⟨26, _⟩ => ⟨S32768x3072, .f32⟩
  | .hbm, ⟨27, _⟩ => ⟨S_, .f32⟩
  | .hbm, ⟨28, _⟩ => ⟨S32768x3072, .f32⟩
  | .hbm, ⟨29, _⟩ => ⟨S32768x3072, .f32⟩
  | .hbm, ⟨30, _⟩ => ⟨S32768x3072, .f32⟩
  | .hbm, ⟨31, _⟩ => ⟨S_, .f32⟩
  | .hbm, ⟨32, _⟩ => ⟨S32768x3072, .f32⟩
  | .hbm, ⟨33, _⟩ => ⟨S32768x3072, .f32⟩
  | .hbm, ⟨34, _⟩ => ⟨S_, .f32⟩
  | .hbm, ⟨35, _⟩ => ⟨S32768x3072, .f32⟩
  | .hbm, ⟨36, _⟩ => ⟨S32768x3072, .f32⟩
  | .hbm, ⟨37, _⟩ => ⟨S32768x3072, .bf16⟩
  | .hbm, ⟨38, _⟩ => ⟨S32768x1024, .f32⟩
  | .hbm, ⟨39, _⟩ => ⟨S2x1x1024, .f32⟩
  | .hbm, ⟨40, _⟩ => ⟨S2x1x1024, .f32⟩
  | .hbm, ⟨41, _⟩ => ⟨S2x1x1024, .f32⟩
  | .hbm, ⟨42, _⟩ => ⟨S16x1024, .f32⟩
  | .hbm, ⟨43, _⟩ => ⟨S16x1, .f32⟩
  | .hbm, ⟨44, _⟩ => ⟨S32768x1024, .f32⟩
  | .hbm, ⟨45, _⟩ => ⟨S32768x1024, .f32⟩
  | .hbm, ⟨46, _⟩ => ⟨S2x32768, .i32⟩
  | .hbm, ⟨47, _⟩ => ⟨S2x32768, .f32⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x3072, .bf16⟩
  | .local _ .vmem, ⟨7, _⟩ => ⟨S1024x3072, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S512x1024, .bf16⟩
  | .local _ .vmem, ⟨18, _⟩ => ⟨S256x1024, .bf16⟩
  | .local _ .vmem, ⟨19, _⟩ => ⟨S256x1024, .bf16⟩
  | .local _ .vmem, ⟨20, _⟩ => ⟨S1024x1024, .bf16⟩
  | .local _ .vmem, ⟨21, _⟩ => ⟨S16x1024, .f32⟩
  | .local _ .vmem, ⟨22, _⟩ => ⟨S16x1, .f32⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | .local _ .vmem, ⟨27, _⟩ => ⟨S2x1024, .i32⟩
  | .local _ .vmem, ⟨28, _⟩ => ⟨S2x1024, .i32⟩
  | .local _ .vmem, ⟨29, _⟩ => ⟨S2x1024, .f32⟩
  | .local _ .vmem, ⟨30, _⟩ => ⟨S2x1024, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26_0 : Ref sig .tc := ⟨.hbm, 44, rfl⟩
abbrev main_v26_1 : Ref sig .tc := ⟨.hbm, 45, rfl⟩
abbrev main_v26_2 : Ref sig .tc := ⟨.hbm, 46, rfl⟩
abbrev main_v26_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x1024 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference4Ideal.lean ====
abbrev S2x16384x512 : Shape := ⟨3, ![2, 16384, 512]⟩
abbrev S2x16384x256 : Shape := ⟨3, ![2, 16384, 256]⟩
abbrev S2x16384x3072 : Shape := ⟨3, ![2, 16384, 3072]⟩
abbrev S2x16384x1024 : Shape := ⟨3, ![2, 16384, 1024]⟩
abbrev S2x1024 : Shape := ⟨2, ![2, 1024]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x16 : Shape := ⟨2, ![1024, 16]⟩
abbrev S16 : Shape := ⟨1, ![16]⟩
abbrev S_ : Shape := ⟨0, ![]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S32768x1024 : Shape := ⟨2, ![32768, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2x16384x512, .f32⟩
  | .hbm, ⟨1, _⟩ => ⟨S2x16384x256, .f32⟩
  | .hbm, ⟨2, _⟩ => ⟨S2x16384x256, .f32⟩
  | .hbm, ⟨3, _⟩ => ⟨S2x16384x3072, .f32⟩
  | .hbm, ⟨4, _⟩ => ⟨S2x16384x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S1024, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x16, .f32⟩
  | .hbm, ⟨14, _⟩ => ⟨S16, .f32⟩
  | .hbm, ⟨15, _⟩ => ⟨S2x16384x3072, .f32⟩
  | .hbm, ⟨16, _⟩ => ⟨S2x16384x3072, .f32⟩
  | .hbm, ⟨17, _⟩ => ⟨S_, .f32⟩
  | .hbm, ⟨18, _⟩ => ⟨S2x16384x3072, .f32⟩
  | .hbm, ⟨19, _⟩ => ⟨S2x16384x3072, .f32⟩
  | .hbm, ⟨20, _⟩ => ⟨S_, .f32⟩
  | .hbm, ⟨21, _⟩ => ⟨S2x16384x3072, .f32⟩
  | .hbm, ⟨22, _⟩ => ⟨S2x16384x3072, .f32⟩
  | .hbm, ⟨23, _⟩ => ⟨S2x16384x1024, .f32⟩
  | .hbm, ⟨24, _⟩ => ⟨S2x16384x1024, .f32⟩
  | .hbm, ⟨25, _⟩ => ⟨S2x16384x1024, .f32⟩
  | .hbm, ⟨26, _⟩ => ⟨S2x16384x1024, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S2x16384x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x1x1024, .f32⟩
  | .hbm, ⟨35, _⟩ => ⟨S2x16384x1024, .f32⟩
  | .hbm, ⟨36, _⟩ => ⟨S2x16384x1024, .f32⟩
  | .hbm, ⟨37, _⟩ => ⟨S2x16384x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x16384, .f32⟩
  | .hbm, ⟨42, _⟩ => ⟨S2x16384x1, .f32⟩
  | .hbm, ⟨43, _⟩ => ⟨S_, .f32⟩
  | .hbm, ⟨44, _⟩ => ⟨S2x16384x1, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1, .f32⟩
  | .hbm, ⟨50, _⟩ => ⟨S2x16384x1024, .f32⟩
  | .hbm, ⟨51, _⟩ => ⟨S2x16384x1024, .f32⟩
  | .hbm, ⟨52, _⟩ => ⟨S1x1x1024, .f32⟩
  | .hbm, ⟨53, _⟩ => ⟨S2x16384x1024, .f32⟩
  | .hbm, ⟨54, _⟩ => ⟨S2x16384x1024, .f32⟩
  | .hbm, ⟨55, _⟩ => ⟨S2x1x1024, .f32⟩
  | .hbm, ⟨56, _⟩ => ⟨S_, .f32⟩
  | .hbm, ⟨57, _⟩ => ⟨S2x1x1024, .f32⟩
  | .hbm, ⟨58, _⟩ => ⟨S2x1x1024, .f32⟩
  | .hbm, ⟨59, _⟩ => ⟨S2x16384x1024, .f32⟩
  | .hbm, ⟨60, _⟩ => ⟨S2x16384x1024, .f32⟩
  | .hbm, ⟨61, _⟩ => ⟨S2x1x1024, .f32⟩
  | .hbm, ⟨62, _⟩ => ⟨S2x16384x1024, .f32⟩
  | .hbm, ⟨63, _⟩ => ⟨S2x16384x1024, .f32⟩
  | .hbm, ⟨64, _⟩ => ⟨S32768x1024, .f32⟩
  | .hbm, ⟨65, _⟩ => ⟨S32768x1024, .f32⟩
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Kernel5.lean ====
abbrev S2x16384x1024 : Shape := ⟨3, ![2, 16384, 1024]⟩
abbrev S2x1024 : Shape := ⟨2, ![2, 1024]⟩
abbrev S1024 : Shape := ⟨1, ![1024]⟩
abbrev S1024x5024 : Shape := ⟨2, ![1024, 5024]⟩
abbrev S256 : Shape := ⟨1, ![256]⟩
abbrev S4x128x128 : Shape := ⟨3, ![4, 128, 128]⟩
abbrev S4x128 : Shape := ⟨2, ![4, 128]⟩
abbrev S384 : Shape := ⟨1, ![384]⟩
abbrev S384x768 : Shape := ⟨2, ![384, 768]⟩
abbrev S256x1024 : Shape := ⟨2, ![256, 1024]⟩
abbrev S96 : Shape := ⟨1, ![96]⟩
abbrev S32 : Shape := ⟨1, ![32]⟩
abbrev S1024x32 : Shape := ⟨2, ![1024, 32]⟩
abbrev S_ : Shape := ⟨0, ![]⟩
abbrev S32x1 : Shape := ⟨2, ![32, 1]⟩
abbrev S1024x128 : Shape := ⟨2, ![1024, 128]⟩
abbrev S1024x640 : Shape := ⟨2, ![1024, 640]⟩
abbrev S1024x4352 : Shape := ⟨2, ![1024, 4352]⟩
abbrev S1024x5120 : Shape := ⟨2, ![1024, 5120]⟩
abbrev S384x8x96 : Shape := ⟨3, ![384, 8, 96]⟩
abbrev S96x1 : Shape := ⟨2, ![96, 1]⟩
abbrev S384x8x128 : Shape := ⟨3, ![384, 8, 128]⟩
abbrev S384x1024 : Shape := ⟨2, ![384, 1024]⟩
abbrev S256x8x128 : Shape := ⟨3, ![256, 8, 128]⟩
abbrev S256x8x64 : Shape := ⟨3, ![256, 8, 64]⟩
abbrev S256x512 : Shape := ⟨2, ![256, 512]⟩
abbrev S512x256 : Shape := ⟨2, ![512, 256]⟩
abbrev S128x4 : Shape := ⟨2, ![128, 4]⟩
abbrev S128x4x64 : Shape := ⟨3, ![128, 4, 64]⟩
abbrev S128x256 : Shape := ⟨2, ![128, 256]⟩
abbrev S128 : Shape := ⟨1, ![128]⟩
abbrev S1x128 : Shape := ⟨2, ![1, 128]⟩
abbrev S1x1024 : Shape := ⟨2, ![1, 1024]⟩
abbrev S1x384 : Shape := ⟨2, ![1, 384]⟩
abbrev S1x256 : Shape := ⟨2, ![1, 256]⟩
abbrev S32768x1024 : Shape := ⟨2, ![32768, 1024]⟩
abbrev S2x1x1024 : Shape := ⟨3, ![2, 1, 1024]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S64x1024x512 : Shape := ⟨3, ![64, 1024, 512]⟩
abbrev S2x8x640x2048 : Shape := ⟨4, ![2, 8, 640, 2048]⟩
abbrev S32768x256 : Shape := ⟨2, ![32768, 256]⟩
abbrev S32768x768 : Shape := ⟨2, ![32768, 768]⟩
abbrev S32768x3072 : Shape := ⟨2, ![32768, 3072]⟩
abbrev S512x1024 : Shape := ⟨2, ![512, 1024]⟩
abbrev S1x1x1024 : Shape := ⟨3, ![1, 1, 1024]⟩
abbrev S512x128 : Shape := ⟨2, ![512, 128]⟩
abbrev S1x1024x512 : Shape := ⟨3, ![1, 1024, 512]⟩
abbrev S1x1x640x512 : Shape := ⟨4, ![1, 1, 640, 512]⟩
abbrev S512x768 : Shape := ⟨2, ![512, 768]⟩
abbrev S512x3072 : Shape := ⟨2, ![512, 3072]⟩
abbrev S512 : Shape := ⟨1, ![512]⟩
abbrev S512x1 : Shape := ⟨2, ![512, 1]⟩
abbrev S1024x384 : Shape := ⟨2, ![1024, 384]⟩
abbrev S512x384 : Shape := ⟨2, ![512, 384]⟩
abbrev S128x512 : Shape := ⟨2, ![128, 512]⟩
abbrev S1x128x512 : Shape := ⟨3, ![1, 128, 512]⟩
abbrev S1024x256 : Shape := ⟨2, ![1024, 256]⟩
abbrev S512x512 : Shape := ⟨2, ![512, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩
abbrev S1024x512 : Shape := ⟨2, ![1024, 512]⟩
abbrev S1x128x128 : Shape := ⟨3, ![1, 128, 128]⟩
abbrev S128x128 : Shape := ⟨2, ![128, 128]⟩
abbrev S1024x768 : Shape := ⟨2, ![1024, 768]⟩
abbrev S1024x1024 : Shape := ⟨2, ![1024, 1024]⟩

abbrev nBuf : Space → Nat
  | .hbm => 177
  | .vmem => 38
  | .smem => 0
  | _ => 0

abbrev hbmTy0_0 (i : Nat) : BufTy := match i % 128 with
  | 0 => ⟨S2x16384x1024, .f32⟩
  | 1 => ⟨S2x1024, .f32⟩
  | 2 => ⟨S2x1024, .f32⟩
  | 3 => ⟨S1024, .f32⟩
  | 4 => ⟨S1024x5024, .f32⟩
  | 5 => ⟨S256, .f32⟩
  | 6 => ⟨S4x128x128, .f32⟩
  | 7 => ⟨S4x128, .f32⟩
  | 8 => ⟨S384, .f32⟩
  | 9 => ⟨S384x768, .f32⟩
  | 10 => ⟨S256, .f32⟩
  | 11 => ⟨S256x1024, .f32⟩
  | 12 => ⟨S96, .f32⟩
  | 13 => ⟨S96, .f32⟩
  | 14 => ⟨S96, .i32⟩
  | 15 => ⟨S32, .i32⟩
  | 16 => ⟨S1024x5024, .bf16⟩
  | 17 => ⟨S1024x32, .bf16⟩
  | 18 => ⟨S_, .i32⟩
  | 19 => ⟨S32, .i32⟩
  | 20 => ⟨S32, .i1⟩
  | 21 => ⟨S_, .i32⟩
  | 22 => ⟨S32, .i32⟩
  | 23 => ⟨S32, .i32⟩
  | 24 => ⟨S32, .i32⟩
  | 25 => ⟨S32x1, .i32⟩
  | 26 => ⟨S1024x32, .bf16⟩
  | 27 => ⟨S_, .i32⟩
  | 28 => ⟨S_, .bf16⟩
  | 29 => ⟨S1024x128, .bf16⟩
  | 30 => ⟨S1024x640, .bf16⟩
  | 31 => ⟨S1024x4352, .bf16⟩
  | 32 => ⟨S1024x5120, .bf16⟩
  | 33 => ⟨S384x8x96, .f32⟩
  | 34 => ⟨S_, .i32⟩
  | 35 => ⟨S96, .i32⟩
  | 36 => ⟨S96, .i1⟩
  | 37 => ⟨S_, .i32⟩
  | 38 => ⟨S96, .i32⟩
  | 39 => ⟨S96, .i32⟩
  | 40 => ⟨S96, .i32⟩
  | 41 => ⟨S96x1, .i32⟩
  | 42 => ⟨S384x8x96, .f32⟩
  | 43 => ⟨S_, .i32⟩
  | 44 => ⟨S_, .f32⟩
  | 45 => ⟨S384x8x128, .f32⟩
  | 46 => ⟨S384x1024, .f32⟩
  | 47 => ⟨S384x1024, .bf16⟩
  | 48 => ⟨S256x8x128, .f32⟩
  | 49 => ⟨S256x8x64, .f32⟩
  | 50 => ⟨S_, .i32⟩
  | 51 => ⟨S_, .f32⟩
  | 52 => ⟨S256x8x128, .f32⟩
  | 53 => ⟨S256x1024, .f32⟩
  | 54 => ⟨S256x1024, .bf16⟩
  | 55 => ⟨S256x8x64, .f32⟩
  | 56 => ⟨S256x512, .f32⟩
  | 57 => ⟨S512x256, .f32⟩
  | 58 => ⟨S512x256, .bf16⟩
  | 59 => ⟨S128x4, .f32⟩
  | 60 => ⟨S128x4x64, .f32⟩
  | 61 => ⟨S128x256, .f32⟩
  | 62 => ⟨S96, .f32⟩
  | 63 => ⟨S_, .f32⟩
  | 64 => ⟨S_, .f32⟩
  | 65 => ⟨S_, .f32⟩
  | 66 => ⟨S_, .f32⟩
  | 67 => ⟨S96, .f32⟩
  | 68 => ⟨S_, .f32⟩
  | 69 => ⟨S_, .f32⟩
  | 70 => ⟨S_, .f32⟩
  | 71 => ⟨S128, .i32⟩
  | 72 => ⟨S_, .i32⟩
  | 73 => ⟨S128, .i32⟩
  | 74 => ⟨S128, .i1⟩
  | 75 => ⟨S_, .f32⟩
  | 76 => ⟨S_, .f32⟩
  | 77 => ⟨S_, .f32⟩
  | 78 => ⟨S128, .f32⟩
  | 79 => ⟨S128, .f32⟩
  | 80 => ⟨S128, .f32⟩
  | 81 => ⟨S1x128, .f32⟩
  | 82 => ⟨S_, .f32⟩
  | 83 => ⟨S_, .f32⟩
  | 84 => ⟨S128, .f32⟩
  | 85 => ⟨S128, .f32⟩
  | 86 => ⟨S128, .f32⟩
  | 87 => ⟨S1x128, .f32⟩
  | 88 => ⟨S1x128, .f32⟩
  | 89 => ⟨S1x1024, .f32⟩
  | 90 => ⟨S1x384, .f32⟩
  | 91 => ⟨S_, .i32⟩
  | 92 => ⟨S96, .i32⟩
  | 93 => ⟨S96, .i1⟩
  | 94 => ⟨S_, .i32⟩
  | 95 => ⟨S96, .i32⟩
  | 96 => ⟨S96, .i32⟩
  | 97 => ⟨S96, .i32⟩
  | 98 => ⟨S96x1, .i32⟩
  | 99 => ⟨S96, .f32⟩
  | 100 => ⟨S_, .i32⟩
  | 101 => ⟨S_, .f32⟩
  | 102 => ⟨S128, .f32⟩
  | 103 => ⟨S1x128, .f32⟩
  | 104 => ⟨S1x256, .f32⟩
  | 105 => ⟨S_, .i32⟩
  | 106 => ⟨S96, .i32⟩
  | 107 => ⟨S96, .i1⟩
  | 108 => ⟨S_, .i32⟩
  | 109 => ⟨S96, .i32⟩
  | 110 => ⟨S96, .i32⟩
  | 111 => ⟨S96, .i32⟩
  | 112 => ⟨S96x1, .i32⟩
  | 113 => ⟨S96, .f32⟩
  | 114 => ⟨S_, .i32⟩
  | 115 => ⟨S_, .f32⟩
  | 116 => ⟨S128, .f32⟩
  | 117 => ⟨S1x128, .f32⟩
  | 118 => ⟨S1x256, .f32⟩
  | 119 => ⟨S4x128x128, .bf16⟩
  | 120 => ⟨S32768x1024, .f32⟩
  | 121 => ⟨S2x1x1024, .f32⟩
  | 122 => ⟨S2x1x1024, .f32⟩
  | 123 => ⟨S256, .f32⟩
  | 124 => ⟨S256x64, .f32⟩
  | 125 => ⟨S16384, .f32⟩
  | 126 => ⟨S64, .f32⟩
  | 127 => ⟨S1x64, .f32⟩
  | _ => ⟨S2x16384x1024, .f32⟩

abbrev hbmTy0_1 (i : Nat) : BufTy := match i % 128 with
  | 0 => ⟨S256x64, .f32⟩
  | 1 => ⟨S16384, .f32⟩
  | 2 => ⟨S8, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S16384x1, .f32⟩
  | 11 => ⟨S1x8, .f32⟩
  | 12 => ⟨S16384x8, .f32⟩
  | 13 => ⟨S16384x8, .f32⟩
  | 14 => ⟨S16384x8, .f32⟩
  | 15 => ⟨S16384x1, .f32⟩
  | 16 => ⟨S1x8, .f32⟩
  | 17 => ⟨S16384x8, .f32⟩
  | 18 => ⟨S16384x8, .f32⟩
  | 19 => ⟨S16384x8, .f32⟩
  | 20 => ⟨S16384x16, .f32⟩
  | 21 => ⟨S16384x16, .f32⟩
  | 22 => ⟨S16384x16, .f32⟩
  | 23 => ⟨S_, .f32⟩
  | 24 => ⟨S16384x64, .f32⟩
  | 25 => ⟨S_, .f32⟩
  | 26 => ⟨S16384x32, .f32⟩
  | 27 => ⟨S16384x128, .f32⟩
  | 28 => ⟨S_, .f32⟩
  | 29 => ⟨S16384x64, .f32⟩
  | 30 => ⟨S_, .f32⟩
  | 31 => ⟨S16384x16, .f32⟩
  | 32 => ⟨S_, .f32⟩
  | 33 => ⟨S16384x32, .f32⟩
  | 34 => ⟨S16384x128, .f32⟩
  | 35 => ⟨S_, .f32⟩
  | 36 => ⟨S16384x64, .f32⟩
  | 37 => ⟨S16384x16, .f32⟩
  | 38 => ⟨S_, .f32⟩
  | 39 => ⟨S16384x16, .f32⟩
  | 40 => ⟨S_, .f32⟩
  | 41 => ⟨S16384x32, .f32⟩
  | 42 => ⟨S16384x128, .f32⟩
  | 43 => ⟨S64x1024x512, .bf16⟩
  | 44 => ⟨S32768x1024, .bf16⟩
  | 45 => ⟨S2x8x640x2048, .bf16⟩
  | 46 => ⟨S32768x256, .bf16⟩
  | 47 => ⟨S32768x768, .bf16⟩
  | 48 => ⟨S32768x3072, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5120, .bf16⟩
  | .local _ .vmem, ⟨8, _⟩ => ⟨S1x384, .f32⟩
  | .local _ .vmem, ⟨9, _⟩ => ⟨S384x1024, .bf16⟩
  | .local _ .vmem, ⟨10, _⟩ => ⟨S1x128, .f32⟩
  | .local _ .vmem, ⟨11, _⟩ => ⟨S1x256, .f32⟩
  | .local _ .vmem, ⟨12, _⟩ => ⟨S256x1024, .bf16⟩
  | .local _ .vmem, ⟨13, _⟩ => ⟨S512x256, .bf16⟩
  | .local _ .vmem, ⟨14, _⟩ => ⟨S1x128, .f32⟩
  | .local _ .vmem, ⟨15, _⟩ => ⟨S1x256, .f32⟩
  | .local _ .vmem, ⟨16, _⟩ => ⟨S4x128x128, .bf16⟩
  | .local _ .vmem, ⟨17, _⟩ => ⟨S128x256, .f32⟩
  | .local _ .vmem, ⟨18, _⟩ => ⟨S1x128, .f32⟩
  | .local _ .vmem, ⟨19, _⟩ => ⟨S1x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S1x1024x512, .bf16⟩
  | .local _ .vmem, ⟨27, _⟩ => ⟨S1x1024x512, .bf16⟩
  | .local _ .vmem, ⟨28, _⟩ => ⟨S512x1024, .bf16⟩
  | .local _ .vmem, ⟨29, _⟩ => ⟨S512x1024, .bf16⟩
  | .local _ .vmem, ⟨30, _⟩ => ⟨S1x1x640x512, .bf16⟩
  | .local _ .vmem, ⟨31, _⟩ => ⟨S1x1x640x512, .bf16⟩
  | .local _ .vmem, ⟨32, _⟩ => ⟨S512x256, .bf16⟩
  | .local _ .vmem, ⟨33, _⟩ => ⟨S512x256, .bf16⟩
  | .local _ .vmem, ⟨34, _⟩ => ⟨S512x768, .bf16⟩
  | .local _ .vmem, ⟨35, _⟩ => ⟨S512x768, .bf16⟩
  | .local _ .vmem, ⟨36, _⟩ => ⟨S512x3072, .bf16⟩
  | .local _ .vmem, ⟨37, _⟩ => ⟨S512x3072, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_c_1 : Ref sig .tc := ⟨.hbm, 18, rfl⟩
abbrev main_v2 : Ref sig .tc := ⟨.hbm, 19, rfl⟩
abbrev main_v3 : Ref sig .tc := ⟨.hbm, 20, rfl⟩
abbrev main_c_2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_call0_v0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_c_4 : Ref sig .tc := ⟨.hbm, 34, rfl⟩
abbrev main_v14 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_call1_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v46 : Ref sig .tc := ⟨.hbm, 80, rfl⟩
abbrev main_v47 : Ref sig .tc := ⟨.hbm, 81, rfl⟩
abbrev main_cst_12 : Ref sig .tc := ⟨.hbm, 82, rfl⟩
abbrev main_cst_13 : Ref sig .tc := ⟨.hbm, 83, rfl⟩
abbrev main_call4_v0 : Ref sig .tc := ⟨.hbm, 84, rfl⟩
abbrev main_call4_v1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_14 : Ref sig .tc := ⟨.hbm, 91, rfl⟩
abbrev main_v53 : Ref sig .tc := ⟨.hbm, 92, rfl⟩
abbrev main_v54 : Ref sig .tc := ⟨.hbm, 93, rfl⟩
abbrev main_c_15 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_16 : Ref sig .tc := ⟨.hbm, 100, rfl⟩
abbrev main_call5_v0 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_17 : Ref sig .tc := ⟨.hbm, 105, rfl⟩
abbrev main_v63 : Ref sig .tc := ⟨.hbm, 106, rfl⟩
abbrev main_v64 : Ref sig .tc := ⟨.hbm, 107, rfl⟩
abbrev main_c_18 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_19 : Ref sig .tc := ⟨.hbm, 114, rfl⟩
abbrev main_call6_v0 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_20 : Ref sig .tc := ⟨.hbm, 132, rfl⟩
abbrev main_v86 : Ref sig .tc := ⟨.hbm, 133, rfl⟩
abbrev main_v87 : Ref sig .tc := ⟨.hbm, 134, rfl⟩
abbrev main_cst_21 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_22 : Ref sig .tc := ⟨.hbm, 151, rfl⟩
abbrev main_v103 : Ref sig .tc := ⟨.hbm, 152, rfl⟩
abbrev main_cst_23 : Ref sig .tc := ⟨.hbm, 153, rfl⟩
abbrev main_v104 : Ref sig .tc := ⟨.hbm, 154, rfl⟩
abbrev main_v105 : Ref sig .tc := ⟨.hbm, 155, rfl⟩
abbrev main_cst_24 : Ref sig .tc := ⟨.hbm, 156, rfl⟩
abbrev main_v106 : Ref sig .tc := ⟨.hbm, 157, rfl⟩
abbrev main_cst_25 : Ref sig .tc := ⟨.hbm, 158, rfl⟩
abbrev main_v107 : Ref sig .tc := ⟨.hbm, 159, rfl⟩
abbrev main_cst_26 : Ref sig .tc := ⟨.hbm, 160, rfl⟩
abbrev main_v108 : Ref sig .tc := ⟨.hbm, 161, rfl⟩
abbrev main_v109 : Ref sig .tc := ⟨.hbm, 162, rfl⟩
abbrev main_cst_27 : Ref sig .tc := ⟨.hbm, 163, rfl⟩
abbrev main_v110 : Ref sig .tc := ⟨.hbm, 164, rfl⟩
abbrev main_v111 : Ref sig .tc := ⟨.hbm, 165, rfl⟩
abbrev main_cst_28 : Ref sig .tc := ⟨.hbm, 166, rfl⟩
abbrev main_v112 : Ref sig .tc := ⟨.hbm, 167, rfl⟩
abbrev main_cst_29 : Ref sig .tc := ⟨.hbm, 168, rfl⟩
abbrev main_v113 : Ref sig .tc := ⟨.hbm, 169, rfl⟩
abbrev main_v114 : Ref sig .tc := ⟨.hbm, 170, rfl⟩
abbrev main_v115_0 : Ref sig .tc := ⟨.hbm, 171, rfl⟩
abbrev main_v115_1 : Ref sig .tc := ⟨.hbm, 172, rfl⟩
abbrev main_v115_2 : Ref sig .tc := ⟨.hbm, 173, rfl⟩
abbrev main_v115_3 : Ref sig .tc := ⟨.hbm, 174, rfl⟩
abbrev main_v115_4 : Ref sig .tc := ⟨.hbm, 175, rfl⟩
abbrev main_v115_5 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_stg25_0 : Ref sig .tc := ⟨.vmem, 36, rfl⟩
abbrev cc0_stg25_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35
abbrev cc0_sem25_0 : DmaSem sig := 36
abbrev cc0_sem25_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_18 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_19 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c32_i32_16 : BitVec 32 := 32#32
  let c0_i32_17 : BitVec 32 := 0#32
  let v44 : BitVec 1 := Scalar.cmpi .eq c32_i32_16 c0_i32_17
  let c1_i32_18 : BitVec 32 := 1#32
  let v45 : BitVec 32 := Scalar.select v44 c1_i32_18 c32_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c4_i32_22 : BitVec 32 := 4#32
  let c0_i32_23 : BitVec 32 := 0#32
  let v54 : BitVec 1 := Scalar.cmpi .eq c4_i32_22 c0_i32_23
  let c1_i32_24 : BitVec 32 := 1#32
  let v55 : BitVec 32 := Scalar.select v54 c1_i32_24 c4_i32_22
  let v56 : BitVec 32 := Scalar.remsi v53 v55
  let c0_i32_25 : BitVec 32 := 0#32
  let v57 : BitVec 1 := Scalar.cmpi .ne v56 c0_i32_25
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let v61 : BitVec 1 := Scalar.andi v60 v57
  let v62 : BitVec 32 := Scalar.addi v56 v55
  let v63 : BitVec 32 := Scalar.select v61 v62 v56
  let c0_i32_28 : BitVec 32 := 0#32
  let c0_i32_29 : BitVec 32 := 0#32
  ![v16.toNat, v43.toNat, c0_i32_28.toNat, v63.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x640x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S512x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S512x768 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S512x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]
-- ==== Reference5Ideal.lean ====
abbrev S2x16384x1024 : Shape := ⟨3, ![2, 16384, 1024]⟩
abbrev S2x1024 : Shape := ⟨2, ![2, 1024]⟩
abbrev S1024 : Shape := ⟨1, ![1024]⟩
abbrev S1024x5024 : Shape := ⟨2, ![1024, 5024]⟩
abbrev S256 : Shape := ⟨1, ![256]⟩
abbrev S4x128x128 : Shape := ⟨3, ![4, 128, 128]⟩
abbrev S4x128 : Shape := ⟨2, ![4, 128]⟩
abbrev S384 : Shape := ⟨1, ![384]⟩
abbrev S384x768 : Shape := ⟨2, ![384, 768]⟩
abbrev S256x1024 : Shape := ⟨2, ![256, 1024]⟩
abbrev S96 : Shape := ⟨1, ![96]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x1x1024 : Shape := ⟨3, ![2, 1, 1024]⟩
abbrev S2x16384x5024 : Shape := ⟨3, ![2, 16384, 5024]⟩
abbrev S2x16384x768 : Shape := ⟨3, ![2, 16384, 768]⟩
abbrev S2x16384x3072 : Shape := ⟨3, ![2, 16384, 3072]⟩
abbrev S32768x768 : Shape := ⟨2, ![32768, 768]⟩
abbrev S32768x3072 : Shape := ⟨2, ![32768, 3072]⟩

abbrev nBuf : Space → Nat
  | .hbm => 54
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x5024, .f32⟩
  | .hbm, ⟨5, _⟩ => ⟨S256, .f32⟩
  | .hbm, ⟨6, _⟩ => ⟨S4x128x128, .f32⟩
  | .hbm, ⟨7, _⟩ => ⟨S4x128, .f32⟩
  | .hbm, ⟨8, _⟩ => ⟨S384, .f32⟩
  | .hbm, ⟨9, _⟩ => ⟨S384x768, .f32⟩
  | .hbm, ⟨10, _⟩ => ⟨S256, .f32⟩
  | .hbm, ⟨11, _⟩ => ⟨S256x1024, .f32⟩
  | .hbm, ⟨12, _⟩ => ⟨S96, .f32⟩
  | .hbm, ⟨13, _⟩ => ⟨S96, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x1x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x16384x1024, .f32⟩
  | .hbm, ⟨35, _⟩ => ⟨S2x16384x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S2x16384x5024, .f32⟩
  | .hbm, ⟨40, _⟩ => ⟨S2x16384x768, .f32⟩
  | .hbm, ⟨41, _⟩ => ⟨S2x16384x3072, .f32⟩
  | .hbm, ⟨42, _⟩ => ⟨S32768x768, .f32⟩
  | .hbm, ⟨43, _⟩ => ⟨S32768x768, .bf16⟩
  | .hbm, ⟨44, _⟩ => ⟨S2x16384x3072, .f32⟩
  | .hbm, ⟨45, _⟩ => ⟨S2x16384x3072, .f32⟩
  | .hbm, ⟨46, _⟩ => ⟨S_, .f32⟩
  | .hbm, ⟨47, _⟩ => ⟨S2x16384x3072, .f32⟩
  | .hbm, ⟨48, _⟩ => ⟨S2x16384x3072, .f32⟩
  | .hbm, ⟨49, _⟩ => ⟨S_, .f32⟩
  | .hbm, ⟨50, _⟩ => ⟨S2x16384x3072, .f32⟩
  | .hbm, ⟨51, _⟩ => ⟨S2x16384x3072, .f32⟩
  | .hbm, ⟨52, _⟩ => ⟨S32768x3072, .f32⟩
  | .hbm, ⟨53, _⟩ => ⟨S32768x3072, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Proof.Softmax.lean ====
/- The mathematics of one attention row: a weighted mean of values with the weights exp, computed with any positive
   common factor on the weights, is the softmax mean. Nothing here depends on a program. -/
module

public import Idealize.ShloMosaic.PureOps.Ideal.Laws
public import Idealize.ShloMosaic.Lib.ValueIdxCore
public import Mathlib.Analysis.SpecialFunctions.Pow.Real

@[expose] public section

noncomputable section

namespace Cert.Attn

open Idealize.ShloMosaic
open scoped BigOperators

/-- A sum of extended reals times a real that is not negative is the sum of the products. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's quotient of two sums over the keys — values by weights over the weights — is the reference's sum of
    values by normalised weights, when the weights on the two sides differ by one positive factor. -/
theorem ratio_eq {ι : Type} [Fintype ι] [Nonempty ι] (v : ι → EReal) (e : ι → ℝ) (he : ∀ i, 0 < e i) {C : ℝ} (hC : 0 < C) :
    Ideal.div (∑ i, v i * ((C * e i : ℝ) : EReal)) (∑ i, 1 * ((C * e i : ℝ) : EReal))
      = ∑ i, v i * Ideal.div (e i : EReal) (∑ j, (e j : EReal)) := by
  have hpos : 0 < ∑ j, e j := Finset.sum_pos (fun i _ => he i) Finset.univ_nonempty
  have hs : (∑ i, 1 * ((C * e i : ℝ) : EReal)) = ((C * ∑ j, e j : ℝ) : EReal) := by
    rw [Finset.mul_sum, coe_sum]; simp only [one_mul]
  rw [hs, Ideal.div_coe (mul_pos hC hpos).ne', sum_mul_coe _ _ (by positivity), ← coe_sum]
  refine Finset.sum_congr rfl fun i _ => ?_
  rw [Ideal.div_coe hpos.ne', mul_assoc, ← EReal.coe_mul, ← EReal.coe_mul]
  congr 2
  field_simp

/-- Base-two weights of scaled and shifted scores are a positive multiple of the softmax's weights. -/
theorem exp2_weight (t b M : ℝ) :
    Real.rpow 2 (t / Real.log 2 - b) = Real.exp (M - b * Real.log 2) * Real.exp (t - M) := by
  show (2 : ℝ) ^ (t / Real.log 2 - b) = _
  have hl : Real.log 2 ≠ 0 := (Real.log_pos (by norm_num)).ne'
  rw [Real.rpow_def_of_pos (by norm_num : (0 : ℝ) < 2), ← Real.exp_add]
  congr 1
  field_simp
  ring

/-- **One attention row**: base-two weights at any shift `b`, against the softmax at any real reference point `M`. -/
theorem row_eq {ι : Type} [Fintype ι] [Nonempty ι] (v : ι → EReal) (t : ι → ℝ) (b M : ℝ) :
    Ideal.div (∑ i, v i * ((Real.rpow 2 (t i / Real.log 2 - b) : ℝ) : EReal))
        (∑ i, 1 * ((Real.rpow 2 (t i / Real.log 2 - b) : ℝ) : EReal))
      = ∑ i, v i * Ideal.div ((Real.exp (t i - M) : ℝ) : EReal) (∑ j, ((Real.exp (t j - M) : ℝ) : EReal)) := by
  simp only [exp2_weight _ b M]
  exact ratio_eq v (fun i => Real.exp (t i - M)) (fun i => Real.exp_pos _) (Real.exp_pos _)

/-- A sum over `n = a + b` indices is the sum over the first `a` and the sum over the last `b`. -/
theorem sum_split {M : Type} [AddCommMonoid M] {n a b : ℕ} (h : n = a + b) (g : Fin n → M) :
    ∑ k, g k = (∑ i : Fin a, g ⟨i.val, by omega⟩) + ∑ j : Fin b, g ⟨a + j.val, by omega⟩ := by
  subst h
  exact Fin.sum_univ_add g

/-- A sum over `n = a * b` indices is the sum over `a` chunks of `b`. -/
theorem sum_chunks {M : Type} [AddCommMonoid M] {n a b : ℕ} (h : n = a * b) (hb : ∀ (c : Fin a) (t : Fin b), c.val * b + t.val < n)
    (g : Fin n → M) : ∑ k, g k = ∑ c : Fin a, ∑ t : Fin b, g ⟨c.val * b + t.val, hb c t⟩ := by
  subst h
  rw [← Fintype.sum_prod_type' (f := fun (c : Fin a) (t : Fin b) => g ⟨c.val * b + t.val, hb c t⟩)]
  refine (Fintype.sum_equiv (finProdFinEquiv (m := a) (n := b)) _ _ fun p => ?_).symm
  congr 1
  apply Fin.ext
  show p.1.val * b + p.2.val = p.2.val + b * p.1.val
  rw [Nat.mul_comm, Nat.add_comm]

/-! ## The padded layouts -/

/-- A head's 128 lanes: 96 entries, one extra entry, zeros. -/
def lane (x : Fin 96 → EReal) (y : EReal) (l : Fin 128) : EReal :=
  if h : l.val < 96 then x ⟨l.val, h⟩ else if l.val = 96 then y else 0

/-- A head's 80 value rows: 64 entries, a row of ones, zeros. -/
def vrow (x : Fin 64 → EReal) (d : Fin 80) : EReal :=
  if h : d.val < 64 then x ⟨d.val, h⟩ else if d.val = 64 then 1 else 0

/-- The product of two padded rows over the lanes is the product over the 96 entries and the extra lane's. -/
theorem sum_lane (x x' : Fin 96 → EReal) (y y' : EReal) :
    ∑ l : Fin 128, lane x y l * lane x' y' l = (∑ l : Fin 96, x l * x' l) + y * y' := by
  rw [sum_split (M := EReal) (n := 128) (a := 96) (b := 32) rfl]
  refine congrArg₂ (fun a b : EReal => a + b) ?_ ?_
  · refine Finset.sum_congr rfl fun l _ => ?_
    unfold lane
    simp only [l.isLt, dif_pos]
  · rw [Finset.sum_eq_single (0 : Fin 32)]
    · unfold lane
      rw [dif_neg (by decide), dif_neg (by decide)]
      simp
    · intro l _ hl
      have h0 : l.val ≠ 0 := fun h => hl (Fin.ext h)
      unfold lane
      rw [dif_neg (by simp only []; omega), dif_neg (by simp only []; omega), if_neg (by simp only []; omega), if_neg (by simp only []; omega), zero_mul]
    · intro h; exact absurd (Finset.mem_univ _) h

/-- A sum over all keys is the sum over the eight chunks of 2048 self keys and the 256 context keys. -/
theorem sum_keys {M : Type} [AddCommMonoid M] (g : Fin 16640 → M) :
    ∑ k, g k = (∑ c : Fin 8, ∑ t : Fin 2048, g ⟨c.val * 2048 + t.val, by omega⟩) + ∑ u : Fin 256, g ⟨16384 + u.val, by omega⟩ := by
  rw [sum_split (n := 16640) (a := 16384) (b := 256) rfl, sum_chunks (n := 16384) (a := 8) (b := 2048) rfl (fun c t => by omega)]

end Cert.Attn

end
-- ==== Proof.Tiles.lean ====
/- One chunk of keys against one tile of queries, on blocks of any extents: scores, base-two weights, weighted values;
   the running sum over chunks and the closing division read at an entry. -/
module

public import Idealize.ShloMosaic.Lib.Pipeline.Value
public import Idealize.ShloMosaic.Lib.ValueIdx
public import Idealize.ShloMosaic.Lib.MatmulPlain
public import Idealize.ShloMosaic.Lib.ValueLayout
public import Idealize.ShloMosaic.Lib.IdealHost

@[expose] public section

set_option maxRecDepth 16384

noncomputable section

namespace Cert.Attn

open Idealize.ShloMosaic Idealize.ShloMosaic.ValueIdx
open scoped BigOperators

/-- Scores of `T` keys (128 lanes each) against 512 queries. -/
def scores {T : ℕ} (k : FVec Ideal ⟨2, ![T, 128]⟩ .bf16) (q : FVec Ideal ⟨2, ![128, 512]⟩ .bf16) : FVec Ideal ⟨2, ![T, 512]⟩ .f32 :=
  matmul (DotDims.plain T 128 512) none k q (constant _ .f32 0x00000000#32)

/-- Weighted values of `T` keys: 80 value rows times the weights. -/
def weighted {T : ℕ} (v : FVec Ideal ⟨2, ![80, T]⟩ .bf16) (p : FVec Ideal ⟨2, ![T, 512]⟩ .bf16) : FVec Ideal ⟨2, ![80, 512]⟩ .f32 :=
  matmul (DotDims.plain 80 T 512) none v p (constant _ .f32 0x00000000#32)

/-- One chunk added to the running sum, the weights taken from the scores with no shift. -/
def step {T : ℕ} (acc : FVec Ideal ⟨2, ![80, 512]⟩ .f32) (k : FVec Ideal ⟨2, ![T, 128]⟩ .bf16) (v : FVec Ideal ⟨2, ![80, T]⟩ .bf16)
    (q : FVec Ideal ⟨2, ![128, 512]⟩ .bf16) : FVec Ideal ⟨2, ![80, 512]⟩ .f32 :=
  addf acc (weighted v (truncf .bf16 (exp2 (scores k q)) (by decide)))

/-- The literal zero is the number zero. -/
theorem constant_zero (s : Shape) (i : s.Idx) : constant (F := Ideal) s .f32 0x00000000#32 i = (0 : EReal) := by
  show Ideal.ofBits .f32 0x00000000#32 = 0
  simp [Ideal.ofBits, Ideal.ieee]

/-- The literal one is the number one. -/
theorem constant_one (s : Shape) (i : s.Idx) : constant (F := Ideal) s .f32 0x3F800000#32 i = (1 : EReal) := Ideal.ofBits_one_f32

/-- A score is the sum over the 128 lanes. -/
theorem scores_apply {T : ℕ} (k : FVec Ideal ⟨2, ![T, 128]⟩ .bf16) (q : FVec Ideal ⟨2, ![128, 512]⟩ .bf16) (t : Fin T) (r : Fin 512) :
    scores k q (ix2 t r) = ∑ l : Fin 128, k (ix2 t l) * q (ix2 l r) := by
  unfold scores
  refine (Ideal.matmul_plain_apply none k q _ t r).trans ?_
  rw [constant_zero, zero_add]

/-- A weighted value is the sum over the keys. -/
theorem weighted_apply {T : ℕ} (v : FVec Ideal ⟨2, ![80, T]⟩ .bf16) (p : FVec Ideal ⟨2, ![T, 512]⟩ .bf16) (d : Fin 80) (r : Fin 512) :
    weighted v p (ix2 d r) = ∑ t : Fin T, v (ix2 d t) * p (ix2 t r) := by
  unfold weighted
  refine (Ideal.matmul_plain_apply none v p _ d r).trans ?_
  rw [constant_zero, zero_add]

/-- One chunk's contribution to an entry of the running sum. -/
theorem step_apply {T : ℕ} (acc : FVec Ideal ⟨2, ![80, 512]⟩ .f32) (k : FVec Ideal ⟨2, ![T, 128]⟩ .bf16)
    (v : FVec Ideal ⟨2, ![80, T]⟩ .bf16) (q : FVec Ideal ⟨2, ![128, 512]⟩ .bf16) (d : Fin 80) (r : Fin 512) :
    step acc k v q (ix2 d r)
      = acc (ix2 d r) + ∑ t : Fin T, v (ix2 d t) * Ideal.exp2 (∑ l : Fin 128, k (ix2 t l) * q (ix2 l r)) := by
  unfold step
  show acc (ix2 d r) + weighted v _ (ix2 d r) = _
  rw [weighted_apply]
  refine congrArg (acc (ix2 d r) + ·) (Finset.sum_congr rfl fun t _ => ?_)
  show v (ix2 d t) * Ideal.exp2 (scores k q (ix2 t r)) = _
  rw [scores_apply]

/-- The running sum's first 64 rows divided by its row 64. -/
def quot (a : FVec Ideal ⟨2, ![80, 512]⟩ .f32) (h0 : (⟨2, ![80, 512]⟩ : Shape).Slices ![0, 0] ⟨2, ![64, 512]⟩)
    (h1 : (⟨2, ![80, 512]⟩ : Shape).Slices ![64, 0] ⟨2, ![1, 512]⟩) (hb : (⟨2, ![1, 512]⟩ : Shape).Broadcasts ⟨2, ![64, 512]⟩) :
    FVec Ideal ⟨2, ![64, 512]⟩ .f32 :=
  divf (extractStridedSlice ⟨2, ![64, 512]⟩ ![0, 0] a h0)
    (broadcastTo ⟨2, ![64, 512]⟩ (extractStridedSlice ⟨2, ![1, 512]⟩ ![64, 0] a h1) hb)

/-- An entry of the quotient. -/
theorem quot_apply (a : FVec Ideal ⟨2, ![80, 512]⟩ .f32) (h0 h1 hb) (d : Fin 64) (r : Fin 512) :
    quot a h0 h1 hb (ix2 d r) = Ideal.div (a (ix2 ⟨d.val, by omega⟩ r)) (a (ix2 ⟨64, by omega⟩ r)) := by
  unfold quot
  show Ideal.div _ _ = _
  rw [slice2_axis0_apply 0 a h0 d r ⟨d.val, by omega⟩ (by simp), broadcastTo_1b_ab_apply,
    slice2_axis0_apply 64 a h1 (0 : Fin 1) r ⟨64, by omega⟩ (by simp)]

/-- Two heads' quotients, one above the other, turned to rows of queries. -/
def heads (x y : FVec Ideal ⟨2, ![64, 512]⟩ .f32) (hc : Shape.Concatenates [⟨2, ![64, 512]⟩, ⟨2, ![64, 512]⟩] ⟨2, ![128, 512]⟩ 0)
    (ht : (⟨2, ![128, 512]⟩ : Shape).Transposes [1, 0] ⟨2, ![512, 128]⟩) : FVec Ideal ⟨2, ![512, 128]⟩ .bf16 :=
  truncf .bf16 (transpose ⟨2, ![512, 128]⟩ [1, 0]
    (concatenate ⟨2, ![128, 512]⟩ 0 [⟨⟨2, ![64, 512]⟩, x⟩, ⟨⟨2, ![64, 512]⟩, y⟩] hc) ht) (by decide)

/-- A row of queries holds head 0's 64 entries and then head 1's. -/
theorem heads_apply (x y : FVec Ideal ⟨2, ![64, 512]⟩ .f32) (hc ht) (r : Fin 512) (e : Fin 128) (h : Fin 2) (d : Fin 64)
    (he : e.val = h.val * 64 + d.val) :
    heads x y hc ht (ix2 r e) = (if h = 0 then x else y) (ix2 d r) := by
  unfold heads
  rw [truncf_apply, transpose_ix2_apply]
  have hh : h = 0 ∨ h = 1 := by omega
  rcases hh with rfl | rfl
  · rw [if_pos rfl]
    refine concatenate_pair_apply_left 0 x y hc (ix2 e r) rfl (ix2 d r) fun b => ?_
    match b with
    | ⟨0, _⟩ => show d.val = e.val; simp at he; omega
    | ⟨1, _⟩ => rfl
  · rw [if_neg (by decide)]
    refine concatenate_pair_apply_right 0 x y hc (ix2 e r) rfl rfl (ix2 d r) (fun b hb => ?_) ?_
    · match b with
      | ⟨0, _⟩ => exact absurd rfl hb
      | ⟨1, _⟩ => rfl
    · show d.val + 64 = e.val; simp at he; omega

end Cert.Attn

end
-- ==== Proof.Block.lean ====
/- What one grid point of the bounded attention writes, read at an entry: for a head and a query of the tile, the sum
   over all keys of value times base-two weight, divided by the sum of the weights (the row of ones). -/
module

public import proofs.«01_k».proof.Proof.Softmax
public import proofs.«01_k».proof.Proof.Tiles
public import proofs.«01_k».proof.Proof.Gen.KernelIdeal.Value
public import Idealize.ShloMosaic.Lib.Pipeline.ValueKit.Tiles

@[expose] public section

set_option maxRecDepth 16384

noncomputable section

namespace Cert.KernelIdeal.Blk

open Cert.KernelIdeal Cert.KernelIdeal.Gen Idealize.ShloMosaic Idealize.ShloMosaic.TcCoe Idealize.SL.Sem Idealize.ShloMosaic.ValueIdx
open Cert.Attn
open scoped BigOperators

/-- The zero offset, as a constant function. -/
theorem hz : (![0, 0] : Fin 2 → Nat) = fun _ => 0 := funext fun a => by fin_cases a <;> rfl

/-- Chunk `c` of head `h`'s self keys. -/
def kch (x : Vec Ideal S16384x256 .bf16) (h : Fin 2) (c : Fin 8) : FVec Ideal ⟨2, ![2048, 128]⟩ .bf16 := fun j =>
  x (ix2 ⟨c.val * 2048 + (j 0).val, by have := idx2_lt0 j; omega⟩ ⟨h.val * 128 + (j 1).val, by have := idx2_lt1 j; omega⟩)

/-- Chunk `c` of head `h`'s self value rows. -/
def vch (x : Vec Ideal S1x8x160x2048 .bf16) (h : Fin 2) (c : Fin 8) : FVec Ideal ⟨2, ![80, 2048]⟩ .bf16 := fun j =>
  x (ix4 0 c ⟨h.val * 80 + (j 0).val, by have := idx2_lt0 j; omega⟩ ⟨(j 1).val, idx2_lt1 j⟩)

/-- Head `h`'s queries, one per column. -/
def qh (x : Vec Ideal S1x256x512 .bf16) (h : Fin 2) : FVec Ideal ⟨2, ![128, 512]⟩ .bf16 := fun j =>
  x (ix3 0 ⟨h.val * 128 + (j 0).val, by have := idx2_lt0 j; omega⟩ ⟨(j 1).val, idx2_lt1 j⟩)

/-- Head `h`'s context keys. -/
def kcx (x : Vec Ideal S256x256 .bf16) (h : Fin 2) : FVec Ideal ⟨2, ![256, 128]⟩ .bf16 := fun j =>
  x (ix2 ⟨(j 0).val, idx2_lt0 j⟩ ⟨h.val * 128 + (j 1).val, by have := idx2_lt1 j; omega⟩)

/-- Head `h`'s context value rows. -/
def vcx (x : Vec Ideal S1x1x160x256 .bf16) (h : Fin 2) : FVec Ideal ⟨2, ![80, 256]⟩ .bf16 := fun j =>
  x (ix4 0 0 ⟨h.val * 80 + (j 0).val, by have := idx2_lt0 j; omega⟩ ⟨(j 1).val, idx2_lt1 j⟩)

/-- A load of a chunk of keys. -/
theorem ld_k (x : Vec Ideal S16384x256 .bf16) (o0 o1 : ℕ) (inb) (hs) (h : Fin 2) (c : Fin 8) (e0 : o0 = c.val * 2048) (e1 : o1 = h.val * 128) :
    shapeCast S2048x128 (View.ld x (Rect.unit (s := S16384x256) ![o0, o1] ![2048, 128] inb)) hs = kch x h c := by
  subst e0 e1
  funext j
  obtain ⟨p, q, rfl⟩ : ∃ (p : Fin 2048) (q : Fin 128), j = ix2 p q := ⟨j 0, j 1, eq_ix2 j⟩
  refine (shapeCast_apply _ hs (ix2 p q) (ix2 p q) rfl).trans (View.ld_unit_apply_of _ _ _ _ _ _ ?_)
  intro a
  match a with
  | ⟨0, _⟩ => rfl
  | ⟨1, _⟩ => rfl

/-- A load of a chunk of value rows. -/
theorem ld_v (x : Vec Ideal S1x8x160x2048 .bf16) (o1 o2 : ℕ) (inb) (hs) (h : Fin 2) (c : Fin 8) (e1 : o1 = c.val) (e2 : o2 = h.val * 80) :
    shapeCast S80x2048 (View.ld x (Rect.unit (s := S1x8x160x2048) ![0, o1, o2, 0] ![1, 1, 80, 2048] inb)) hs = vch x h c := by
  subst e1 e2
  funext j
  obtain ⟨p, q, rfl⟩ : ∃ (p : Fin 80) (q : Fin 2048), j = ix2 p q := ⟨j 0, j 1, eq_ix2 j⟩
  refine (shapeCast_apply _ hs (ix2 p q) (ix4 0 0 p q)
    (by rw [Shape.rowMajor_val_four, Shape.rowMajor_val_two]; show ((0 * 1 + 0) * 80 + p.val) * 2048 + q.val = p.val * 2048 + q.val; omega)).trans (View.ld_unit_apply_of _ _ _ _ _ _ ?_)
  intro a
  match a with
  | ⟨0, _⟩ => rfl
  | ⟨1, _⟩ => rfl
  | ⟨2, _⟩ => rfl
  | ⟨3, _⟩ => exact (Nat.zero_add _).symm

/-- A load of a head's queries. -/
theorem ld_q (x : Vec Ideal S1x256x512 .bf16) (o1 : ℕ) (inb) (hs) (h : Fin 2) (e1 : o1 = h.val * 128) :
    shapeCast S128x512 (View.ld x (Rect.unit (s := S1x256x512) ![0, o1, 0] ![1, 128, 512] inb)) hs = qh x h := by
  subst e1
  funext j
  obtain ⟨p, q, rfl⟩ : ∃ (p : Fin 128) (q : Fin 512), j = ix2 p q := ⟨j 0, j 1, eq_ix2 j⟩
  refine (shapeCast_apply _ hs (ix2 p q) (ix3 0 p q)
    (by rw [Shape.rowMajor_val_three, Shape.rowMajor_val_two]; show (0 * 128 + p.val) * 512 + q.val = p.val * 512 + q.val; omega)).trans (View.ld_unit_apply_of _ _ _ _ _ _ ?_)
  intro a
  match a with
  | ⟨0, _⟩ => rfl
  | ⟨1, _⟩ => rfl
  | ⟨2, _⟩ => exact (Nat.zero_add _).symm

/-- A load of a head's context keys. -/
theorem ld_kc (x : Vec Ideal S256x256 .bf16) (o1 : ℕ) (inb) (hs) (h : Fin 2) (e1 : o1 = h.val * 128) :
    shapeCast S256x128 (View.ld x (Rect.unit (s := S256x256) ![0, o1] ![256, 128] inb)) hs = kcx x h := by
  subst e1
  funext j
  obtain ⟨p, q, rfl⟩ : ∃ (p : Fin 256) (q : Fin 128), j = ix2 p q := ⟨j 0, j 1, eq_ix2 j⟩
  refine (shapeCast_apply _ hs (ix2 p q) (ix2 p q) rfl).trans (View.ld_unit_apply_of _ _ _ _ _ _ ?_)
  intro a
  match a with
  | ⟨0, _⟩ => exact (Nat.zero_add _).symm
  | ⟨1, _⟩ => rfl

/-- A load of a head's context value rows. -/
theorem ld_vc (x : Vec Ideal S1x1x160x256 .bf16) (o2 : ℕ) (inb) (hs) (h : Fin 2) (e2 : o2 = h.val * 80) :
    shapeCast S80x256 (View.ld x (Rect.unit (s := S1x1x160x256) ![0, 0, o2, 0] ![1, 1, 80, 256] inb)) hs = vcx x h := by
  subst e2
  funext j
  obtain ⟨p, q, rfl⟩ : ∃ (p : Fin 80) (q : Fin 256), j = ix2 p q := ⟨j 0, j 1, eq_ix2 j⟩
  refine (shapeCast_apply _ hs (ix2 p q) (ix4 0 0 p q)
    (by rw [Shape.rowMajor_val_four, Shape.rowMajor_val_two]; show ((0 * 1 + 0) * 80 + p.val) * 256 + q.val = p.val * 256 + q.val; omega)).trans (View.ld_unit_apply_of _ _ _ _ _ _ ?_)
  intro a
  match a with
  | ⟨0, _⟩ => rfl
  | ⟨1, _⟩ => rfl
  | ⟨2, _⟩ => rfl
  | ⟨3, _⟩ => exact (Nat.zero_add _).symm

/-- The running sum of head `h` after its self keys and its context keys. -/
def acc (x0 : Vec Ideal S1x256x512 .bf16) (x1 : Vec Ideal S16384x256 .bf16) (x2 : Vec Ideal S1x8x160x2048 .bf16)
    (x3 : Vec Ideal S256x256 .bf16) (x4 : Vec Ideal S1x1x160x256 .bf16) (h : Fin 2) : FVec Ideal ⟨2, ![80, 512]⟩ .f32 :=
  step (step (step (step (step (step (step (step (step (constant _ .f32 0x00000000#32)
    (kch x1 h 0) (vch x2 h 0) (qh x0 h)) (kch x1 h 1) (vch x2 h 1) (qh x0 h)) (kch x1 h 2) (vch x2 h 2) (qh x0 h))
    (kch x1 h 3) (vch x2 h 3) (qh x0 h)) (kch x1 h 4) (vch x2 h 4) (qh x0 h)) (kch x1 h 5) (vch x2 h 5) (qh x0 h))
    (kch x1 h 6) (vch x2 h 6) (qh x0 h)) (kch x1 h 7) (vch x2 h 7) (qh x0 h)) (kcx x3 h) (vcx x4 h) (qh x0 h)

/-- An entry of the running sum: the sum over the eight chunks of self keys and the context keys. -/
theorem acc_apply (x0 : Vec Ideal S1x256x512 .bf16) (x1 : Vec Ideal S16384x256 .bf16) (x2 : Vec Ideal S1x8x160x2048 .bf16)
    (x3 : Vec Ideal S256x256 .bf16) (x4 : Vec Ideal S1x1x160x256 .bf16) (h : Fin 2) (d : Fin 80) (r : Fin 512) :
    acc x0 x1 x2 x3 x4 h (ix2 d r)
      = (∑ c : Fin 8, ∑ t : Fin 2048, vch x2 h c (ix2 d t) * Ideal.exp2 (∑ l : Fin 128, kch x1 h c (ix2 t l) * qh x0 h (ix2 l r)))
        + ∑ u : Fin 256, vcx x4 h (ix2 d u) * Ideal.exp2 (∑ l : Fin 128, kcx x3 h (ix2 u l) * qh x0 h (ix2 l r)) := by
  unfold acc
  simp only [step_apply]
  rw [constant_zero, zero_add, Fin.sum_univ_eight]

/-- What a grid point writes: the two heads' quotients. -/
theorem out_eq (c : Dev nD) (i : grid0.Coords) (a3 : Memref sig .tc .vmem S1x256x512 .bf16) (h3 : a3.IsWhole) (a4 : Memref sig .tc .vmem S16384x256 .bf16) (h4 : a4.IsWhole) (a5 : Memref sig .tc .vmem S1x8x160x2048 .bf16) (h5 : a5.IsWhole) (a6 : Memref sig .tc .vmem S256x256 .bf16) (h6 : a6.IsWhole) (a7 : Memref sig .tc .vmem S1x1x160x256 .bf16) (h7 : a7.IsWhole) (a8 : Memref sig .tc .vmem S512x128 .bf16) (h8 : a8.IsWhole)
    (x0 : Vec Ideal S1x256x512 .bf16) (x1 : Vec Ideal S16384x256 .bf16) (x2 : Vec Ideal S1x8x160x2048 .bf16) (x3 : Vec Ideal S256x256 .bf16) (x4 : Vec Ideal S1x1x160x256 .bf16) :
    out0_A_5 (F := Ideal) c i a3 h3 a4 h4 a5 h5 a6 h6 a7 h7 a8 h8 x0 x1 x2 x3 x4
      = heads (quot (acc x0 x1 x2 x3 x4 0) slices_S80x512_o0_0_S64x512 slices_S80x512_o64_0_S1x512 broadcasts_S1x512_S64x512)
          (quot (acc x0 x1 x2 x3 x4 1) slices_S80x512_o0_0_S64x512 slices_S80x512_o64_0_S1x512 broadcasts_S1x512_S64x512)
          concatenates_S64x512_S64x512_S128x512_d0 transposes_S128x512_p1_0_S512x128 := by
  unfold out0_A_5
  rw [View.read_writes_eq_canon _ _ _ (cover0_A_5 c i a3 h3 a4 h4 a5 h5 a6 h6 a7 h7 a8 h8 x0 x1 x2 x3 x4)]
  unfold kernelRun0_A
  dsimp only
  sl_unfold_words
  rw [View.canon_unit_zero hz]
  simp only [View.readAt_eq_ld, h3.read_unread, h4.read_unread, h5.read_unread, h6.read_unread, h7.read_unread]
  unfold acc
  rw [← ld_q x0 0 inb_S1x256x512_S1x128x512_0_0_0 shapeCasts_S1x128x512_S128x512 0 rfl,
    ← ld_q x0 128 inb_S1x256x512_S1x128x512_0_128_0 shapeCasts_S1x128x512_S128x512 1 rfl]
  rw [← ld_k x1 0 0 (by decide) shapeCasts_S2048x128_S2048x128 0 0 rfl rfl,
    ← ld_k x1 2048 0 (by decide) shapeCasts_S2048x128_S2048x128 0 1 rfl rfl,
    ← ld_k x1 4096 0 (by decide) shapeCasts_S2048x128_S2048x128 0 2 rfl rfl,
    ← ld_k x1 6144 0 (by decide) shapeCasts_S2048x128_S2048x128 0 3 rfl rfl,
    ← ld_k x1 8192 0 (by decide) shapeCasts_S2048x128_S2048x128 0 4 rfl rfl,
    ← ld_k x1 10240 0 (by decide) shapeCasts_S2048x128_S2048x128 0 5 rfl rfl,
    ← ld_k x1 12288 0 (by decide) shapeCasts_S2048x128_S2048x128 0 6 rfl rfl,
    ← ld_k x1 14336 0 (by decide) shapeCasts_S2048x128_S2048x128 0 7 rfl rfl,
    ← ld_k x1 0 128 (by decide) shapeCasts_S2048x128_S2048x128 1 0 rfl rfl,
    ← ld_k x1 2048 128 (by decide) shapeCasts_S2048x128_S2048x128 1 1 rfl rfl,
    ← ld_k x1 4096 128 (by decide) shapeCasts_S2048x128_S2048x128 1 2 rfl rfl,
    ← ld_k x1 6144 128 (by decide) shapeCasts_S2048x128_S2048x128 1 3 rfl rfl,
    ← ld_k x1 8192 128 (by decide) shapeCasts_S2048x128_S2048x128 1 4 rfl rfl,
    ← ld_k x1 10240 128 (by decide) shapeCasts_S2048x128_S2048x128 1 5 rfl rfl,
    ← ld_k x1 12288 128 (by decide) shapeCasts_S2048x128_S2048x128 1 6 rfl rfl,
    ← ld_k x1 14336 128 (by decide) shapeCasts_S2048x128_S2048x128 1 7 rfl rfl]
  rw [← ld_v x2 0 0 (by decide) shapeCasts_S1x1x80x2048_S80x2048 0 0 rfl rfl,
    ← ld_v x2 1 0 (by decide) shapeCasts_S1x1x80x2048_S80x2048 0 1 rfl rfl,
    ← ld_v x2 2 0 (by decide) shapeCasts_S1x1x80x2048_S80x2048 0 2 rfl rfl,
    ← ld_v x2 3 0 (by decide) shapeCasts_S1x1x80x2048_S80x2048 0 3 rfl rfl,
    ← ld_v x2 4 0 (by decide) shapeCasts_S1x1x80x2048_S80x2048 0 4 rfl rfl,
    ← ld_v x2 5 0 (by decide) shapeCasts_S1x1x80x2048_S80x2048 0 5 rfl rfl,
    ← ld_v x2 6 0 (by decide) shapeCasts_S1x1x80x2048_S80x2048 0 6 rfl rfl,
    ← ld_v x2 7 0 (by decide) shapeCasts_S1x1x80x2048_S80x2048 0 7 rfl rfl,
    ← ld_v x2 0 80 (by decide) shapeCasts_S1x1x80x2048_S80x2048 1 0 rfl rfl,
    ← ld_v x2 1 80 (by decide) shapeCasts_S1x1x80x2048_S80x2048 1 1 rfl rfl,
    ← ld_v x2 2 80 (by decide) shapeCasts_S1x1x80x2048_S80x2048 1 2 rfl rfl,
    ← ld_v x2 3 80 (by decide) shapeCasts_S1x1x80x2048_S80x2048 1 3 rfl rfl,
    ← ld_v x2 4 80 (by decide) shapeCasts_S1x1x80x2048_S80x2048 1 4 rfl rfl,
    ← ld_v x2 5 80 (by decide) shapeCasts_S1x1x80x2048_S80x2048 1 5 rfl rfl,
    ← ld_v x2 6 80 (by decide) shapeCasts_S1x1x80x2048_S80x2048 1 6 rfl rfl,
    ← ld_v x2 7 80 (by decide) shapeCasts_S1x1x80x2048_S80x2048 1 7 rfl rfl]
  rw [← ld_kc x3 0 inb_S256x256_S256x128_0_0 shapeCasts_S256x128_S256x128 0 rfl,
    ← ld_kc x3 128 inb_S256x256_S256x128_0_128 shapeCasts_S256x128_S256x128 1 rfl,
    ← ld_vc x4 0 inb_S1x1x160x256_S1x1x80x256_0_0_0_0 shapeCasts_S1x1x80x256_S80x256 0 rfl,
    ← ld_vc x4 80 inb_S1x1x160x256_S1x1x80x256_0_0_80_0 shapeCasts_S1x1x80x256_S80x256 1 rfl]
  rfl

end Cert.KernelIdeal.Blk

end
-- ==== Proof.Layout.lean ====
/- The padded layouts the host builds, read at an entry: three pieces side by side along the last axis, then the heads
   laid along one row, then (for queries and values) rows turned to columns. Any extents. -/
module

public import proofs.«01_k».proof.Proof.Softmax
public import Idealize.ShloMosaic.Lib.Pipeline.Value
public import Idealize.ShloMosaic.Lib.ValueIdx
public import Idealize.ShloMosaic.Lib.ValueLayout

@[expose] public section

set_option maxRecDepth 16384

noncomputable section

namespace Cert.Attn

open Idealize.ShloMosaic Idealize.ShloMosaic.ValueIdx

/-- 96 entries, one entry and 31 zeros side by side are a padded row. -/
theorem cat_lane {B S : ℕ} (x : (⟨4, ![B, S, 8, 96]⟩ : Shape).Idx → EReal) (y : (⟨4, ![B, S, 8, 1]⟩ : Shape).Idx → EReal)
    (z : (⟨4, ![B, S, 8, 31]⟩ : Shape).Idx → EReal)
    (hc : Shape.Concatenates [⟨4, ![B, S, 8, 96]⟩, ⟨4, ![B, S, 8, 1]⟩, ⟨4, ![B, S, 8, 31]⟩] ⟨4, ![B, S, 8, 128]⟩ 3)
    (b : Fin B) (s : Fin S) (h : Fin 8) (l : Fin 128) (yv : EReal) (hy : y (ix4 b s h 0) = yv) (hz : ∀ w, z (ix4 b s h w) = 0) :
    concatenate ⟨4, ![B, S, 8, 128]⟩ 3 [⟨⟨4, ![B, S, 8, 96]⟩, x⟩, ⟨⟨4, ![B, S, 8, 1]⟩, y⟩, ⟨⟨4, ![B, S, 8, 31]⟩, z⟩] hc (ix4 b s h l)
      = lane (fun d => x (ix4 b s h d)) yv l := by
  unfold lane
  split
  · next hl =>
    refine concatenate_apply_piece 3 [⟨_, x⟩, ⟨_, y⟩, ⟨_, z⟩] hc (ix4 b s h l) 0 (by simp) _ x rfl rfl 0 rfl (ix4 b s h ⟨l.val, hl⟩) (fun a ha => ?_) ?_
    · match a with
      | ⟨0, _⟩ => rfl
      | ⟨1, _⟩ => rfl
      | ⟨2, _⟩ => rfl
      | ⟨3, _⟩ => exact absurd rfl ha
    · exact Nat.zero_add _
  · next hl =>
    split
    · next h96 =>
      refine (concatenate_apply_piece 3 [⟨_, x⟩, ⟨_, y⟩, ⟨_, z⟩] hc (ix4 b s h l) 1 (by simp) _ y rfl rfl 96 rfl (ix4 b s h 0) (fun a ha => ?_) ?_).trans hy
      · match a with
        | ⟨0, _⟩ => rfl
        | ⟨1, _⟩ => rfl
        | ⟨2, _⟩ => rfl
        | ⟨3, _⟩ => exact absurd rfl ha
      · show 96 + 0 = l.val; omega
    · next h96 =>
      refine (concatenate_apply_piece 3 [⟨_, x⟩, ⟨_, y⟩, ⟨_, z⟩] hc (ix4 b s h l) 2 (by simp) _ z rfl rfl 97 rfl
        (ix4 b s h ⟨l.val - 97, by omega⟩) (fun a ha => ?_) ?_).trans (hz _)
      · match a with
        | ⟨0, _⟩ => rfl
        | ⟨1, _⟩ => rfl
        | ⟨2, _⟩ => rfl
        | ⟨3, _⟩ => exact absurd rfl ha
      · show 97 + (l.val - 97) = l.val; omega

/-- 64 entries, a one and 15 zeros side by side are a padded value row. -/
theorem cat_vrow {B S : ℕ} (x : (⟨4, ![B, S, 8, 64]⟩ : Shape).Idx → EReal) (y : (⟨4, ![B, S, 8, 1]⟩ : Shape).Idx → EReal)
    (z : (⟨4, ![B, S, 8, 15]⟩ : Shape).Idx → EReal)
    (hc : Shape.Concatenates [⟨4, ![B, S, 8, 64]⟩, ⟨4, ![B, S, 8, 1]⟩, ⟨4, ![B, S, 8, 15]⟩] ⟨4, ![B, S, 8, 80]⟩ 3)
    (b : Fin B) (s : Fin S) (h : Fin 8) (l : Fin 80) (hy : y (ix4 b s h 0) = 1) (hz : ∀ w, z (ix4 b s h w) = 0) :
    concatenate ⟨4, ![B, S, 8, 80]⟩ 3 [⟨⟨4, ![B, S, 8, 64]⟩, x⟩, ⟨⟨4, ![B, S, 8, 1]⟩, y⟩, ⟨⟨4, ![B, S, 8, 15]⟩, z⟩] hc (ix4 b s h l)
      = vrow (fun d => x (ix4 b s h d)) l := by
  unfold vrow
  split
  · next hl =>
    refine concatenate_apply_piece 3 [⟨_, x⟩, ⟨_, y⟩, ⟨_, z⟩] hc (ix4 b s h l) 0 (by simp) _ x rfl rfl 0 rfl (ix4 b s h ⟨l.val, hl⟩) (fun a ha => ?_) ?_
    · match a with
      | ⟨0, _⟩ => rfl
      | ⟨1, _⟩ => rfl
      | ⟨2, _⟩ => rfl
      | ⟨3, _⟩ => exact absurd rfl ha
    · exact Nat.zero_add _
  · next hl =>
    split
    · next h64 =>
      refine (concatenate_apply_piece 3 [⟨_, x⟩, ⟨_, y⟩, ⟨_, z⟩] hc (ix4 b s h l) 1 (by simp) _ y rfl rfl 64 rfl (ix4 b s h 0) (fun a ha => ?_) ?_).trans hy
      · match a with
        | ⟨0, _⟩ => rfl
        | ⟨1, _⟩ => rfl
        | ⟨2, _⟩ => rfl
        | ⟨3, _⟩ => exact absurd rfl ha
      · show 64 + 0 = l.val; omega
    · next h64 =>
      refine (concatenate_apply_piece 3 [⟨_, x⟩, ⟨_, y⟩, ⟨_, z⟩] hc (ix4 b s h l) 2 (by simp) _ z rfl rfl 65 rfl
        (ix4 b s h ⟨l.val - 65, by omega⟩) (fun a ha => ?_) ?_).trans (hz _)
      · match a with
        | ⟨0, _⟩ => rfl
        | ⟨1, _⟩ => rfl
        | ⟨2, _⟩ => rfl
        | ⟨3, _⟩ => exact absurd rfl ha
      · show 65 + (l.val - 65) = l.val; omega

/-- Tokens by rows, the heads' lanes along a row. -/
theorem rows_apply {S N : ℕ} (x : (⟨4, ![2, S, 8, 128]⟩ : Shape).Idx → EReal)
    (hs : (⟨4, ![2, S, 8, 128]⟩ : Shape).ShapeCasts ⟨2, ![N, 1024]⟩) (R : Fin N) (E : Fin 1024) (b : Fin 2) (s : Fin S) (h : Fin 8)
    (l : Fin 128) (hR : R.val = b.val * S + s.val) (hE : E.val = h.val * 128 + l.val) :
    shapeCast ⟨2, ![N, 1024]⟩ x hs (ix2 R E) = x (ix4 b s h l) := by
  refine shapeCast_apply _ hs _ _ ?_
  rw [Shape.rowMajor_val_four, Shape.rowMajor_val_two]
  show ((b.val * S + s.val) * 8 + h.val) * 128 + l.val = R.val * 1024 + E.val
  rw [hR, hE]
  omega

/-- Tokens in chunks of `T`, a chunk's value rows by lines and its tokens along a line. -/
theorem cols_apply {S C T : ℕ} (hS : S = C * T) (x : (⟨4, ![2, S, 8, 80]⟩ : Shape).Idx → EReal)
    (hs : (⟨4, ![2, S, 8, 80]⟩ : Shape).ShapeCasts ⟨4, ![2, C, T, 640]⟩)
    (ht : (⟨4, ![2, C, T, 640]⟩ : Shape).Transposes [0, 1, 3, 2] ⟨4, ![2, C, 640, T]⟩) (b : Fin 2) (c : Fin C) (E : Fin 640) (t : Fin T)
    (s : Fin S) (h : Fin 8) (d : Fin 80) (hs' : s.val = c.val * T + t.val) (hE : E.val = h.val * 80 + d.val) :
    transpose ⟨4, ![2, C, 640, T]⟩ [0, 1, 3, 2] (shapeCast ⟨4, ![2, C, T, 640]⟩ x hs) ht (ix4 b c E t) = x (ix4 b s h d) := by
  subst hS
  rw [transpose_apply _ _ ht _ (ix4 b c t E) (fun a => match a with | ⟨0, _⟩ => rfl | ⟨1, _⟩ => rfl | ⟨2, _⟩ => rfl | ⟨3, _⟩ => rfl)]
  refine shapeCast_apply _ hs _ _ ?_
  rw [Shape.rowMajor_val_four, Shape.rowMajor_val_four]
  show ((b.val * (C * T) + s.val) * 8 + h.val) * 80 + d.val = ((b.val * C + c.val) * T + t.val) * 640 + E.val
  rw [hs', hE, show b.val * (C * T) + (c.val * T + t.val) = (b.val * C + c.val) * T + t.val by ring]
  omega

/-- Queries in tiles of 512, the heads' lanes by lines and the tile's queries along a line. -/
theorem tiles_apply (x : (⟨4, ![2, 16384, 8, 128]⟩ : Shape).Idx → EReal)
    (hs : (⟨4, ![2, 16384, 8, 128]⟩ : Shape).ShapeCasts ⟨3, ![64, 512, 1024]⟩)
    (ht : (⟨3, ![64, 512, 1024]⟩ : Shape).Transposes [0, 2, 1] ⟨3, ![64, 1024, 512]⟩) (n : Fin 64) (E : Fin 1024) (r : Fin 512)
    (b : Fin 2) (s : Fin 16384) (h : Fin 8) (l : Fin 128) (hn : n.val * 512 + r.val = b.val * 16384 + s.val) (hE : E.val = h.val * 128 + l.val) :
    transpose ⟨3, ![64, 1024, 512]⟩ [0, 2, 1] (shapeCast ⟨3, ![64, 512, 1024]⟩ x hs) ht (ix3 n E r) = x (ix4 b s h l) := by
  rw [transpose_ix3_021_apply]
  refine shapeCast_apply _ hs _ _ ?_
  rw [Shape.rowMajor_val_four, Shape.rowMajor_val_three]
  show ((b.val * 16384 + s.val) * 8 + h.val) * 128 + l.val = (n.val * 512 + r.val) * 1024 + E.val
  rw [hn, hE]
  omega

end Cert.Attn

end
-- ==== Proof.Host.lean ====
/- What the attention call's windows hold when it starts, read at an entry of the arguments: the padded queries (the
   shift in the extra lane), keys and values. -/
module

public import proofs.«01_k».proof.Proof.Layout
public import proofs.«01_k».proof.Proof.Tiles
public import proofs.«01_k».proof.Proof.Gen.KernelIdeal.Value
public import Idealize.ShloMosaic.Lib.StableHlo.RunRead
public import Idealize.ShloMosaic.Lib.IdealHost

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.ValueIdx
open Cert.Attn

variable (m : (ℓ : Loc nD τ sig) → Buf (Elt Idealize.ShloMosaic.Ideal) ℓ)

/-- The number the queries are divided by. -/
def scale : EReal := mulf (Host.sqrt (constant (F := Ideal) S_ FTy.f32 1119879168#32)) (Host.log (constant (F := Ideal) S_ FTy.f32 1073741824#32)) ix0

/-- The shift the queries carry: a multiple of the largest gain of the queries times the largest gain of the keys. -/
def bound (c : Dev nD) : EReal :=
  mulf (mulf (constant (F := Ideal) S_ FTy.f32 1097248985#32)
      (Host.reduce FloatOps.maximumf (Host.absf (m (c, Proc.tc.devRef main_arg5) : FVec Ideal S96 .f32))
        (constant (F := Ideal) S_ FTy.f32 4286578688#32) reducesTo_S96_S_d0 h_S_))
    (Host.reduce FloatOps.maximumf (Host.absf (m (c, Proc.tc.devRef main_arg6) : FVec Ideal S96 .f32))
      (constant (F := Ideal) S_ FTy.f32 4286578688#32) reducesTo_S96_S_d0 h_S_) ix0

/-- The keys. -/
theorem k_apply (c : Dev nD) (R : Fin 32768) (E : Fin 1024) (b : Fin 2) (s : Fin 16384) (h : Fin 8) (l : Fin 128)
    (hR : R.val = b.val * 16384 + s.val) (hE : E.val = h.val * 128 + l.val) :
    (V m c main_v22 : Vec Ideal S32768x1024 .bf16) (ix2 R E)
      = lane (fun d => (m (c, Proc.tc.devRef main_arg1) : Vec Ideal S2x16384x8x96 .f32) (ix4 b s h d)) 1 l := by
  after_reads_simp
  rw [truncf_apply]
  refine (rows_apply _ _ R E b s h l hR hE).trans ((cat_lane _ _ _ _ b s h l 1 ?_ ?_).trans ?_)
  · show StableHlo.upto hostOps0 _ 28 (Proc.devRef .tc main_v18) (ix4 b s h 0) = _
    after_reads_simp
    rw [broadcastInDim_scalar_apply, constant_one]
  · intro w
    show StableHlo.upto hostOps0 _ 28 (Proc.devRef .tc main_v19) (ix4 b s h w) = _
    after_reads_simp
    rw [broadcastInDim_scalar_apply, constant_zero]
  · rfl

/-- The queries, scaled, with the shift in the extra lane. -/
theorem q_apply (c : Dev nD) (n : Fin 64) (E : Fin 1024) (r : Fin 512) (b : Fin 2) (s : Fin 16384) (h : Fin 8) (l : Fin 128)
    (hn : n.val * 512 + r.val = b.val * 16384 + s.val) (hE : E.val = h.val * 128 + l.val) :
    (V m c main_v17 : Vec Ideal S64x1024x512 .bf16) (ix3 n E r)
      = lane (fun d => Ideal.div ((m (c, Proc.tc.devRef main_arg0) : Vec Ideal S2x16384x8x96 .f32) (ix4 b s h d)) scale) (-bound m c) l := by
  after_reads_simp
  rw [truncf_apply]
  refine (tiles_apply _ _ _ n E r b s h l hn hE).trans ((cat_lane _ _ _ _ b s h l (-bound m c) ?_ ?_).trans ?_)
  · show StableHlo.upto hostOps0 _ 20 (Proc.devRef .tc main_v12) (ix4 b s h 0) = _
    after_reads_simp
    rw [broadcastInDim_scalar_apply]
    rfl
  · intro w
    show StableHlo.upto hostOps0 _ 20 (Proc.devRef .tc main_v13) (ix4 b s h w) = _
    after_reads_simp
    rw [broadcastInDim_scalar_apply, constant_zero]
  · rfl

/-- The values. -/
theorem v_apply (c : Dev nD) (b : Fin 2) (cc : Fin 8) (E : Fin 640) (t : Fin 2048) (s : Fin 16384) (h : Fin 8) (d : Fin 80)
    (hs : s.val = cc.val * 2048 + t.val) (hE : E.val = h.val * 80 + d.val) :
    (V m c main_v28 : Vec Ideal S2x8x640x2048 .bf16) (ix4 b cc E t)
      = vrow (fun d => (m (c, Proc.tc.devRef main_arg2) : Vec Ideal S2x16384x8x64 .f32) (ix4 b s h d)) d := by
  after_reads_simp
  rw [truncf_apply]
  refine (cols_apply rfl _ _ _ b cc E t s h d hs hE).trans ((cat_vrow _ _ _ _ b s h d ?_ ?_).trans ?_)
  · show StableHlo.upto hostOps0 _ 35 (Proc.devRef .tc main_v23) (ix4 b s h 0) = _
    after_reads_simp
    rw [broadcastInDim_scalar_apply, constant_one]
  · intro w
    show StableHlo.upto hostOps0 _ 35 (Proc.devRef .tc main_v24) (ix4 b s h w) = _
    after_reads_simp
    rw [broadcastInDim_scalar_apply, constant_zero]
  · rfl

/-- The context keys. -/
theorem kc_apply (c : Dev nD) (R : Fin 512) (E : Fin 1024) (b : Fin 2) (s : Fin 256) (h : Fin 8) (l : Fin 128)
    (hR : R.val = b.val * 256 + s.val) (hE : E.val = h.val * 128 + l.val) :
    (V m c main_v33 : Vec Ideal S512x1024 .bf16) (ix2 R E)
      = lane (fun d => (m (c, Proc.tc.devRef main_arg3) : Vec Ideal S2x256x8x96 .f32) (ix4 b s h d)) 1 l := by
  after_reads_simp
  rw [truncf_apply]
  refine (rows_apply _ _ R E b s h l hR hE).trans ((cat_lane _ _ _ _ b s h l 1 ?_ ?_).trans ?_)
  · show StableHlo.upto hostOps0 _ 43 (Proc.devRef .tc main_v29) (ix4 b s h 0) = _
    after_reads_simp
    rw [broadcastInDim_scalar_apply, constant_one]
  · intro w
    show StableHlo.upto hostOps0 _ 43 (Proc.devRef .tc main_v30) (ix4 b s h w) = _
    after_reads_simp
    rw [broadcastInDim_scalar_apply, constant_zero]
  · rfl

/-- The context values. -/
theorem vc_apply (c : Dev nD) (b : Fin 2) (E : Fin 640) (t : Fin 256) (h : Fin 8) (d : Fin 80) (hE : E.val = h.val * 80 + d.val) :
    (V m c main_v39 : Vec Ideal S2x1x640x256 .bf16) (ix4 b 0 E t)
      = vrow (fun d => (m (c, Proc.tc.devRef main_arg4) : Vec Ideal S2x256x8x64 .f32) (ix4 b t h d)) d := by
  after_reads_simp
  rw [truncf_apply]
  refine (cols_apply rfl _ _ _ b 0 E t t h d (by simp) hE).trans ((cat_vrow _ _ _ _ b t h d ?_ ?_).trans ?_)
  · show StableHlo.upto hostOps0 _ 50 (Proc.devRef .tc main_v34) (ix4 b t h 0) = _
    after_reads_simp
    rw [broadcastInDim_scalar_apply, constant_one]
  · intro w
    show StableHlo.upto hostOps0 _ 50 (Proc.devRef .tc main_v35) (ix4 b t h w) = _
    after_reads_simp
    rw [broadcastInDim_scalar_apply, constant_zero]
  · rfl

end Cert.KernelIdeal.Host

end
-- ==== Proof.Spec.lean ====
/- The attention as one expression of its arguments, the padded way: for a batch, a query token, a head and a value entry,
   the base-two weighted sum of the value rows over all keys, over the sum of the weights. -/
module

public import proofs.«01_k».proof.Proof.Softmax
public import Idealize.ShloMosaic.Lib.Pipeline.Value
public import Idealize.ShloMosaic.Lib.ValueIdx

@[expose] public section

set_option maxRecDepth 16384

noncomputable section

namespace Cert.Attn

open Idealize.ShloMosaic Idealize.ShloMosaic.ValueIdx
open scoped BigOperators

/-- An entry of key `k`: of the self keys, and after them of the context keys. -/
def keyAll {n : ℕ} (x : (⟨4, ![2, 16384, 8, n]⟩ : Shape).Idx → EReal) (y : (⟨4, ![2, 256, 8, n]⟩ : Shape).Idx → EReal) (b : Fin 2) (h : Fin 8)
    (k : Fin 16640) (d : Fin n) : EReal :=
  if hk : k.val < 16384 then x (ix4 b ⟨k.val, hk⟩ h d) else y (ix4 b ⟨k.val - 16384, by omega⟩ h d)

/-- A self row of the joined rows. -/
theorem keyAll_self {n : ℕ} (x : (⟨4, ![2, 16384, 8, n]⟩ : Shape).Idx → EReal) (y : (⟨4, ![2, 256, 8, n]⟩ : Shape).Idx → EReal) (b : Fin 2)
    (h : Fin 8) (k : ℕ) (hk : k < 16384) : keyAll x y b h ⟨k, by omega⟩ = fun d => x (ix4 b ⟨k, hk⟩ h d) :=
  funext fun _ => dif_pos hk

/-- A context row of the joined rows. -/
theorem keyAll_ctx {n : ℕ} (x : (⟨4, ![2, 16384, 8, n]⟩ : Shape).Idx → EReal) (y : (⟨4, ![2, 256, 8, n]⟩ : Shape).Idx → EReal) (b : Fin 2)
    (h : Fin 8) (u : Fin 256) : keyAll x y b h ⟨16384 + u.val, by omega⟩ = fun d => y (ix4 b u h d) := by
  funext d
  unfold keyAll
  rw [dif_neg (by simp)]
  exact congrArg (fun w => y (ix4 b w h d)) (Fin.ext (Nat.add_sub_cancel_left 16384 u.val))

/-- Keys and context keys joined along the token axis. -/
theorem cat_keys {n : ℕ} (x : (⟨4, ![2, 16384, 8, n]⟩ : Shape).Idx → EReal) (y : (⟨4, ![2, 256, 8, n]⟩ : Shape).Idx → EReal)
    (hc : Shape.Concatenates [⟨4, ![2, 16384, 8, n]⟩, ⟨4, ![2, 256, 8, n]⟩] ⟨4, ![2, 16640, 8, n]⟩ 1) (b : Fin 2) (k : Fin 16640) (h : Fin 8)
    (d : Fin n) :
    concatenate ⟨4, ![2, 16640, 8, n]⟩ 1 [⟨⟨4, ![2, 16384, 8, n]⟩, x⟩, ⟨⟨4, ![2, 256, 8, n]⟩, y⟩] hc (ix4 b k h d) = keyAll x y b h k d := by
  unfold keyAll
  split
  · next hk =>
    refine concatenate_pair_apply_left 1 x y hc (ix4 b k h d) rfl (ix4 b ⟨k.val, hk⟩ h d) fun a => ?_
    match a with
    | ⟨0, _⟩ => rfl
    | ⟨1, _⟩ => rfl
    | ⟨2, _⟩ => rfl
    | ⟨3, _⟩ => rfl
  · next hk =>
    refine concatenate_pair_apply_right 1 x y hc (ix4 b k h d) rfl rfl (ix4 b ⟨k.val - 16384, by omega⟩ h d) (fun a ha => ?_) ?_
    · match a with
      | ⟨0, _⟩ => rfl
      | ⟨1, _⟩ => exact absurd rfl ha
      | ⟨2, _⟩ => rfl
      | ⟨3, _⟩ => rfl
    · show k.val - 16384 + 16384 = k.val; omega

variable (Q K : (⟨4, ![2, 16384, 8, 96]⟩ : Shape).Idx → EReal) (Vv : (⟨4, ![2, 16384, 8, 64]⟩ : Shape).Idx → EReal)
  (KC : (⟨4, ![2, 256, 8, 96]⟩ : Shape).Idx → EReal) (VC : (⟨4, ![2, 256, 8, 64]⟩ : Shape).Idx → EReal) (scale y : EReal)

/-- The padded score of a query and a key. -/
def score (b : Fin 2) (s : Fin 16384) (h : Fin 8) (k : Fin 16640) : EReal :=
  ∑ l : Fin 128, lane (keyAll K KC b h k) 1 l * lane (fun d => Ideal.div (Q (ix4 b s h d)) scale) y l

/-- Row `d` of the weighted values. -/
def num (b : Fin 2) (s : Fin 16384) (h : Fin 8) (d : Fin 80) : EReal :=
  ∑ k : Fin 16640, vrow (keyAll Vv VC b h k) d * Ideal.exp2 (score Q K KC scale y b s h k)

/-- The attention at a batch, a token, a head and a value entry. -/
def attn (b : Fin 2) (s : Fin 16384) (h : Fin 8) (d : Fin 64) : EReal :=
  Ideal.div (num Q K Vv KC VC scale y b s h ⟨d.val, by omega⟩) (num Q K Vv KC VC scale y b s h ⟨64, by omega⟩)

/-- The result array: tokens by rows, heads side by side. -/
def attnOut (i : (⟨2, ![32768, 512]⟩ : Shape).Idx) : EReal :=
  attn Q K Vv KC VC scale y ⟨(i 0).val / 16384, by have := idx2_lt0 i; omega⟩ ⟨(i 0).val % 16384, by omega⟩
    ⟨(i 1).val / 64, by have := idx2_lt1 i; omega⟩ ⟨(i 1).val % 64, by omega⟩

/-- The result array at a row and a column. -/
theorem attnOut_apply (i : (⟨2, ![32768, 512]⟩ : Shape).Idx) (b : Fin 2) (s : Fin 16384) (h : Fin 8) (d : Fin 64)
    (h0 : (i 0).val = b.val * 16384 + s.val) (h1 : (i 1).val = h.val * 64 + d.val) :
    attnOut Q K Vv KC VC scale y i = attn Q K Vv KC VC scale y b s h d := by
  have hb : (⟨(i 0).val / 16384, by have := idx2_lt0 i; omega⟩ : Fin 2) = b := Fin.ext (by show (i 0).val / 16384 = b.val; omega)
  have hs : (⟨(i 0).val % 16384, by omega⟩ : Fin 16384) = s := Fin.ext (by show (i 0).val % 16384 = s.val; omega)
  have hh : (⟨(i 1).val / 64, by have := idx2_lt1 i; omega⟩ : Fin 8) = h := Fin.ext (by show (i 1).val / 64 = h.val; omega)
  have hd : (⟨(i 1).val % 64, by omega⟩ : Fin 64) = d := Fin.ext (by show (i 1).val % 64 = d.val; omega)
  unfold attnOut
  rw [hb, hs, hh, hd]

/-- The weighted values chunk by chunk. -/
theorem num_chunks (b : Fin 2) (s : Fin 16384) (h : Fin 8) (d : Fin 80) :
    num Q K Vv KC VC scale y b s h d
      = (∑ c : Fin 8, ∑ t : Fin 2048, vrow (fun e => Vv (ix4 b ⟨c.val * 2048 + t.val, by omega⟩ h e)) d
          * Ideal.exp2 (∑ l : Fin 128, lane (fun e => K (ix4 b ⟨c.val * 2048 + t.val, by omega⟩ h e)) 1 l
              * lane (fun e => Ideal.div (Q (ix4 b s h e)) scale) y l))
        + ∑ u : Fin 256, vrow (fun e => VC (ix4 b u h e)) d
          * Ideal.exp2 (∑ l : Fin 128, lane (fun e => KC (ix4 b u h e)) 1 l * lane (fun e => Ideal.div (Q (ix4 b s h e)) scale) y l) := by
  unfold num score
  rw [sum_keys]
  refine congrArg₂ (fun a b : EReal => a + b) ?_ ?_
  · refine Finset.sum_congr rfl fun c _ => Finset.sum_congr rfl fun t _ => ?_
    rw [keyAll_self _ _ _ _ _ (by omega), keyAll_self _ _ _ _ _ (by omega)]
  · refine Finset.sum_congr rfl fun u _ => ?_
    rw [keyAll_ctx, keyAll_ctx]

end Cert.Attn

end
-- ==== Proof.Assemble.lean ====
/- The bounded attention call's result array after the run, as one expression of the arguments: every block is what its
   grid point wrote, and the blocks tile the array. -/
module

public import proofs.«01_k».proof.Proof.Block
public import proofs.«01_k».proof.Proof.Host
public import proofs.«01_k».proof.Proof.Spec

@[expose] public section

set_option maxRecDepth 16384

noncomputable section

namespace Cert.KernelIdeal.RefValue

open Cert.KernelIdeal Cert.KernelIdeal.Gen Idealize.ShloMosaic Idealize.ShloMosaic.TcCoe Idealize.SL.Sem Idealize.ShloMosaic.ValueIdx
open Idealize.ShloMosaic.Pipeline (Dat)
open Cert.Attn

variable (m : (ℓ : Loc nD τ sig) → Buf (Elt Idealize.ShloMosaic.Ideal) ℓ) (ρ : Dev nD → PrngReg)

/-- The attention of device `c`'s arguments. -/
abbrev out (c : Dev nD) : Vec Ideal S32768x512 .bf16 :=
  attnOut (m (c, Proc.tc.devRef main_arg0)) (m (c, Proc.tc.devRef main_arg1)) (m (c, Proc.tc.devRef main_arg2))
    (m (c, Proc.tc.devRef main_arg3)) (m (c, Proc.tc.devRef main_arg4)) Host.scale (-Host.bound m c)

/-- Which block each window is on at a point. -/
theorem index0 : ∀ t : Fin grid0.N, win0_0.index t 0 = t.val / 128 * 32 + t.val % 32 ∧ win0_0.index t 1 = t.val % 128 / 32 ∧ win0_0.index t 2 = 0 := by decide +kernel
/-- Which block window 1 takes at a grid point. -/
theorem index1 : ∀ t : Fin grid0.N, win0_1.index t 0 = t.val / 128 ∧ win0_1.index t 1 = t.val % 128 / 32 := by decide +kernel
/-- Which block window 2 takes at a grid point. -/
theorem index2 : ∀ t : Fin grid0.N, win0_2.index t 0 = t.val / 128 ∧ win0_2.index t 1 = 0 ∧ win0_2.index t 2 = t.val % 128 / 32 ∧ win0_2.index t 3 = 0 := by decide +kernel
/-- Which block window 3 takes at a grid point. -/
theorem index3 : ∀ t : Fin grid0.N, win0_3.index t 0 = t.val / 128 ∧ win0_3.index t 1 = t.val % 128 / 32 := by decide +kernel
/-- Which block window 4 takes at a grid point. -/
theorem index4 : ∀ t : Fin grid0.N, win0_4.index t 0 = t.val / 128 ∧ win0_4.index t 1 = 0 ∧ win0_4.index t 2 = t.val % 128 / 32 ∧ win0_4.index t 3 = 0 := by decide +kernel
/-- Which block window 5 takes at a grid point. -/
theorem index5 : ∀ t : Fin grid0.N, win0_5.index t 0 = t.val / 128 * 32 + t.val % 32 ∧ win0_5.index t 1 = t.val % 128 / 32 := by decide +kernel
/-- The extents of the block window 5 takes at a grid point. -/
theorem xsize5 : ∀ t : Fin grid0.N, win0_5.xsize (grid0.coords t) 0 = 512 ∧ win0_5.xsize (grid0.coords t) 1 = 128 := by decide +kernel

/-- Window 0's block at a point, read off its array. -/
theorem iblk0 (c : Dev nD) (t : Fin cfg0.N) (j : S1x256x512.Idx) :
    (iblk m c 0 t : Vec Ideal S1x256x512 .bf16) j = (V m c main_v17) ((win0_0.blk t).view.emb j) :=
  have key : ∀ f : (b : Ref sig .tc) → Buf (Elt Ideal) ((c : Thread nD τ).loc b),
      (((cfg0.win 0).blk t).view.read (Elt Ideal) (f (Pipeline.arrRef spec0 0)) : Vec Ideal S1x256x512 .bf16) j = f main_v17 ((win0_0.blk t).view.emb j) := fun _ => rfl
  key (V m c)

/-- Window 1's block at a point, read off its array. -/
theorem iblk1 (c : Dev nD) (t : Fin cfg0.N) (j : S16384x256.Idx) :
    (iblk m c 1 t : Vec Ideal S16384x256 .bf16) j = (V m c main_v22) ((win0_1.blk t).view.emb j) :=
  have key : ∀ f : (b : Ref sig .tc) → Buf (Elt Ideal) ((c : Thread nD τ).loc b),
      (((cfg0.win 1).blk t).view.read (Elt Ideal) (f (Pipeline.arrRef spec0 1)) : Vec Ideal S16384x256 .bf16) j = f main_v22 ((win0_1.blk t).view.emb j) := fun _ => rfl
  key (V m c)

/-- Window 2's block at a point, read off its array. -/
theorem iblk2 (c : Dev nD) (t : Fin cfg0.N) (j : S1x8x160x2048.Idx) :
    (iblk m c 2 t : Vec Ideal S1x8x160x2048 .bf16) j = (V m c main_v28) ((win0_2.blk t).view.emb j) :=
  have key : ∀ f : (b : Ref sig .tc) → Buf (Elt Ideal) ((c : Thread nD τ).loc b),
      (((cfg0.win 2).blk t).view.read (Elt Ideal) (f (Pipeline.arrRef spec0 2)) : Vec Ideal S1x8x160x2048 .bf16) j = f main_v28 ((win0_2.blk t).view.emb j) := fun _ => rfl
  key (V m c)

/-- Window 3's block at a point, read off its array. -/
theorem iblk3 (c : Dev nD) (t : Fin cfg0.N) (j : S256x256.Idx) :
    (iblk m c 3 t : Vec Ideal S256x256 .bf16) j = (V m c main_v33) ((win0_3.blk t).view.emb j) :=
  have key : ∀ f : (b : Ref sig .tc) → Buf (Elt Ideal) ((c : Thread nD τ).loc b),
      (((cfg0.win 3).blk t).view.read (Elt Ideal) (f (Pipeline.arrRef spec0 3)) : Vec Ideal S256x256 .bf16) j = f main_v33 ((win0_3.blk t).view.emb j) := fun _ => rfl
  key (V m c)

/-- Window 4's block at a point, read off its array. -/
theorem iblk4 (c : Dev nD) (t : Fin cfg0.N) (j : S1x1x160x256.Idx) :
    (iblk m c 4 t : Vec Ideal S1x1x160x256 .bf16) j = (V m c main_v39) ((win0_4.blk t).view.emb j) :=
  have key : ∀ f : (b : Ref sig .tc) → Buf (Elt Ideal) ((c : Thread nD τ).loc b),
      (((cfg0.win 4).blk t).view.read (Elt Ideal) (f (Pipeline.arrRef spec0 4)) : Vec Ideal S1x1x160x256 .bf16) j = f main_v39 ((win0_4.blk t).view.emb j) := fun _ => rfl
  key (V m c)

/-- A point's keys. -/
theorem blk_k (c : Dev nD) (t : Fin cfg0.N) (hh : Fin 2) (cc : Fin 8) (p : Fin 2048) (l : Fin 128) (b : Fin 2) (h : Fin 8)
    (hb : b.val = t.val / 128) (hj : h.val = t.val % 128 / 32 * 2 + hh.val) :
    Blk.kch (iblk m c 1 t) hh cc (ix2 p l)
      = lane (fun e => (m (c, Proc.tc.devRef main_arg1) : Vec Ideal S2x16384x8x96 .f32) (ix4 b ⟨cc.val * 2048 + p.val, by omega⟩ h e)) 1 l := by
  rw [← Host.k_apply m c ⟨b.val * 16384 + (cc.val * 2048 + p.val), by omega⟩ ⟨h.val * 128 + l.val, by omega⟩ b
    ⟨cc.val * 2048 + p.val, by omega⟩ h l rfl rfl]
  unfold Blk.kch
  refine (iblk1 m c t _).trans (congrArg (V m c main_v22) (funext fun a => Fin.ext ?_))
  match a with
  | ⟨0, _⟩ =>
    show win0_1.index t 0 * 16384 + 1 * (cc.val * 2048 + p.val) = b.val * 16384 + (cc.val * 2048 + p.val)
    rw [(index1 t).1]; omega
  | ⟨1, _⟩ =>
    show win0_1.index t 1 * 256 + 1 * (hh.val * 128 + l.val) = h.val * 128 + l.val
    rw [(index1 t).2]; omega

/-- A point's queries. -/
theorem blk_q (c : Dev nD) (t : Fin cfg0.N) (hh : Fin 2) (l : Fin 128) (r : Fin 512) (b : Fin 2) (s : Fin 16384) (h : Fin 8)
    (hb : b.val = t.val / 128) (hs : s.val = t.val % 32 * 512 + r.val) (hj : h.val = t.val % 128 / 32 * 2 + hh.val) :
    Blk.qh (iblk m c 0 t) hh (ix2 l r)
      = lane (fun e => Ideal.div ((m (c, Proc.tc.devRef main_arg0) : Vec Ideal S2x16384x8x96 .f32) (ix4 b s h e)) Host.scale) (-Host.bound m c) l := by
  have hN : t.val < 256 := lt_of_lt_of_eq t.isLt N_0
  rw [← Host.q_apply m c ⟨t.val / 128 * 32 + t.val % 32, by omega⟩ ⟨h.val * 128 + l.val, by omega⟩ r b s h l
    (by show (t.val / 128 * 32 + t.val % 32) * 512 + r.val = _; omega) rfl]
  unfold Blk.qh
  refine (iblk0 m c t _).trans (congrArg (V m c main_v17) (funext fun a => Fin.ext ?_))
  match a with
  | ⟨0, _⟩ =>
    show win0_0.index t 0 * 1 + 1 * 0 = t.val / 128 * 32 + t.val % 32
    rw [(index0 t).1]; omega
  | ⟨1, _⟩ =>
    show win0_0.index t 1 * 256 + 1 * (hh.val * 128 + l.val) = h.val * 128 + l.val
    rw [(index0 t).2.1]; omega
  | ⟨2, _⟩ =>
    show win0_0.index t 2 * 512 + 1 * r.val = r.val
    rw [(index0 t).2.2]; omega

/-- A point's value rows. -/
theorem blk_v (c : Dev nD) (t : Fin cfg0.N) (hh : Fin 2) (cc : Fin 8) (d : Fin 80) (p : Fin 2048) (b : Fin 2) (h : Fin 8)
    (hb : b.val = t.val / 128) (hj : h.val = t.val % 128 / 32 * 2 + hh.val) :
    Blk.vch (iblk m c 2 t) hh cc (ix2 d p)
      = vrow (fun e => (m (c, Proc.tc.devRef main_arg2) : Vec Ideal S2x16384x8x64 .f32) (ix4 b ⟨cc.val * 2048 + p.val, by omega⟩ h e)) d := by
  rw [← Host.v_apply m c b cc ⟨h.val * 80 + d.val, by omega⟩ p ⟨cc.val * 2048 + p.val, by omega⟩ h d rfl rfl]
  unfold Blk.vch
  refine (iblk2 m c t _).trans (congrArg (V m c main_v28) (funext fun a => Fin.ext ?_))
  match a with
  | ⟨0, _⟩ =>
    show win0_2.index t 0 * 1 + 1 * 0 = b.val
    rw [(index2 t).1]; omega
  | ⟨1, _⟩ =>
    show win0_2.index t 1 * 8 + 1 * cc.val = cc.val
    rw [(index2 t).2.1]; omega
  | ⟨2, _⟩ =>
    show win0_2.index t 2 * 160 + 1 * (hh.val * 80 + d.val) = h.val * 80 + d.val
    rw [(index2 t).2.2.1]; omega
  | ⟨3, _⟩ =>
    show win0_2.index t 3 * 2048 + 1 * p.val = p.val
    rw [(index2 t).2.2.2]; omega

/-- A point's context keys. -/
theorem blk_kc (c : Dev nD) (t : Fin cfg0.N) (hh : Fin 2) (u : Fin 256) (l : Fin 128) (b : Fin 2) (h : Fin 8)
    (hb : b.val = t.val / 128) (hj : h.val = t.val % 128 / 32 * 2 + hh.val) :
    Blk.kcx (iblk m c 3 t) hh (ix2 u l)
      = lane (fun e => (m (c, Proc.tc.devRef main_arg3) : Vec Ideal S2x256x8x96 .f32) (ix4 b u h e)) 1 l := by
  rw [← Host.kc_apply m c ⟨b.val * 256 + u.val, by omega⟩ ⟨h.val * 128 + l.val, by omega⟩ b u h l rfl rfl]
  unfold Blk.kcx
  refine (iblk3 m c t _).trans (congrArg (V m c main_v33) (funext fun a => Fin.ext ?_))
  match a with
  | ⟨0, _⟩ =>
    show win0_3.index t 0 * 256 + 1 * u.val = b.val * 256 + u.val
    rw [(index3 t).1]; omega
  | ⟨1, _⟩ =>
    show win0_3.index t 1 * 256 + 1 * (hh.val * 128 + l.val) = h.val * 128 + l.val
    rw [(index3 t).2]; omega

/-- A point's context value rows. -/
theorem blk_vc (c : Dev nD) (t : Fin cfg0.N) (hh : Fin 2) (d : Fin 80) (u : Fin 256) (b : Fin 2) (h : Fin 8)
    (hb : b.val = t.val / 128) (hj : h.val = t.val % 128 / 32 * 2 + hh.val) :
    Blk.vcx (iblk m c 4 t) hh (ix2 d u)
      = vrow (fun e => (m (c, Proc.tc.devRef main_arg4) : Vec Ideal S2x256x8x64 .f32) (ix4 b u h e)) d := by
  rw [← Host.vc_apply m c b ⟨h.val * 80 + d.val, by omega⟩ u h d rfl]
  unfold Blk.vcx
  refine (iblk4 m c t _).trans (congrArg (V m c main_v39) (funext fun a => Fin.ext ?_))
  match a with
  | ⟨0, _⟩ =>
    show win0_4.index t 0 * 1 + 1 * 0 = b.val
    rw [(index4 t).1]; omega
  | ⟨1, _⟩ =>
    show win0_4.index t 1 * 1 + 1 * 0 = 0
    rw [(index4 t).2.1]
  | ⟨2, _⟩ =>
    show win0_4.index t 2 * 160 + 1 * (hh.val * 80 + d.val) = h.val * 80 + d.val
    rw [(index4 t).2.2.1]; omega
  | ⟨3, _⟩ =>
    show win0_4.index t 3 * 256 + 1 * u.val = u.val
    rw [(index4 t).2.2.2]; omega

/-- A point's running sum is the attention's weighted values. -/
theorem acc_eq (c : Dev nD) (t : Fin cfg0.N) (hh : Fin 2) (d : Fin 80) (r : Fin 512) (b : Fin 2) (s : Fin 16384) (h : Fin 8)
    (hb : b.val = t.val / 128) (hs : s.val = t.val % 32 * 512 + r.val) (hj : h.val = t.val % 128 / 32 * 2 + hh.val) :
    Blk.acc (iblk m c 0 t) (iblk m c 1 t) (iblk m c 2 t) (iblk m c 3 t) (iblk m c 4 t) hh (ix2 d r)
      = num (m (c, Proc.tc.devRef main_arg0)) (m (c, Proc.tc.devRef main_arg1)) (m (c, Proc.tc.devRef main_arg2))
          (m (c, Proc.tc.devRef main_arg3)) (m (c, Proc.tc.devRef main_arg4)) Host.scale (-Host.bound m c) b s h d := by
  rw [Blk.acc_apply, num_chunks]
  simp only [blk_k m c t hh _ _ _ b h hb hj, blk_v m c t hh _ _ _ b h hb hj, blk_q m c t hh _ _ b s h hb hs hj,
    blk_kc m c t hh _ _ b h hb hj, blk_vc m c t hh _ _ b h hb hj]

/-- What point `t` writes back is block `t` of the attention. -/
theorem flushed_eq (c : Dev nD) (t : Fin cfg0.N) :
    (dats m 0 c).flushed 5 t = (win0_5.blk t).view.read (Elt Ideal) (out m c) := by
  rw [Value.flushed5_A, Blk.out_eq]
  have hN : t.val < 256 := lt_of_lt_of_eq t.isLt N_0
  funext j
  have h0 : (j 0).val < 512 := lt_of_lt_of_eq (j 0).isLt (xsize5 t).1
  have h1 : (j 1).val < 128 := lt_of_lt_of_eq (j 1).isLt (xsize5 t).2
  have cutKey : ∀ f : Vec Ideal S512x128 .bf16, (cfg0.win 5).cut (grid0.coords t) f j = f (ix2 ⟨(j 0).val, h0⟩ ⟨(j 1).val, h1⟩) := fun f =>
    congrArg f (funext fun a => match a with | ⟨0, _⟩ => rfl | ⟨1, _⟩ => rfl)
  have readKey : ∀ f : Vec Ideal S32768x512 .bf16, (win0_5.blk t).view.read (Elt Ideal) f j = f ((win0_5.blk t).view.emb j) := fun _ => rfl
  have e0 : ((win0_5.blk t).view.emb j 0).val = (t.val / 128 * 32 + t.val % 32) * 512 + (j 0).val := by
    show win0_5.index t 0 * 512 + 1 * (j 0).val = _
    rw [(index5 t).1]; omega
  have e1 : ((win0_5.blk t).view.emb j 1).val = t.val % 128 / 32 * 128 + (j 1).val := by
    show win0_5.index t 1 * 128 + 1 * (j 1).val = _
    rw [(index5 t).2]; omega
  rw [cutKey, readKey, heads_apply _ _ _ _ ⟨(j 0).val, h0⟩ ⟨(j 1).val, h1⟩ ⟨(j 1).val / 64, by omega⟩ ⟨(j 1).val % 64, by omega⟩
    (by show (j 1).val = (j 1).val / 64 * 64 + (j 1).val % 64; omega)]
  have pick : ∀ (hh : Fin 2) (f : Fin 2 → FVec Ideal ⟨2, ![64, 512]⟩ .f32), (if hh = 0 then f 0 else f 1) = f hh := by
    intro hh f
    have : hh = 0 ∨ hh = 1 := by omega
    rcases this with rfl | rfl <;> simp
  rw [pick _ fun hh => quot (Blk.acc (iblk m c 0 t) (iblk m c 1 t) (iblk m c 2 t) (iblk m c 3 t) (iblk m c 4 t) hh)
    slices_S80x512_o0_0_S64x512 slices_S80x512_o64_0_S1x512 broadcasts_S1x512_S64x512]
  have hb : (⟨t.val / 128, by omega⟩ : Fin 2).val = t.val / 128 := rfl
  have hs : (⟨t.val % 32 * 512 + (j 0).val, by omega⟩ : Fin 16384).val = t.val % 32 * 512 + (⟨(j 0).val, h0⟩ : Fin 512).val := rfl
  have hj : (⟨t.val % 128 / 32 * 2 + (j 1).val / 64, by omega⟩ : Fin 8).val = t.val % 128 / 32 * 2 + (⟨(j 1).val / 64, by omega⟩ : Fin 2).val := rfl
  rw [quot_apply, acc_eq m c t _ _ _ _ _ _ hb hs hj, acc_eq m c t _ _ _ _ _ _ hb hs hj]
  refine (attnOut_apply _ _ _ _ _ _ _ _ ⟨t.val / 128, by omega⟩ ⟨t.val % 32 * 512 + (j 0).val, by omega⟩
    ⟨t.val % 128 / 32 * 2 + (j 1).val / 64, by omega⟩ ⟨(j 1).val % 64, by omega⟩ ?_ ?_).symm
  · rw [e0]; show _ = t.val / 128 * 16384 + (t.val % 32 * 512 + (j 0).val); omega
  · rw [e1]; show _ = (t.val % 128 / 32 * 2 + (j 1).val / 64) * 64 + (j 1).val % 64; omega

/-- An index of the result array is in point `t`'s block. -/
theorem mem_blk (t : Fin cfg0.N) (i : S32768x512.Idx) :
    i ∈ ((cfg0.win 5).blk t).view.set ↔ (i 0).val / 512 = t.val / 128 * 32 + t.val % 32 ∧ (i 1).val / 128 = t.val % 128 / 32 := by
  show i ∈ ((View.whole main_v40).slice (win0_5.rect t)).set ↔ _
  rw [View.set_slice_whole, Rect.mem_set_unit]
  have e0 : win0_5.index t 0 * win0_5.size 0 = (t.val / 128 * 32 + t.val % 32) * 512 := by rw [(index5 t).1]; rfl
  have e1 : win0_5.index t 1 * win0_5.size 1 = t.val % 128 / 32 * 128 := by rw [(index5 t).2]; rfl
  refine ⟨fun h => ⟨?_, ?_⟩, fun h a => ?_⟩
  · have : win0_5.index t 0 * win0_5.size 0 ≤ (i 0 : Nat) ∧ (i 0 : Nat) < win0_5.index t 0 * win0_5.size 0 + win0_5.xsize (grid0.coords t) 0 := h 0
    rw [e0, (xsize5 t).1] at this; omega
  · have : win0_5.index t 1 * win0_5.size 1 ≤ (i 1 : Nat) ∧ (i 1 : Nat) < win0_5.index t 1 * win0_5.size 1 + win0_5.xsize (grid0.coords t) 1 := h 1
    rw [e1, (xsize5 t).2] at this; omega
  · match a with
    | ⟨0, _⟩ => show win0_5.index t 0 * win0_5.size 0 ≤ (i 0 : Nat) ∧ (i 0 : Nat) < win0_5.index t 0 * win0_5.size 0 + win0_5.xsize (grid0.coords t) 0
                rw [e0, (xsize5 t).1]; omega
    | ⟨1, _⟩ => show win0_5.index t 1 * win0_5.size 1 ≤ (i 1 : Nat) ∧ (i 1 : Nat) < win0_5.index t 1 * win0_5.size 1 + win0_5.xsize (grid0.coords t) 1
                rw [e1, (xsize5 t).2]; omega

/-- The blocks tile the result array. -/
theorem cover (i : S32768x512.Idx) : ∃ t : Fin cfg0.N, (cfg0.win 5).flush t = true ∧ i ∈ ((cfg0.win 5).blk t).view.set := by
  have h0 : (i 0 : Nat) < 32768 := (i 0).isLt
  have h1 : (i 1 : Nat) < 512 := (i 1).isLt
  have hN : cfg0.N = 256 := N_0
  refine ⟨⟨(i 0).val / 512 / 32 * 128 + (i 1).val / 128 * 32 + (i 0).val / 512 % 32, by omega⟩, flush0_5 _, ?_⟩
  rw [mem_blk]
  dsimp only
  omega

/-- The result array ends holding the attention. -/
theorem final (c : Dev nD) : (dats m 0 c).arrAt 5 cfg0.N = out m c :=
  (dats m 0 c).arrAt_eq_of_cover 5 (out m c) (fun t _ => flushed_eq m c t) cover

end Cert.KernelIdeal.RefValue

end
-- ==== Proof.Equation.lean ====
/- The equation of the two attentions over the reals: the padded, base-two, shifted form of the kernels and the softmax of
   the reference are one number for real queries and keys, whatever real shift either subtracts. -/
module

public import proofs.«01_k».proof.Proof.Spec
public import Idealize.ShloMosaic.Lib.IdealHost
public import Idealize.ShloMosaic.Lib.ReduceAll

@[expose] public section

set_option maxRecDepth 16384

noncomputable section

namespace Cert.Attn

open Idealize.ShloMosaic Idealize.ShloMosaic.ValueIdx
open scoped BigOperators

/-- A left fold by maximum from a number that is not `⊤`, over numbers that are not `⊤`, is not `⊤`. -/
theorem foldl_max_ne_top {ι : Type} (f : ι → EReal) : ∀ (l : List ι) (z : EReal), z ≠ ⊤ → (∀ n ∈ l, f n ≠ ⊤) →
    l.foldl (fun r n => max r (f n)) z ≠ ⊤
  | [], _, hz, _ => hz
  | a :: l, z, hz, hf => foldl_max_ne_top f l (max z (f a))
      (fun e => by rcases max_eq_top.1 e with e | e; exacts [hz e, hf a (List.mem_cons_self ..) e]) fun n hn => hf n (List.mem_cons_of_mem _ hn)

/-- A left fold by maximum is at least its start and at least every number it met. -/
theorem le_foldl {ι : Type} (f : ι → EReal) : ∀ (l : List ι) (z : EReal),
    z ≤ l.foldl (fun r n => max r (f n)) z ∧ ∀ n ∈ l, f n ≤ l.foldl (fun r n => max r (f n)) z
  | [], _ => ⟨le_rfl, fun _ hn => nomatch hn⟩
  | a :: l, z => by
    obtain ⟨h1, h2⟩ := le_foldl f l (max z (f a))
    exact ⟨(le_max_left _ _).trans h1, fun n hn => by rcases List.mem_cons.1 hn with rfl | hn; exacts [(le_max_right _ _).trans h1, h2 n hn]⟩

/-- The maximum of real numbers, at least one of them, is a real number. -/
theorem reduce_max_real {s t u : Shape} {axes : List (Fin s.rank)} (x : FVec Ideal s .f32) (init : FVec Ideal u .f32) (h : s.ReducesTo axes t)
    (hu : 0 < u.numel) (j : t.Idx) (hi : init (Shape.Idx.first hu) ≠ (⊤ : EReal)) (hx : ∀ i, ∃ r : ℝ, x i = (r : EReal)) (i : s.Idx)
    (hij : h.drop i = j) : ∃ r : ℝ, Host.reduce FloatOps.maximumf x init h hu j = (r : EReal) := by
  rw [Host.reduce_eq_foldl]
  have key : ∀ l : List s.Idx, i ∈ l → ∃ r : ℝ,
      (l.foldl (fun r n => max r (x n : EReal)) (init (Shape.Idx.first hu)) : EReal) = (r : EReal) := fun l hl => by
    have h1 := foldl_max_ne_top (fun n => (x n : EReal)) l (init (Shape.Idx.first hu)) hi fun n _ => by
      obtain ⟨r, hr⟩ := hx n
      rw [hr]; exact EReal.coe_ne_top r
    have h2 := (le_foldl (fun n => (x n : EReal)) l (init (Shape.Idx.first hu))).2 i hl
    obtain ⟨r, hr⟩ := hx i
    rw [hr] at h2
    exact ⟨_, (EReal.coe_toReal h1 (fun e => by rw [e] at h2; exact absurd h2 (by simp))).symm⟩
  refine key _ ?_
  rw [List.mem_filter]
  exact ⟨List.mem_map.2 ⟨s.rowMajor i, List.mem_finRange _, Equiv.symm_apply_apply _ _⟩, by simp [hij]⟩

/-- A number between minus and plus infinity is a real number. -/
theorem real_of_abs {x : EReal} (h : max x (-x) < ⊤) : ∃ r : ℝ, x = (r : EReal) := by
  refine ⟨x.toReal, (EReal.coe_toReal ?_ ?_).symm⟩
  · rintro rfl; simp at h
  · rintro rfl; simp at h

/-- The scaled score of a query and a key over the reals. -/
def dot (q : Fin 96 → ℝ) (k : Fin 96 → ℝ) : ℝ := (∑ d, q d * k d) / Real.sqrt 96

/-- The padded score: the scaled score in base two, shifted. -/
theorem score_eq (Q K : (⟨4, ![2, 16384, 8, 96]⟩ : Shape).Idx → EReal) (KC : (⟨4, ![2, 256, 8, 96]⟩ : Shape).Idx → EReal) {scale y : EReal}
    {β : ℝ} (hs : scale = ((Real.sqrt 96 * Real.log 2 : ℝ) : EReal)) (hy : y = (β : EReal)) (b : Fin 2) (s : Fin 16384) (h : Fin 8) (k : Fin 16640)
    (q κ : Fin 96 → ℝ) (hq : ∀ d, Q (ix4 b s h d) = (q d : EReal)) (hk : ∀ d, keyAll K KC b h k d = (κ d : EReal)) :
    score Q K KC scale y b s h k = ((dot q κ / Real.log 2 - -β : ℝ) : EReal) := by
  have h96 : Real.sqrt 96 ≠ 0 := (Real.sqrt_pos.2 (by norm_num)).ne'
  have hl : Real.log 2 ≠ 0 := (Real.log_pos (by norm_num)).ne'
  unfold score
  rw [sum_lane, hs, hy, one_mul]
  simp only [hq, hk, Ideal.div_coe (mul_ne_zero h96 hl), ← EReal.coe_mul]
  rw [← coe_sum, ← EReal.coe_add]
  refine congrArg _ ?_
  unfold dot
  rw [sub_neg_eq_add, Finset.sum_div, Finset.sum_div]
  refine congrArg₂ (· + ·) (Finset.sum_congr rfl fun d _ => ?_) rfl
  field_simp

/-- The attention at an entry as the softmax of the scaled scores times the values. -/
theorem attn_eq (Q K : (⟨4, ![2, 16384, 8, 96]⟩ : Shape).Idx → EReal) (Vv : (⟨4, ![2, 16384, 8, 64]⟩ : Shape).Idx → EReal)
    (KC : (⟨4, ![2, 256, 8, 96]⟩ : Shape).Idx → EReal) (VC : (⟨4, ![2, 256, 8, 64]⟩ : Shape).Idx → EReal) {scale y : EReal} {β : ℝ}
    (hs : scale = ((Real.sqrt 96 * Real.log 2 : ℝ) : EReal)) (hy : y = (β : EReal)) (b : Fin 2) (s : Fin 16384) (h : Fin 8) (d : Fin 64)
    (q : Fin 96 → ℝ) (κ : Fin 16640 → Fin 96 → ℝ) (hq : ∀ d, Q (ix4 b s h d) = (q d : EReal))
    (hk : ∀ k d, keyAll K KC b h k d = (κ k d : EReal)) (M : ℝ) :
    attn Q K Vv KC VC scale y b s h d
      = ∑ k, keyAll Vv VC b h k d
          * Ideal.div ((Real.exp (dot q (κ k) - M) : ℝ) : EReal) (∑ j, ((Real.exp (dot q (κ j) - M) : ℝ) : EReal)) := by
  haveI : Nonempty (Fin 16640) := ⟨⟨0, by norm_num⟩⟩
  rw [← row_eq (fun k => keyAll Vv VC b h k d) (fun k => dot q (κ k)) (-β) M]
  unfold attn num
  refine congrArg₂ Ideal.div (Finset.sum_congr rfl fun k _ => ?_) (Finset.sum_congr rfl fun k _ => ?_)
  · rw [score_eq Q K KC hs hy b s h k q (κ k) hq (hk k), Ideal.exp2_coe]
    exact congrArg (· * _) (dif_pos d.isLt)
  · rw [score_eq Q K KC hs hy b s h k q (κ k) hq (hk k), Ideal.exp2_coe]
    refine congrArg (fun a : EReal => a * _) ?_
    unfold vrow
    rw [dif_neg (by simp), if_pos rfl]

end Cert.Attn

end
-- ==== Proof.Entry.lean ====
/- What the reference's result holds at an entry: the softmax over all keys of the scaled scores, times the values. -/
module

public import proofs.«01_k».proof.Proof.Equation
public import proofs.«01_k».proof.Proof.Gen.ReferenceIdeal.Read

@[expose] public section

set_option maxRecDepth 16384

noncomputable section

namespace Cert.ReferenceIdeal.Entry

open Cert.ReferenceIdeal Cert.ReferenceIdeal.Gen Cert.ReferenceIdeal.Read Idealize.ShloMosaic Idealize.ShloMosaic.ValueIdx
open Cert.Attn
open scoped BigOperators

variable (x0 x1 : FVec Ideal S2x16384x8x96 .f32) (x2 : FVec Ideal S2x16384x8x64 .f32) (x3 : FVec Ideal S2x256x8x96 .f32)
  (x4 : FVec Ideal S2x256x8x64 .f32)

/-- The scaled score of a query and a key, for real queries and keys. -/
theorem score_apply (b : Fin 2) (h : Fin 8) (s : Fin 16384) (k : Fin 16640) (q κ : Fin 96 → ℝ)
    (hq : ∀ d, x0 (ix4 b s h d) = (q d : EReal)) (hk : ∀ d, keyAll x1 x3 b h k d = (κ d : EReal)) :
    val_main_v5 (F := Ideal) x0 x1 x3 (ix4 b h s k) = ((dot q κ : ℝ) : EReal) := by
  have e2 : val_main_v2 (F := Ideal) x0 x1 x3 (ix4 b h s k) = ((∑ d, q d * κ d : ℝ) : EReal) := by
    rw [val_main_v2_apply, coe_sum]
    refine Finset.sum_congr rfl fun d _ => ?_
    have el : lidx_main_v2 (ix4 b h s k) d = ix4 b s h d := funext fun a => by
      match a with
      | ⟨0, _⟩ => rfl
      | ⟨1, _⟩ => rfl
      | ⟨2, _⟩ => rfl
      | ⟨3, _⟩ => rfl
    have er : ridx_main_v2 (ix4 b h s k) d = ix4 b k h d := funext fun a => by
      match a with
      | ⟨0, _⟩ => rfl
      | ⟨1, _⟩ => rfl
      | ⟨2, _⟩ => rfl
      | ⟨3, _⟩ => rfl
    rw [el, er, hq, EReal.coe_mul]
    refine congrArg (fun a : EReal => _ * a) ?_
    unfold val_main_v0
    exact (cat_keys x1 x3 _ b k h d).trans (hk d)
  have e4 : val_main_v4 (F := Ideal) (ix4 b h s k) = ((Real.sqrt 96 : ℝ) : EReal) := by
    rw [val_main_v4_apply, val_main_v3_apply, val_main_cst_apply, Ideal.hostUnary_sqrt_def]
    have e : (FloatOps.ofBits FTy.f32 0x42C00000#32 : Ideal .f32) = ((96 : ℝ) : EReal) := by
      show Ideal.ofBits .f32 0x42C00000#32 = _
      simp [Ideal.ofBits, Ideal.ieee, -EReal.coe_mul]; norm_num
    rw [e, Ideal.sqrt_coe, if_neg (by norm_num)]
  rw [val_main_v5_apply, e2, e4, Ideal.hostDivf_def, Ideal.div_coe (Real.sqrt_pos.2 (by norm_num)).ne', ← EReal.coe_mul]
  exact congrArg _ (by unfold dot; ring)

/-- The largest score of a query is a real number, for real queries and keys. -/
theorem max_real (b : Fin 2) (h : Fin 8) (s : Fin 16384) (hx : ∀ i, ∃ r : ℝ, val_main_v5 (F := Ideal) x0 x1 x3 i = (r : EReal)) :
    ∃ M : ℝ, val_main_v8 (F := Ideal) x0 x1 x3 (ix3 b h s) = (M : EReal) := by
  have hbot : (FloatOps.ofBits FTy.f32 0xFF800000#32 : Ideal .f32) = (⊥ : EReal) := by
    show Ideal.ofBits .f32 0xFF800000#32 = _
    simp [Ideal.ofBits, Ideal.ieee]
  obtain ⟨M, hM⟩ : ∃ M : ℝ, val_main_v6 (F := Ideal) x0 x1 x3 (ix3 b h s) = (M : EReal) := by
    unfold val_main_v6
    refine reduce_max_real _ _ _ _ _ ?_ hx (ix4 b h s ⟨0, by norm_num⟩) ?_
    · rw [val_main_cst_0_apply, hbot]; exact bot_ne_top
    · funext a
      match a with
      | ⟨0, _⟩ => rfl
      | ⟨1, _⟩ => rfl
      | ⟨2, _⟩ => rfl
  refine ⟨M, ?_⟩
  rw [val_main_v8_apply, val_main_v7_apply, val_main_cst_1_apply, hbot, hM, Ideal.maximumf_def]
  exact max_eq_right bot_le

/-- The weight of a key. -/
theorem weight_apply (b : Fin 2) (h : Fin 8) (s : Fin 16384) (k : Fin 16640) (t : ℝ) (M : ℝ)
    (ht : val_main_v5 (F := Ideal) x0 x1 x3 (ix4 b h s k) = (t : EReal))
    (hM : val_main_v8 (F := Ideal) x0 x1 x3 (ix3 b h s) = (M : EReal)) :
    val_main_v12 (F := Ideal) x0 x1 x3 (ix4 b h s k) = ((Real.exp (t - M) : ℝ) : EReal) := by
  have e9 : idx_main_v9 (idx_main_v10 (ix4 b h s k)) = ix3 b h s := funext fun a => by
    match a with
    | ⟨0, _⟩ => rfl
    | ⟨1, _⟩ => rfl
    | ⟨2, _⟩ => rfl
  rw [val_main_v12_apply, val_main_v11_apply, val_main_v10_apply, val_main_v9_apply, e9, ht, hM, Ideal.subf_def, ← EReal.coe_sub,
    Ideal.hostUnary_exp_def, Ideal.exp_coe]

/-- The reference's result at an entry. -/
theorem out_apply (b : Fin 2) (s : Fin 16384) (h : Fin 8) (d : Fin 64) (R : Fin 32768) (E : Fin 512)
    (hR : R.val = b.val * 16384 + s.val) (hE : E.val = h.val * 64 + d.val) (t : Fin 16640 → ℝ) (M : ℝ)
    (ht : ∀ k, val_main_v5 (F := Ideal) x0 x1 x3 (ix4 b h s k) = (t k : EReal))
    (hM : val_main_v8 (F := Ideal) x0 x1 x3 (ix3 b h s) = (M : EReal)) :
    val_main_v20 (F := Ideal) x0 x1 x2 x3 x4 (ix2 R E)
      = ∑ k, keyAll x2 x4 b h k d
          * Ideal.div ((Real.exp (t k - M) : ℝ) : EReal) (∑ j, ((Real.exp (t j - M) : ℝ) : EReal)) := by
  have hb := b.isLt
  have hs := s.isLt
  have hh := h.isLt
  have hd := d.isLt
  have e19 : idx_main_v19 (ix2 R E) = ix4 b s h d := funext fun a => Fin.ext (by
    match a with
    | ⟨0, _⟩ => show (R.val * 512 + E.val) / 8388608 = b.val; omega
    | ⟨1, _⟩ => show (R.val * 512 + E.val) / 512 % 16384 = s.val; omega
    | ⟨2, _⟩ => show (R.val * 512 + E.val) / 64 % 8 = h.val; omega
    | ⟨3, _⟩ => show (R.val * 512 + E.val) % 64 = d.val; omega)
  have e18 : idx_main_v18 (ix4 b s h d) = ix4 b h d s := funext fun a => by
    match a with
    | ⟨0, _⟩ => rfl
    | ⟨1, _⟩ => rfl
    | ⟨2, _⟩ => rfl
    | ⟨3, _⟩ => rfl
  rw [val_main_v20_apply, Ideal.truncf_def, val_main_v19_apply, e19, val_main_v18_apply, e18, val_main_v17_apply]
  refine Finset.sum_congr rfl fun k _ => ?_
  have el : lidx_main_v17 (ix4 b h d s) k = ix4 b k h d := funext fun a => by
    match a with
    | ⟨0, _⟩ => rfl
    | ⟨1, _⟩ => rfl
    | ⟨2, _⟩ => rfl
    | ⟨3, _⟩ => rfl
  have er : ridx_main_v17 (ix4 b h d s) k = ix4 b h s k := funext fun a => by
    match a with
    | ⟨0, _⟩ => rfl
    | ⟨1, _⟩ => rfl
    | ⟨2, _⟩ => rfl
    | ⟨3, _⟩ => rfl
  have e14 : idx_main_v14 (idx_main_v15 (ix4 b h s k)) = ix3 b h s := funext fun a => by
    match a with
    | ⟨0, _⟩ => rfl
    | ⟨1, _⟩ => rfl
    | ⟨2, _⟩ => rfl
  have e13 : ∀ j, idx_main_v13 (ix3 b h s) j = ix4 b h s j := fun j => funext fun a => by
    match a with
    | ⟨0, _⟩ => rfl
    | ⟨1, _⟩ => rfl
    | ⟨2, _⟩ => rfl
    | ⟨3, _⟩ => rfl
  have hz : val_main_cst_2 (F := Ideal) (Shape.Idx.first h_S_) = (0 : EReal) := Ideal.ofBits_zero_f32
  have hw : val_main_v16 (F := Ideal) x0 x1 x3 (ix4 b h s k)
      = Ideal.div ((Real.exp (t k - M) : ℝ) : EReal) (∑ j, ((Real.exp (t j - M) : ℝ) : EReal)) := by
    rw [val_main_v16_apply, Ideal.hostDivf_def, weight_apply x0 x1 x3 b h s k _ _ (ht k) hM, val_main_v15_apply, val_main_v14_apply, e14,
      val_main_v13_apply, hz, zero_add]
    exact congrArg (Ideal.div _) (Finset.sum_congr rfl fun j _ =>
      (congrArg (val_main_v12 (F := Ideal) x0 x1 x3) (e13 j)).trans (weight_apply x0 x1 x3 b h s j _ _ (ht j) hM))
  have hv : val_main_v1 (F := Ideal) x2 x4 (ix4 b k h d) = keyAll x2 x4 b h k d := by
    unfold val_main_v1
    exact cat_keys x2 x4 _ b k h d
  rw [el, er, hv, hw]

end Cert.ReferenceIdeal.Entry

end
-- ==== Proof.Agree.lean ====
/- The reference's result and the attention in its padded form are one array, for real queries and keys. -/
module

public import proofs.«01_k».proof.Proof.Entry

@[expose] public section

set_option maxRecDepth 16384

noncomputable section

namespace Cert.ReferenceIdeal.Entry

open Cert.ReferenceIdeal Cert.ReferenceIdeal.Gen Cert.ReferenceIdeal.Read Idealize.ShloMosaic Idealize.ShloMosaic.ValueIdx
open Cert.Attn

/-- The reference's array is the padded attention's. -/
theorem agree (x0 x1 : FVec Ideal S2x16384x8x96 .f32) (x2 : FVec Ideal S2x16384x8x64 .f32) (x3 : FVec Ideal S2x256x8x96 .f32)
    (x4 : FVec Ideal S2x256x8x64 .f32) {scale y : EReal} {β : ℝ} (hs : scale = ((Real.sqrt 96 * Real.log 2 : ℝ) : EReal)) (hy : y = (β : EReal))
    (h0 : ∀ i, ∃ r : ℝ, x0 i = (r : EReal)) (h1 : ∀ i, ∃ r : ℝ, x1 i = (r : EReal)) (h3 : ∀ i, ∃ r : ℝ, x3 i = (r : EReal)) :
    val_main_v20 (F := Ideal) x0 x1 x2 x3 x4 = attnOut x0 x1 x2 x3 x4 scale y := by
  funext j
  obtain ⟨R, E, rfl⟩ : ∃ (p : Fin 32768) (q : Fin 512), j = ix2 p q := ⟨j 0, j 1, eq_ix2 j⟩
  have hR := R.isLt
  have hE := E.isLt
  obtain ⟨b, hb⟩ : ∃ b : Fin 2, b.val = R.val / 16384 := ⟨⟨R.val / 16384, by omega⟩, rfl⟩
  obtain ⟨s, hs'⟩ : ∃ s : Fin 16384, s.val = R.val % 16384 := ⟨⟨R.val % 16384, by omega⟩, rfl⟩
  obtain ⟨h, hh⟩ : ∃ h : Fin 8, h.val = E.val / 64 := ⟨⟨E.val / 64, by omega⟩, rfl⟩
  obtain ⟨d, hd⟩ : ∃ d : Fin 64, d.val = E.val % 64 := ⟨⟨E.val % 64, by omega⟩, rfl⟩
  have eR : R.val = b.val * 16384 + s.val := by omega
  have eE : E.val = h.val * 64 + d.val := by omega
  have hk : ∀ (b : Fin 2) (h : Fin 8) (k : Fin 16640) (d : Fin 96), ∃ r : ℝ, keyAll x1 x3 b h k d = (r : EReal) := fun b h k d => by
    unfold keyAll
    split
    · exact h1 _
    · exact h3 _
  choose q hq using h0
  choose κ hκ using hk
  have ht : ∀ (b : Fin 2) (h : Fin 8) (s : Fin 16384) (k : Fin 16640),
      val_main_v5 (F := Ideal) x0 x1 x3 (ix4 b h s k) = ((dot (fun d => q (ix4 b s h d)) (κ b h k) : ℝ) : EReal) := fun b h s k =>
    score_apply x0 x1 x3 b h s k _ _ (fun d => hq _) (fun d => hκ b h k d)
  obtain ⟨M, hM⟩ := max_real x0 x1 x3 b h s fun i => ⟨_, (congrArg (val_main_v5 (F := Ideal) x0 x1 x3) (eq_ix4 i)).trans (ht (i 0) (i 1) (i 2) (i 3))⟩
  rw [out_apply x0 x1 x2 x3 x4 b s h d R E eR eE _ M (fun k => ht b h s k) hM]
  exact ((attnOut_apply x0 x1 x2 x3 x4 scale y (ix2 R E) b s h d eR eE).trans
    (attn_eq x0 x1 x2 x3 x4 hs hy b s h d _ (κ b h) (fun d => hq _) (fun k d => hκ b h k d) M)).symm

end Cert.ReferenceIdeal.Entry

end
-- ==== Proof.Finite.lean ====
/- What the precondition says, read at an entry: the queries, keys, context keys and the two rows of gains are real
   numbers; and what the kernels' host code makes of the gains then. -/
module

public import proofs.«01_k».proof.Proof.Equation
public import proofs.«01_k».proof.Proof.Gen.Pre_finite
public import Idealize.ShloMosaic.PureOps.Ideal.Laws

@[expose] public section

set_option maxRecDepth 16384

noncomputable section

namespace Cert.Attn

open Idealize.ShloMosaic Idealize.ShloMosaic.ValueIdx
open scoped BigOperators

instance subsingleton_scalar : Subsingleton (⟨0, ![]⟩ : Shape).Idx := ⟨fun _ _ => funext fun a => a.elim0⟩

/-- The word of plus infinity. -/
theorem inf_word : (FloatOps.ofBits FTy.f32 0x7F800000#32 : Ideal .f32) = (⊤ : EReal) := by
  show Ideal.ofBits .f32 0x7F800000#32 = _
  simp [Ideal.ofBits, Ideal.ieee]

/-- One array's test "every magnitude is below plus infinity" says that every entry is a real number. -/
theorem real_of_all {s : Shape} {axes : List (Fin s.rank)} (x : FVec Ideal s .f32) (hb : Shape.BroadcastsInDim (⟨0, ![]⟩ : Shape) s ![])
    (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) hr hu j = 1#1) (i : s.Idx) : ∃ r : ℝ, x i = (r : EReal) := by
  have h := Host.reduce_andi_all _ _ hr hu j e i
  have h2 : FloatOps.cmpf CmpFPredicate.olt (max (x i : EReal) (-(x i : EReal)) : Ideal .f32) (FloatOps.ofBits FTy.f32 0x7F800000#32 : Ideal .f32) = 1#1 := h
  rw [Ideal.cmpf_def, inf_word] at h2
  refine real_of_abs ?_
  by_contra hn
  simp [Ideal.cmp, hn] at h2

/-- The precondition: five arrays hold real numbers. -/
theorem finite_args (x0 x1 : FVec Ideal ⟨4, ![2, 16384, 8, 96]⟩ .f32) (x2 : FVec Ideal ⟨4, ![2, 16384, 8, 64]⟩ .f32)
    (x3 : FVec Ideal ⟨4, ![2, 256, 8, 96]⟩ .f32) (x4 : FVec Ideal ⟨4, ![2, 256, 8, 64]⟩ .f32) (x5 x6 : FVec Ideal ⟨1, ![96]⟩ .f32)
    (h : Cert.Pre_finite.fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x3 i = (r : EReal))
      ∧ (∀ i, ∃ r : ℝ, x5 i = (r : EReal)) ∧ ∀ i, ∃ r : ℝ, x6 i = (r : EReal) := by
  have h0 := congrFun h ix0
  unfold Cert.Pre_finite.fn Cert.Pre_finite.fn_part1 at h0
  dsimp only at h0
  obtain ⟨h0, h6⟩ := IntOp.andi_eq_one.1 h0
  obtain ⟨h0, h5⟩ := IntOp.andi_eq_one.1 h0
  obtain ⟨h0, h3⟩ := IntOp.andi_eq_one.1 h0
  obtain ⟨h0, h1⟩ := IntOp.andi_eq_one.1 h0
  exact ⟨real_of_all x0 _ _ _ _ h0, real_of_all x1 _ _ _ _ h1, real_of_all x3 _ _ _ _ h3, real_of_all x5 _ _ _ _ h5, real_of_all x6 _ _ _ _ h6⟩

/-- The number the queries are divided by: the square root of the head's width times the logarithm of two. -/
theorem scale_eq : (mulf (Host.sqrt (constant (F := Ideal) (⟨0, ![]⟩ : Shape) FTy.f32 1119879168#32))
    (Host.log (constant (F := Ideal) (⟨0, ![]⟩ : Shape) FTy.f32 1073741824#32)) ix0 : EReal) = ((Real.sqrt 96 * Real.log 2 : ℝ) : EReal) := by
  have e96 : (FloatOps.ofBits FTy.f32 1119879168#32 : Ideal .f32) = ((96 : ℝ) : EReal) := by
    show Ideal.ofBits .f32 1119879168#32 = _
    simp [Ideal.ofBits, Ideal.ieee, -EReal.coe_mul]; norm_num
  have e2 : (FloatOps.ofBits FTy.f32 1073741824#32 : Ideal .f32) = ((2 : ℝ) : EReal) := by
    show Ideal.ofBits .f32 1073741824#32 = _
    simp [Ideal.ofBits, Ideal.ieee, -EReal.coe_mul]; norm_num
  show FloatOps.mulf (FloatOps.hostUnary .sqrt (FloatOps.ofBits FTy.f32 1119879168#32 : Ideal .f32))
    (FloatOps.hostUnary .log (FloatOps.ofBits FTy.f32 1073741824#32 : Ideal .f32)) = _
  rw [e96, e2, Ideal.hostUnary_sqrt_def, Ideal.hostUnary_log_def, Ideal.sqrt_coe, Ideal.log_coe, if_neg (by norm_num), if_neg (by norm_num),
    Ideal.mulf_def, EReal.coe_mul]

/-- The largest magnitude of a row of real numbers is a real number. -/
theorem gain_real (x : FVec Ideal ⟨1, ![96]⟩ .f32) (hx : ∀ i, ∃ r : ℝ, x i = (r : EReal))
    (hr : (⟨1, ![96]⟩ : Shape).ReducesTo [0] (⟨0, ![]⟩ : Shape)) (hu : 0 < (⟨0, ![]⟩ : Shape).numel) (j : (⟨0, ![]⟩ : Shape).Idx) :
    ∃ r : ℝ, Host.reduce FloatOps.maximumf (Host.absf x) (constant (F := Ideal) (⟨0, ![]⟩ : Shape) .f32 4286578688#32) hr hu j = (r : EReal) := by
  refine reduce_max_real _ _ hr hu j ?_ (fun i => ?_) (ix1 (⟨0, by norm_num⟩ : Fin 96)) (Subsingleton.elim _ _)
  · show Ideal.ofBits .f32 4286578688#32 ≠ ⊤
    simp [Ideal.ofBits, Ideal.ieee]
  · obtain ⟨r, hr⟩ := hx i
    refine ⟨max r (-r), ?_⟩
    show max (x i : EReal) (-(x i : EReal)) = _
    rw [hr, ← EReal.coe_neg]
    exact (EReal.coe_strictMono.monotone.map_max).symm

/-- The shift is a real number. -/
theorem bound_real (x x' : FVec Ideal ⟨1, ![96]⟩ .f32) (hx : ∀ i, ∃ r : ℝ, x i = (r : EReal)) (hx' : ∀ i, ∃ r : ℝ, x' i = (r : EReal))
    (hr : (⟨1, ![96]⟩ : Shape).ReducesTo [0] (⟨0, ![]⟩ : Shape)) (hu : 0 < (⟨0, ![]⟩ : Shape).numel) :
    ∃ r : ℝ, (mulf (mulf (constant (F := Ideal) (⟨0, ![]⟩ : Shape) FTy.f32 1097248985#32)
      (Host.reduce FloatOps.maximumf (Host.absf x) (constant (F := Ideal) (⟨0, ![]⟩ : Shape) .f32 4286578688#32) hr hu))
      (Host.reduce FloatOps.maximumf (Host.absf x') (constant (F := Ideal) (⟨0, ![]⟩ : Shape) .f32 4286578688#32) hr hu) ix0 : EReal) = (r : EReal) := by
  obtain ⟨a, ha⟩ := gain_real x hx hr hu ix0
  obtain ⟨b, hb⟩ := gain_real x' hx' hr hu ix0
  have hc : (FloatOps.ofBits FTy.f32 1097248985#32 : Ideal .f32) = ((15118553 / 1048576 : ℝ) : EReal) := by
    show Ideal.ofBits .f32 1097248985#32 = _
    simp [Ideal.ofBits, Ideal.ieee, -EReal.coe_mul]; norm_num
  refine ⟨15118553 / 1048576 * a * b, ?_⟩
  rw [EReal.coe_mul, EReal.coe_mul, ← ha, ← hb, ← hc]
  rfl

end Cert.Attn

end
-- ==== Proof.Bounded.lean ====
/- The value claim of the bounded attention call. -/
module

public import proofs.«01_k».proof.Defs
public import proofs.«01_k».proof.Proof.Assemble
public import proofs.«01_k».proof.Proof.Agree
public import proofs.«01_k».proof.Proof.Finite
public import proofs.«01_k».proof.Proof.Gen.ReferenceIdeal.Run

@[expose] public section

set_option maxRecDepth 16384

noncomputable section

namespace Cert.Proof

open Idealize.ShloMosaic Idealize.ShloMosaic.TcCoe Idealize.SL.Sem Idealize.ShloMosaic.ValueIdx
open Cert.Attn

/-- The bounded call and the reference leave one array, whenever queries, keys and gains are real numbers. -/
theorem bounded : Cert.algebraic_KernelIdeal_ReferenceIdeal_pre_finite := by
  intro m ρ m' ρ' hpre hagree
  refine ⟨fun c => Cert.KernelIdeal.RefValue.out m c, ?_, ?_⟩
  · exact (θ_run Cert.KernelIdeal.defs _ _).mono (fun _ h c => ⟨(h c).1.trans (Cert.KernelIdeal.RefValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h3, h5, h6⟩ := finite_args _ _ _ _ _ _ _ (hpre c)
    obtain ⟨e0, e1, e2, e3, e4, -, -⟩ := hagree c
    rw [e0, e1, e2, e3, e4]
    obtain ⟨β, hβ⟩ := bound_real _ _ h5 h6 (by decide) (by decide)
    refine (Cert.ReferenceIdeal.Read.val_main_v20_eq _ _ _ _ _).trans ?_
    refine Cert.ReferenceIdeal.Entry.agree _ _ _ _ _ (β := -β) scale_eq ?_ h0 h1 h3
    rw [EReal.coe_neg]
    exact congrArg (fun a : EReal => -a) hβ

end Cert.Proof

end
-- ==== Proof.ExpertsWords.lean ====
/- What the precondition on the block tables says: every word, read as a number, is below sixteen. -/
module

public import proofs.«01_k».proof.Pre_experts
public import Idealize.ShloMosaic.Lib.ReduceAll
public import Idealize.ShloMosaic.Lib.ValueIdx

@[expose] public section

set_option maxRecDepth 16384

noncomputable section

namespace Cert.Experts

open Idealize.ShloMosaic Idealize.ShloMosaic.ValueIdx

instance one_scalar : Subsingleton (⟨0, ![]⟩ : Shape).Idx := ⟨fun _ _ => funext fun a => a.elim0⟩

/-- A word that is at least zero and below sixteen as a signed number is below sixteen as a number. -/
theorem word_lt (v : BitVec 32) (e : IntOp.andi (IntOp.cmpi .sge v 0#32) (IntOp.cmpi .slt v 16#32) = 1#1) : v.toNat < 16 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- One table's test. -/
theorem table_lt {s : Shape} {axes : List (Fin s.rank)} (x : IVec s 32) (hb : Shape.BroadcastsInDim (⟨0, ![]⟩ : Shape) s ![])
    (hr : s.ReducesTo axes (⟨0, ![]⟩ : Shape)) (hu : 0 < (⟨0, ![]⟩ : Shape).numel) (j : (⟨0, ![]⟩ : Shape).Idx)
    (e : Host.reduce IntOp.andi (andi (cmpi .sge x (broadcastInDim s ![] hb (constantI ⟨0, ![]⟩ 32 0#32)))
      (cmpi .slt x (broadcastInDim s ![] hb (constantI ⟨0, ![]⟩ 32 16#32)))) (constantI ⟨0, ![]⟩ 1 1#1) hr hu j = 1#1) (i : s.Idx) :
    (x i).toNat < 16 :=
  word_lt _ (Host.reduce_andi_all _ _ hr hu j e i)

variable [Cert.Pre_experts.Facts]

/-- The precondition: both tables name one of the sixteen experts everywhere. -/
theorem tables_lt {F : FTy → Type} [FloatOps F] (x0 x1 : IVec ⟨1, ![152]⟩ 32) (x2 : FVec F ⟨2, ![38912, 1024]⟩ .f32)
    (x3 x4 : FVec F ⟨3, ![16, 1024, 512]⟩ .f32) (x5 : FVec F ⟨3, ![16, 512, 1024]⟩ .f32)
    (h : Cert.Pre_experts.fn (F := F) x0 x1 x2 x3 x4 x5 = fun _ => 1#1) :
    (∀ i, (x0 i).toNat < 16) ∧ ∀ i, (x1 i).toNat < 16 := by
  have h0 := congrFun h ix0
  unfold Cert.Pre_experts.fn at h0
  dsimp only at h0
  obtain ⟨h0, h1⟩ := IntOp.andi_eq_one.1 h0
  exact ⟨table_lt x0 _ _ _ _ h0, table_lt x1 _ _ _ _ h1⟩

end Cert.Experts

end
-- ==== Proof.ExpertsSpec.lean ====
/- One expert on one row, as plain sums: gate and up projections, the gate times its own logistic, the product projected
   down; and the kernel's way to the logistic, half of a hyperbolic tangent plus a half. -/
module

public import proofs.«01_k».proof.Proof.Tiles
public import Idealize.ShloMosaic.Lib.ValueIdx
public import Idealize.ShloMosaic.Lib.ValueLayout
public import Idealize.ShloMosaic.Lib.IdealHost

@[expose] public section

set_option maxRecDepth 16384

noncomputable section

namespace Cert.Experts

open Idealize.ShloMosaic Idealize.ShloMosaic.ValueIdx Cert.Attn
open scoped BigOperators

/-- A row against one column. -/
def proj (x w : Fin 1024 → EReal) : EReal := ∑ d : Fin 1024, x d * w d

/-- One hidden unit: the gate times its logistic times the up projection. -/
def unit (x g u : Fin 1024 → EReal) : EReal := proj x g * Ideal.logistic (proj x g) * proj x u

/-- One output of one expert: the sum over its hidden units. -/
def expert (x : Fin 1024 → EReal) (g u : Fin 512 → Fin 1024 → EReal) (w : Fin 512 → EReal) : EReal :=
  ∑ f : Fin 512, unit x (g f) (u f) * w f

/-- The expert a table's word names. -/
def pick (e : BitVec 32) : Fin 16 := ⟨e.toNat % 16, Nat.mod_lt _ (by norm_num)⟩

/-- A word below sixteen names the expert of that number. -/
theorem pick_val {e : BitVec 32} (h : e.toNat < 16) : (pick e).val = e.toNat := Nat.mod_eq_of_lt h

/-- One output of row `R` under the expert its block of 256 rows has in table `t`. -/
def side (t : IVec ⟨1, ![152]⟩ 32) (x : FVec Ideal ⟨2, ![38912, 1024]⟩ .f32) (g u : FVec Ideal ⟨3, ![16, 1024, 512]⟩ .f32)
    (w : FVec Ideal ⟨3, ![16, 512, 1024]⟩ .f32) (R : Fin 38912) (n : Fin 1024) : EReal :=
  expert (fun d => x (ix2 R d)) (fun f d => g (ix3 (pick (t (ix1 ⟨R.val / 256, by omega⟩))) d f))
    (fun f d => u (ix3 (pick (t (ix1 ⟨R.val / 256, by omega⟩))) d f)) (fun f => w (ix3 (pick (t (ix1 ⟨R.val / 256, by omega⟩))) f n))

/-- Both experts of every row, side by side. -/
def both (t0 t1 : IVec ⟨1, ![152]⟩ 32) (x : FVec Ideal ⟨2, ![38912, 1024]⟩ .f32) (g u : FVec Ideal ⟨3, ![16, 1024, 512]⟩ .f32)
    (w : FVec Ideal ⟨3, ![16, 512, 1024]⟩ .f32) : FVec Ideal ⟨2, ![38912, 2048]⟩ .f32 := fun i =>
  if h : (i 1).val < 1024 then side t0 x g u w ⟨(i 0).val, idx2_lt0 i⟩ ⟨(i 1).val, h⟩
  else side t1 x g u w ⟨(i 0).val, idx2_lt0 i⟩ ⟨(i 1).val - 1024, by have := idx2_lt1 i; omega⟩

/-- The left half holds the first experts. -/
theorem both_left (t0 t1 x g u w) (i : (⟨2, ![38912, 2048]⟩ : Shape).Idx) (R : Fin 38912) (n : Fin 1024) (h0 : (i 0).val = R.val)
    (h1 : (i 1).val = n.val) : both t0 t1 x g u w i = side t0 x g u w R n := by
  unfold both
  rw [dif_pos (by omega)]
  exact congrArg₂ (side t0 x g u w) (Fin.ext h0) (Fin.ext h1)

/-- The right half holds the second experts. -/
theorem both_right (t0 t1 x g u w) (i : (⟨2, ![38912, 2048]⟩ : Shape).Idx) (R : Fin 38912) (n : Fin 1024) (h0 : (i 0).val = R.val)
    (h1 : (i 1).val = 1024 + n.val) : both t0 t1 x g u w i = side t1 x g u w R n := by
  unfold both
  rw [dif_neg (by omega)]
  exact congrArg₂ (side t1 x g u w) (Fin.ext h0) (Fin.ext (by show (i 1).val - 1024 = n.val; omega))

/-- The word of one half. -/
theorem half_word : (FloatOps.ofBits FTy.f32 0x3F000000#32 : Ideal .f32) = ((1 / 2 : ℝ) : EReal) := by
  show Ideal.ofBits .f32 0x3F000000#32 = _
  simp [Ideal.ofBits, Ideal.ieee, -EReal.coe_mul]; norm_num

/-- The logistic of a real number by the hyperbolic tangent of its half. -/
theorem real_logistic (r : ℝ) : (1 / 2 : ℝ) * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have ha : a + b ≠ 0 := by positivity
  have hb : 1 + b * b ≠ 0 := by positivity
  field_simp
  linear_combination (2 * b) * h2

/-- Half of the hyperbolic tangent of the half, plus a half, is the logistic, at the infinities too. -/
theorem logistic_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    have : (-1 : EReal) = ((-1 : ℝ) : EReal) := by rw [EReal.coe_neg, EReal.coe_one]
    rw [this, ← EReal.coe_mul, ← EReal.coe_add]
    norm_num
  | top =>
    rw [EReal.coe_mul_top_of_pos (by norm_num), Ideal.tanh_top, Ideal.logistic_top, mul_one, ← EReal.coe_add, ← EReal.coe_one]
    norm_num
  | coe r =>
    rw [← EReal.coe_mul, Ideal.tanh_coe, ← EReal.coe_mul, ← EReal.coe_add, Ideal.logistic_coe, real_logistic]

/-- The hidden units of a tile from its gate and up projections side by side. -/
def act (G : FVec Ideal ⟨2, ![256, 1024]⟩ .f32) (h0 : (⟨2, ![256, 1024]⟩ : Shape).Slices ![0, 0] ⟨2, ![256, 512]⟩)
    (h1 : (⟨2, ![256, 1024]⟩ : Shape).Slices ![0, 512] ⟨2, ![256, 512]⟩) : FVec Ideal ⟨2, ![256, 512]⟩ .f32 :=
  let g := extractStridedSlice ⟨2, ![256, 512]⟩ ![0, 0] G h0
  let half : FVec Ideal ⟨2, ![256, 512]⟩ .f32 := broadcast _ (Scalar.ofBits .f32 0x3F000000#32)
  mulf (mulf g (addf (mulf half (tanh (mulf half g))) half)) (extractStridedSlice ⟨2, ![256, 512]⟩ ![0, 512] G h1)

/-- A hidden unit of a tile. -/
theorem act_apply (G : FVec Ideal ⟨2, ![256, 1024]⟩ .f32) (h0 h1) (r : Fin 256) (f : Fin 512) (a b : EReal)
    (ha : G (ix2 r ⟨f.val, by omega⟩) = a) (hb : G (ix2 r ⟨512 + f.val, by omega⟩) = b) :
    act G h0 h1 (ix2 r f) = a * Ideal.logistic a * b := by
  have e0 : extractStridedSlice ⟨2, ![256, 512]⟩ ![0, 0] G h0 (ix2 r f) = a :=
    (slice2_axis1_apply 0 G h0 r f ⟨f.val, by omega⟩ (Nat.zero_add _).symm).trans ha
  have e1 : extractStridedSlice ⟨2, ![256, 512]⟩ ![0, 512] G h1 (ix2 r f) = b :=
    (slice2_axis1_apply 512 G h1 r f ⟨512 + f.val, by omega⟩ rfl).trans hb
  show FloatOps.mulf (FloatOps.mulf (extractStridedSlice ⟨2, ![256, 512]⟩ ![0, 0] G h0 (ix2 r f))
      (FloatOps.addf (FloatOps.mulf (FloatOps.ofBits FTy.f32 0x3F000000#32) (FloatOps.tanh (FloatOps.mulf (FloatOps.ofBits FTy.f32 0x3F000000#32)
        (extractStridedSlice ⟨2, ![256, 512]⟩ ![0, 0] G h0 (ix2 r f))))) (FloatOps.ofBits FTy.f32 0x3F000000#32)))
      (extractStridedSlice ⟨2, ![256, 512]⟩ ![0, 512] G h1 (ix2 r f)) = _
  rw [e0, e1, half_word]
  simp only [Ideal.mulf_def, Ideal.addf_def, Ideal.tanh_def]
  rw [logistic_eq]

end Cert.Experts

end
-- ==== Proof.ExpertsBlock.lean ====
/- What one grid point of the experts call writes, read at an entry: the row's first expert in the left half, its second
   expert in the right half. -/
module

public import proofs.«01_k».proof.Proof.ExpertsSpec
public import proofs.«01_k».proof.Proof.Gen.Kernel3Ideal.Frame
public import Idealize.ShloMosaic.Lib.Pipeline.ValueKit.Tiles

@[expose] public section

set_option maxRecDepth 16384

noncomputable section

namespace Cert.Kernel3Ideal.Blk

open Cert.Kernel3Ideal Cert.Kernel3Ideal.Gen Idealize.ShloMosaic Idealize.ShloMosaic.TcCoe Idealize.SL.Sem Idealize.ShloMosaic.ValueIdx
open Cert.Attn Cert.Experts
open scoped BigOperators

/-- A block of one matrix, read without its leading axis. -/
theorem cast_apply {a b : ℕ} (v : FVec Ideal ⟨3, ![1, a, b]⟩ .bf16) (h) (p : Fin a) (q : Fin b) :
    shapeCast ⟨2, ![a, b]⟩ v h (ix2 p q) = v (ix3 0 p q) :=
  shapeCast_apply _ h (ix2 p q) (ix3 0 p q)
    (by rw [Shape.rowMajor_val_three, Shape.rowMajor_val_two]; show (0 * a + p.val) * b + q.val = p.val * b + q.val; rw [Nat.zero_mul, Nat.zero_add])

/-- A hidden unit of the block's rows under one expert. -/
theorem pay4_apply (x : Vec Ideal S256x1024 .f32) (w : Vec Ideal S1x1024x1024 .bf16) (r : Fin 256) (f : Fin 512) :
    k0_pay4 (F := Ideal) x w (ix2 r f)
      = unit (fun d => x (ix2 r d)) (fun d => w (ix3 0 d ⟨f.val, by omega⟩)) (fun d => w (ix3 0 d ⟨512 + f.val, by omega⟩)) := by
  have gu : ∀ k : Fin 1024, matmul (φ₂ := .bf16) (DotDims.plain 256 1024 1024) none (k0_pay2 (F := Ideal) x) (shapeCast S1024x1024 w shapeCasts_S1x1024x1024_S1024x1024)
      (constant (F := Ideal) S256x1024 .f32 0x00000000#32) (ix2 r k) = proj (fun d => x (ix2 r d)) (fun d => w (ix3 0 d k)) := by
    intro k
    refine (Ideal.matmul_plain_apply none _ _ _ r k).trans ?_
    rw [constant_zero, zero_add]
    refine Finset.sum_congr rfl fun d _ => ?_
    rw [cast_apply]
    rfl
  exact act_apply _ slices_S256x1024_o0_0_S256x512 slices_S256x1024_o0_512_S256x512 r f _ _ (gu _) (gu _)

/-- An output of the block's rows under one expert. -/
theorem pay1_apply (x : Vec Ideal S256x1024 .f32) (w : Vec Ideal S1x1024x1024 .bf16) (wd : Vec Ideal S1x512x1024 .bf16) (r : Fin 256) (n : Fin 1024) :
    k0_pay1 (F := Ideal) (k0_pay4 x w) wd (ix2 r n)
      = expert (fun d => x (ix2 r d)) (fun f d => w (ix3 0 d ⟨f.val, by omega⟩)) (fun f d => w (ix3 0 d ⟨512 + f.val, by omega⟩))
          (fun f => wd (ix3 0 f n)) := by
  have key : ∀ h : FVec Ideal S256x512 .bf16, k0_pay1 (F := Ideal) h wd (ix2 r n) = ∑ f : Fin 512, h (ix2 r f) * wd (ix3 0 f n) := by
    intro h
    refine (Ideal.matmul_plain_apply none h (shapeCast S512x1024 wd shapeCasts_S1x512x1024_S512x1024)
      (constant (F := Ideal) S256x1024 .f32 0x00000000#32) r n).trans ?_
    rw [constant_zero, zero_add]
    exact Finset.sum_congr rfl fun f _ => by rw [cast_apply]
  rw [key]
  exact Finset.sum_congr rfl fun f _ => by rw [pay4_apply]

/-- The first store's value is the second's at the first expert's weights. -/
theorem pay3_eq (x : Vec Ideal S256x1024 .f32) (w : Vec Ideal S1x1024x1024 .bf16) (wd : Vec Ideal S1x512x1024 .bf16) :
    k0_pay3 (F := Ideal) x w wd = k0_pay1 (k0_pay4 x w) wd := rfl

/-- The zero offset, as a constant function. -/
theorem hz2 : (![0, 0] : Fin 2 → Nat) = fun _ => 0 := funext fun a => by fin_cases a <;> rfl
/-- The zero offset, as a constant function. -/
theorem hz3 : (![0, 0, 0] : Fin 3 → Nat) = fun _ => 0 := funext fun a => by fin_cases a <;> rfl

/-- What a grid point writes, as its two stores. -/
theorem out_eq (c : Dev nD) (i : grid0.Coords) (a3 : Memref sig .tc .vmem S256x1024 .f32) (h3 : a3.IsWhole)
    (a4 : Memref sig .tc .vmem S1x1024x1024 .bf16) (h4 : a4.IsWhole) (a5 : Memref sig .tc .vmem S1x512x1024 .bf16) (h5 : a5.IsWhole)
    (a6 : Memref sig .tc .vmem S1x1024x1024 .bf16) (h6 : a6.IsWhole) (a7 : Memref sig .tc .vmem S1x512x1024 .bf16) (h7 : a7.IsWhole)
    (a8 : Memref sig .tc .vmem S256x2048 .f32) (h8 : a8.IsWhole)
    (x0 : Vec Ideal S256x1024 .f32) (x1 : Vec Ideal S1x1024x1024 .bf16) (x2 : Vec Ideal S1x512x1024 .bf16)
    (x3 : Vec Ideal S1x1024x1024 .bf16) (x4 : Vec Ideal S1x512x1024 .bf16)
    (xt0 : TbBuf0 (F := Ideal) c tbM0_0) (xt1 : TbBuf0 (F := Ideal) c tbM0_1) :
    out0_A_5 (F := Ideal) c i a3 h3 a4 h4 a5 h5 a6 h6 a7 h7 a8 h8 x0 x1 x2 x3 x4 xt0 xt1
      = View.canon (Val := Elt Idealize.ShloMosaic.Ideal) (s := S256x2048) (e := .f32)
          [⟨Rect.unit (s := S256x2048) ![0, 1024] S256x1024.size inb_S256x2048_S256x1024_0_1024, k0_pay1 (F := Ideal) (k0_pay4 x0 x3) x4⟩,
            ⟨Rect.unit (s := S256x2048) ![0, 0] S256x1024.size inb_S256x2048_S256x1024_0_0, k0_pay1 (F := Ideal) (k0_pay4 x0 x1) x2⟩] := by
  unfold out0_A_5
  rw [View.read_writes_eq_canon _ _ _ (cover0_A_5 c i a3 h3 a4 h4 a5 h5 a6 h6 a7 h7 a8 h8 x0 x1 x2 x3 x4 xt0 xt1)]
  unfold kernelRun0_A
  dsimp only
  sl_unfold_words
  simp only [View.readAt_eq_ld, h3.read_unread, h4.read_unread, h5.read_unread, h6.read_unread, h7.read_unread]
  rw [View.ld_unit_zero hz2, View.ld_unit_zero hz3, View.ld_unit_zero hz3, View.ld_unit_zero hz3, View.ld_unit_zero hz3]
  rw [pay3_eq]

/-- The left half: the first expert. -/
theorem canon_left (p0 p1 : Vec Ideal S256x1024 .f32) (r : Fin 256) (n : Fin 1024) :
    View.canon (Val := Elt Idealize.ShloMosaic.Ideal) (s := S256x2048) (e := .f32)
      [⟨Rect.unit (s := S256x2048) ![0, 1024] S256x1024.size inb_S256x2048_S256x1024_0_1024, p1⟩,
        ⟨Rect.unit (s := S256x2048) ![0, 0] S256x1024.size inb_S256x2048_S256x1024_0_0, p0⟩] (ix2 r ⟨n.val, by omega⟩) = p0 (ix2 r n) := by
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · have h : n.val = 1024 + (x 1).val := hx 1
    omega
  · obtain ⟨p, q, rfl⟩ : ∃ (p : Fin 256) (q : Fin 1024), x = ix2 p q := ⟨x 0, x 1, eq_ix2 x⟩
    have h0 : r.val = 0 + p.val := hx 0
    have h1 : n.val = 0 + q.val := hx 1
    have e0 : p = r := Fin.ext (by omega)
    have e1 : q = n := Fin.ext (by omega)
    rw [e0, e1]

/-- The right half: the second expert. -/
theorem canon_right (p0 p1 : Vec Ideal S256x1024 .f32) (r : Fin 256) (n : Fin 1024) :
    View.canon (Val := Elt Idealize.ShloMosaic.Ideal) (s := S256x2048) (e := .f32)
      [⟨Rect.unit (s := S256x2048) ![0, 1024] S256x1024.size inb_S256x2048_S256x1024_0_1024, p1⟩,
        ⟨Rect.unit (s := S256x2048) ![0, 0] S256x1024.size inb_S256x2048_S256x1024_0_0, p0⟩] (ix2 r ⟨1024 + n.val, by omega⟩) = p1 (ix2 r n) := by
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_nil _ _))
  · obtain ⟨p, q, rfl⟩ : ∃ (p : Fin 256) (q : Fin 1024), x = ix2 p q := ⟨x 0, x 1, eq_ix2 x⟩
    have h0 : r.val = 0 + p.val := hx 0
    have h1 : 1024 + n.val = 1024 + q.val := hx 1
    have e0 : p = r := Fin.ext (by omega)
    have e1 : q = n := Fin.ext (by omega)
    rw [e0, e1]
  · obtain ⟨p, q, rfl⟩ : ∃ (p : Fin 256) (q : Fin 1024), x = ix2 p q := ⟨x 0, x 1, eq_ix2 x⟩
    have h1 : 1024 + n.val = 0 + q.val := hx 1
    omega

end Cert.Kernel3Ideal.Blk

end
-- ==== Proof.ExpertsHost.lean ====
/- The weights the experts call's windows hold when it starts, read at an entry of the arguments. -/
module

public import proofs.«01_k».proof.Proof.Gen.Kernel3Ideal.Frame
public import Idealize.ShloMosaic.Lib.StableHlo.RunRead
public import Idealize.ShloMosaic.Lib.IdealHost
public import Idealize.ShloMosaic.Lib.ValueIdx
public import Idealize.ShloMosaic.Lib.ValueLayout

@[expose] public section

set_option maxRecDepth 16384

noncomputable section

namespace Cert.Kernel3Ideal.Host

open Cert.Kernel3Ideal Cert.Kernel3Ideal.Gen Idealize.ShloMosaic Idealize.ShloMosaic.TcCoe Idealize.SL.Sem Idealize.ShloMosaic.ValueIdx

variable (m : (ℓ : Loc nD τ sig) → Buf (Elt Idealize.ShloMosaic.Ideal) ℓ)

/-- The gate's columns. -/
theorem gate_apply (c : Dev nD) (e : Fin 16) (d : Fin 1024) (f : Fin 512) :
    (V m c main_v1 : Vec Ideal S16x1024x1024 .bf16) (ix3 e d ⟨f.val, by omega⟩)
      = (m (c, Proc.tc.devRef main_arg3) : Vec Ideal S16x1024x512 .f32) (ix3 e d f) := by
  after_reads_simp
  rw [truncf_apply]
  exact concatenate_pair_apply_left (t := S16x1024x1024) (s₁ := S16x1024x512) (s₂ := S16x1024x512) 2 _ _ _
    (ix3 e d (⟨f.val, by omega⟩ : Fin 1024)) rfl (ix3 e d f) fun b => match b with
    | ⟨0, _⟩ => rfl
    | ⟨1, _⟩ => rfl
    | ⟨2, _⟩ => rfl

/-- The up projection's columns. -/
theorem up_apply (c : Dev nD) (e : Fin 16) (d : Fin 1024) (f : Fin 512) :
    (V m c main_v1 : Vec Ideal S16x1024x1024 .bf16) (ix3 e d ⟨512 + f.val, by omega⟩)
      = (m (c, Proc.tc.devRef main_arg4) : Vec Ideal S16x1024x512 .f32) (ix3 e d f) := by
  after_reads_simp
  rw [truncf_apply]
  refine concatenate_pair_apply_right (t := S16x1024x1024) (s₁ := S16x1024x512) (s₂ := S16x1024x512) 2 _ _ _
    (ix3 e d (⟨512 + f.val, by omega⟩ : Fin 1024)) rfl rfl (ix3 e d f) (fun b hb => ?_) ?_
  · match b, hb with
    | ⟨0, _⟩, _ => rfl
    | ⟨1, _⟩, _ => rfl
    | ⟨2, _⟩, hb => exact absurd rfl hb
  · show f.val + 512 = 512 + f.val
    omega

/-- The down projection. -/
theorem down_apply (c : Dev nD) (e : Fin 16) (f : Fin 512) (n : Fin 1024) :
    (V m c main_v2 : Vec Ideal S16x512x1024 .bf16) (ix3 e f n)
      = (m (c, Proc.tc.devRef main_arg5) : Vec Ideal S16x512x1024 .f32) (ix3 e f n) := by
  after_reads_simp
  rw [truncf_apply]

end Cert.Kernel3Ideal.Host

end
-- ==== Proof.ExpertsArray.lean ====
/- The experts call's result array after the run, as one expression of the arguments: every block is what its grid point
   wrote, and the blocks tile the array. -/
module

public import proofs.«01_k».proof.Proof.ExpertsBlock
public import proofs.«01_k».proof.Proof.ExpertsHost

@[expose] public section

set_option maxRecDepth 16384

noncomputable section

namespace Cert.Kernel3Ideal.RefValue

open Cert.Kernel3Ideal Cert.Kernel3Ideal.Gen Idealize.ShloMosaic Idealize.ShloMosaic.TcCoe Idealize.SL.Sem Idealize.ShloMosaic.ValueIdx
open Idealize.ShloMosaic.Pipeline (Dat)
open Cert.Experts

variable (m : (ℓ : Loc nD τ sig) → Buf (Elt Idealize.ShloMosaic.Ideal) ℓ) (hO : Ok m)

/-- Device `c`'s rows through the experts its tables name. -/
abbrev out (c : Dev nD) : Vec Ideal S38912x2048 .f32 :=
  both (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))

/-- A grid point's coordinate is its number. -/
theorem coords0 : ∀ t : Fin grid0.N, (grid0.coords t 0).val = t.val := by decide +kernel

/-- The table entry a grid point reads. -/
theorem off_val : ∀ n : Fin 152, (Scalar.indexCast (BitVec.ofNat 32 n.val)).toNat = n.val := by decide +kernel

/-- The table's entry the windows read at a grid point. -/
theorem entry_eq (i : grid0.Coords) (h) :
    (Rect.unit (s := S152) ![(Scalar.indexCast (BitVec.ofNat 32 (i 0).val)).toNat] S1.size h).emb (Shape.Idx.first (numel1_S1.symm ▸ Nat.one_pos))
      = ix1 ⟨(i 0).val, (i 0).isLt⟩ := funext fun a => Fin.ext (by
  match a with
  | ⟨0, _⟩ =>
    show (Scalar.indexCast (BitVec.ofNat 32 (i 0).val)).toNat + 1 * (Shape.Idx.first (s := S1) (numel1_S1.symm ▸ Nat.one_pos) 0).val = (i 0).val
    have e : (Shape.Idx.first (s := S1) (numel1_S1.symm ▸ Nat.one_pos) 0).val < 1 := (Shape.Idx.first (s := S1) (numel1_S1.symm ▸ Nat.one_pos) 0).isLt
    have := off_val ⟨(i 0).val, (i 0).isLt⟩
    dsimp only at this
    omega)

/-- The prefetched table is the argument. -/
theorem tbl0 (c : Dev nD) : tbl m 0 = (m (c, Proc.tc.devRef main_arg0) : Vec Ideal S152 .i32) := by
  obtain rfl : c = 0 := Subsingleton.elim (α := Fin 1) c 0
  exact V_main_arg0 m 0

/-- The prefetched table is the argument. -/
theorem tbl1 (c : Dev nD) : tbl m 1 = (m (c, Proc.tc.devRef main_arg1) : Vec Ideal S152 .i32) := by
  obtain rfl : c = 0 := Subsingleton.elim (α := Fin 1) c 0
  exact V_main_arg1 m 0

/-- The word of table 0 at a point. -/
abbrev w0 (c : Dev nD) (t : Fin grid0.N) : BitVec 32 := (m (c, Proc.tc.devRef main_arg0) : Vec Ideal S152 .i32) (ix1 ⟨t.val, lt_of_lt_of_eq t.isLt N_0⟩)
/-- The word of table 1 at a point. -/
abbrev w1 (c : Dev nD) (t : Fin grid0.N) : BitVec 32 := (m (c, Proc.tc.devRef main_arg1) : Vec Ideal S152 .i32) (ix1 ⟨t.val, lt_of_lt_of_eq t.isLt N_0⟩)

/-- The table's entry at a grid point. -/
theorem at0 (c : Dev nD) (t : Fin grid0.N) (h) :
    tbl m 0 ((Rect.unit (s := S152) ![(Scalar.indexCast (BitVec.ofNat 32 (grid0.coords t 0).val)).toNat] S1.size h).emb (Shape.Idx.first (numel1_S1.symm ▸ Nat.one_pos)))
      = w0 m c t := by
  rw [tbl0 m c, entry_eq]
  exact congrArg (m (c, Proc.tc.devRef main_arg0) : Vec Ideal S152 .i32) (congrArg ix1 (Fin.ext (coords0 t)))

/-- The table's entry at a grid point. -/
theorem at1 (c : Dev nD) (t : Fin grid0.N) (h) :
    tbl m 1 ((Rect.unit (s := S152) ![(Scalar.indexCast (BitVec.ofNat 32 (grid0.coords t 0).val)).toNat] S1.size h).emb (Shape.Idx.first (numel1_S1.symm ▸ Nat.one_pos)))
      = w1 m c t := by
  rw [tbl1 m c, entry_eq]
  exact congrArg (m (c, Proc.tc.devRef main_arg1) : Vec Ideal S152 .i32) (congrArg ix1 (Fin.ext (coords0 t)))

/-- Which block each window is on at a point. -/
theorem index0 : ∀ t : Fin grid0.N, cc0_transform_0 (grid0.coords t) 0 = t.val ∧ cc0_transform_0 (grid0.coords t) 1 = 0 := by decide +kernel
/-- Which block window 5 takes at a grid point. -/
theorem index5 : ∀ t : Fin grid0.N, cc0_transform_5 (grid0.coords t) 0 = t.val ∧ cc0_transform_5 (grid0.coords t) 1 = 0 := by decide +kernel
/-- Which block window 1 takes at a grid point. -/
theorem index1 (c : Dev nD) (t : Fin grid0.N) : cc0_transform_1 k0_off1_inb numel1_S1 (tbl m) (grid0.coords t) 0 = (w0 m c t).toNat := by
  rw [← at0 m c t (k0_off1_inb _)]; rfl
/-- Which block window 2 takes at a grid point. -/
theorem index2 (c : Dev nD) (t : Fin grid0.N) : cc0_transform_2 k0_off1_inb numel1_S1 (tbl m) (grid0.coords t) 0 = (w0 m c t).toNat := by
  rw [← at0 m c t (k0_off1_inb _)]; rfl
/-- Which block window 3 takes at a grid point. -/
theorem index3 (c : Dev nD) (t : Fin grid0.N) : cc0_transform_3 k0_off1_inb numel1_S1 (tbl m) (grid0.coords t) 0 = (w1 m c t).toNat := by
  rw [← at1 m c t (k0_off1_inb _)]; rfl
/-- Which block window 4 takes at a grid point. -/
theorem index4 (c : Dev nD) (t : Fin grid0.N) : cc0_transform_4 k0_off1_inb numel1_S1 (tbl m) (grid0.coords t) 0 = (w1 m c t).toNat := by
  rw [← at1 m c t (k0_off1_inb _)]; rfl

/-- Window 0's block at a point: its 256 rows. -/
theorem blk0 (c : Dev nD) (t : Fin (cfgM m hO).N) (r : Fin 256) (d : Fin 1024) (R : Fin 38912) (hR : R.val = t.val * 256 + r.val) :
    (iblk m hO c 0 t : Vec Ideal S256x1024 .f32) (ix2 r d) = (m (c, Proc.tc.devRef main_arg2) : Vec Ideal S38912x1024 .f32) (ix2 R d) := by
  have key : ∀ f : (b : Ref sig .tc) → Buf (Elt Ideal) ((c : Thread nD τ).loc b),
      ((((cfgM m hO).win 0).blk t).view.read (Elt Ideal) (f (Pipeline.arrRef spec0 0)) : Vec Ideal S256x1024 .f32) (ix2 r d)
        = f main_arg2 ((((cfgM m hO).win 0).blk t).view.emb (ix2 r d)) := fun _ => rfl
  refine (key (V m c)).trans ?_
  rw [V_main_arg2 m c]
  refine congrArg (m (c, Proc.tc.devRef main_arg2) : Vec Ideal S38912x1024 .f32) (funext fun a => Fin.ext ?_)
  match a with
  | ⟨0, _⟩ =>
    show cc0_transform_0 (grid0.coords t) 0 * 256 + 1 * r.val = R.val
    rw [(index0 t).1]; omega
  | ⟨1, _⟩ =>
    show cc0_transform_0 (grid0.coords t) 1 * 1024 + 1 * d.val = d.val
    rw [(index0 t).2]; omega

/-- Window 1's block at a point: the first expert's gate and up projections. -/
theorem blk1 (c : Dev nD) (t : Fin (cfgM m hO).N) (d k : Fin 1024) (h : (w0 m c t).toNat < 16) :
    (iblk m hO c 1 t : Vec Ideal S1x1024x1024 .bf16) (ix3 0 d k) = (V m c main_v1 : Vec Ideal S16x1024x1024 .bf16) (ix3 (pick (w0 m c t)) d k) := by
  have key : ∀ f : (b : Ref sig .tc) → Buf (Elt Ideal) ((c : Thread nD τ).loc b),
      ((((cfgM m hO).win 1).blk t).view.read (Elt Ideal) (f (Pipeline.arrRef spec0 1)) : Vec Ideal S1x1024x1024 .bf16) (ix3 0 d k)
        = f main_v1 ((((cfgM m hO).win 1).blk t).view.emb (ix3 0 d k)) := fun _ => rfl
  refine (key (V m c)).trans (congrArg (V m c main_v1) (funext fun a => Fin.ext ?_))
  match a with
  | ⟨0, _⟩ =>
    show cc0_transform_1 k0_off1_inb numel1_S1 (tbl m) (grid0.coords t) 0 * 1 + 1 * 0 = (pick (w0 m c t)).val
    rw [index1 m c t, pick_val h]; omega
  | ⟨1, _⟩ =>
    show 0 * 1024 + 1 * d.val = d.val
    omega
  | ⟨2, _⟩ =>
    show 0 * 1024 + 1 * k.val = k.val
    omega

/-- Window 2's block at a point: the first expert's down projection. -/
theorem blk2 (c : Dev nD) (t : Fin (cfgM m hO).N) (f : Fin 512) (n : Fin 1024) (h : (w0 m c t).toNat < 16) :
    (iblk m hO c 2 t : Vec Ideal S1x512x1024 .bf16) (ix3 0 f n) = (V m c main_v2 : Vec Ideal S16x512x1024 .bf16) (ix3 (pick (w0 m c t)) f n) := by
  have key : ∀ g : (b : Ref sig .tc) → Buf (Elt Ideal) ((c : Thread nD τ).loc b),
      ((((cfgM m hO).win 2).blk t).view.read (Elt Ideal) (g (Pipeline.arrRef spec0 2)) : Vec Ideal S1x512x1024 .bf16) (ix3 0 f n)
        = g main_v2 ((((cfgM m hO).win 2).blk t).view.emb (ix3 0 f n)) := fun _ => rfl
  refine (key (V m c)).trans (congrArg (V m c main_v2) (funext fun a => Fin.ext ?_))
  match a with
  | ⟨0, _⟩ =>
    show cc0_transform_2 k0_off1_inb numel1_S1 (tbl m) (grid0.coords t) 0 * 1 + 1 * 0 = (pick (w0 m c t)).val
    rw [index2 m c t, pick_val h]; omega
  | ⟨1, _⟩ =>
    show 0 * 512 + 1 * f.val = f.val
    omega
  | ⟨2, _⟩ =>
    show 0 * 1024 + 1 * n.val = n.val
    omega

/-- Window 3's block at a point: the second expert's gate and up projections. -/
theorem blk3 (c : Dev nD) (t : Fin (cfgM m hO).N) (d k : Fin 1024) (h : (w1 m c t).toNat < 16) :
    (iblk m hO c 3 t : Vec Ideal S1x1024x1024 .bf16) (ix3 0 d k) = (V m c main_v1 : Vec Ideal S16x1024x1024 .bf16) (ix3 (pick (w1 m c t)) d k) := by
  have key : ∀ f : (b : Ref sig .tc) → Buf (Elt Ideal) ((c : Thread nD τ).loc b),
      ((((cfgM m hO).win 3).blk t).view.read (Elt Ideal) (f (Pipeline.arrRef spec0 3)) : Vec Ideal S1x1024x1024 .bf16) (ix3 0 d k)
        = f main_v1 ((((cfgM m hO).win 3).blk t).view.emb (ix3 0 d k)) := fun _ => rfl
  refine (key (V m c)).trans (congrArg (V m c main_v1) (funext fun a => Fin.ext ?_))
  match a with
  | ⟨0, _⟩ =>
    show cc0_transform_3 k0_off1_inb numel1_S1 (tbl m) (grid0.coords t) 0 * 1 + 1 * 0 = (pick (w1 m c t)).val
    rw [index3 m c t, pick_val h]; omega
  | ⟨1, _⟩ =>
    show 0 * 1024 + 1 * d.val = d.val
    omega
  | ⟨2, _⟩ =>
    show 0 * 1024 + 1 * k.val = k.val
    omega

/-- Window 4's block at a point: the second expert's down projection. -/
theorem blk4 (c : Dev nD) (t : Fin (cfgM m hO).N) (f : Fin 512) (n : Fin 1024) (h : (w1 m c t).toNat < 16) :
    (iblk m hO c 4 t : Vec Ideal S1x512x1024 .bf16) (ix3 0 f n) = (V m c main_v2 : Vec Ideal S16x512x1024 .bf16) (ix3 (pick (w1 m c t)) f n) := by
  have key : ∀ g : (b : Ref sig .tc) → Buf (Elt Ideal) ((c : Thread nD τ).loc b),
      ((((cfgM m hO).win 4).blk t).view.read (Elt Ideal) (g (Pipeline.arrRef spec0 4)) : Vec Ideal S1x512x1024 .bf16) (ix3 0 f n)
        = g main_v2 ((((cfgM m hO).win 4).blk t).view.emb (ix3 0 f n)) := fun _ => rfl
  refine (key (V m c)).trans (congrArg (V m c main_v2) (funext fun a => Fin.ext ?_))
  match a with
  | ⟨0, _⟩ =>
    show cc0_transform_4 k0_off1_inb numel1_S1 (tbl m) (grid0.coords t) 0 * 1 + 1 * 0 = (pick (w1 m c t)).val
    rw [index4 m c t, pick_val h]; omega
  | ⟨1, _⟩ =>
    show 0 * 512 + 1 * f.val = f.val
    omega
  | ⟨2, _⟩ =>
    show 0 * 1024 + 1 * n.val = n.val
    omega

/-- A point's first store is the rows under their first expert. -/
theorem first_eq (c : Dev nD) (t : Fin (cfgM m hO).N) (r : Fin 256) (n : Fin 1024) (R : Fin 38912) (hR : R.val = t.val * 256 + r.val)
    (h : (w0 m c t).toNat < 16) :
    k0_pay1 (F := Ideal) (k0_pay4 (iblk m hO c 0 t) (iblk m hO c 1 t)) (iblk m hO c 2 t) (ix2 r n)
      = side (m (c, Proc.tc.devRef main_arg0)) (m (c, Proc.tc.devRef main_arg2)) (m (c, Proc.tc.devRef main_arg3))
          (m (c, Proc.tc.devRef main_arg4)) (m (c, Proc.tc.devRef main_arg5)) R n := by
  have e : ix1 (⟨R.val / 256, by omega⟩ : Fin 152) = ix1 ⟨t.val, lt_of_lt_of_eq t.isLt N_0⟩ := congrArg ix1 (Fin.ext (by show R.val / 256 = t.val; omega))
  refine (Blk.pay1_apply _ _ _ r n).trans ?_
  unfold side
  rw [e]
  have h0 : (fun d => (iblk m hO c 0 t : Vec Ideal S256x1024 .f32) (ix2 r d)) = fun d => (m (c, Proc.tc.devRef main_arg2) : Vec Ideal S38912x1024 .f32) (ix2 R d) :=
    funext fun d => blk0 m hO c t r d R hR
  have h1 : (fun (f : Fin 512) d => (iblk m hO c 1 t : Vec Ideal S1x1024x1024 .bf16) (ix3 0 d ⟨f.val, by omega⟩))
      = fun f d => (m (c, Proc.tc.devRef main_arg3) : Vec Ideal S16x1024x512 .f32) (ix3 (pick (w0 m c t)) d f) :=
    funext fun f => funext fun d => (blk1 m hO c t d _ h).trans (Host.gate_apply m c _ d f)
  have h2 : (fun (f : Fin 512) d => (iblk m hO c 1 t : Vec Ideal S1x1024x1024 .bf16) (ix3 0 d ⟨512 + f.val, by omega⟩))
      = fun f d => (m (c, Proc.tc.devRef main_arg4) : Vec Ideal S16x1024x512 .f32) (ix3 (pick (w0 m c t)) d f) :=
    funext fun f => funext fun d => (blk1 m hO c t d _ h).trans (Host.up_apply m c _ d f)
  have h3 : (fun f : Fin 512 => (iblk m hO c 2 t : Vec Ideal S1x512x1024 .bf16) (ix3 0 f n))
      = fun f => (m (c, Proc.tc.devRef main_arg5) : Vec Ideal S16x512x1024 .f32) (ix3 (pick (w0 m c t)) f n) :=
    funext fun f => (blk2 m hO c t f n h).trans (Host.down_apply m c _ f n)
  rw [h0, h1, h2, h3]

/-- A point's second store is the rows under their second expert. -/
theorem second_eq (c : Dev nD) (t : Fin (cfgM m hO).N) (r : Fin 256) (n : Fin 1024) (R : Fin 38912) (hR : R.val = t.val * 256 + r.val)
    (h : (w1 m c t).toNat < 16) :
    k0_pay1 (F := Ideal) (k0_pay4 (iblk m hO c 0 t) (iblk m hO c 3 t)) (iblk m hO c 4 t) (ix2 r n)
      = side (m (c, Proc.tc.devRef main_arg1)) (m (c, Proc.tc.devRef main_arg2)) (m (c, Proc.tc.devRef main_arg3))
          (m (c, Proc.tc.devRef main_arg4)) (m (c, Proc.tc.devRef main_arg5)) R n := by
  have e : ix1 (⟨R.val / 256, by omega⟩ : Fin 152) = ix1 ⟨t.val, lt_of_lt_of_eq t.isLt N_0⟩ := congrArg ix1 (Fin.ext (by show R.val / 256 = t.val; omega))
  refine (Blk.pay1_apply _ _ _ r n).trans ?_
  unfold side
  rw [e]
  have h0 : (fun d => (iblk m hO c 0 t : Vec Ideal S256x1024 .f32) (ix2 r d)) = fun d => (m (c, Proc.tc.devRef main_arg2) : Vec Ideal S38912x1024 .f32) (ix2 R d) :=
    funext fun d => blk0 m hO c t r d R hR
  have h1 : (fun (f : Fin 512) d => (iblk m hO c 3 t : Vec Ideal S1x1024x1024 .bf16) (ix3 0 d ⟨f.val, by omega⟩))
      = fun f d => (m (c, Proc.tc.devRef main_arg3) : Vec Ideal S16x1024x512 .f32) (ix3 (pick (w1 m c t)) d f) :=
    funext fun f => funext fun d => (blk3 m hO c t d _ h).trans (Host.gate_apply m c _ d f)
  have h2 : (fun (f : Fin 512) d => (iblk m hO c 3 t : Vec Ideal S1x1024x1024 .bf16) (ix3 0 d ⟨512 + f.val, by omega⟩))
      = fun f d => (m (c, Proc.tc.devRef main_arg4) : Vec Ideal S16x1024x512 .f32) (ix3 (pick (w1 m c t)) d f) :=
    funext fun f => funext fun d => (blk3 m hO c t d _ h).trans (Host.up_apply m c _ d f)
  have h3 : (fun f : Fin 512 => (iblk m hO c 4 t : Vec Ideal S1x512x1024 .bf16) (ix3 0 f n))
      = fun f => (m (c, Proc.tc.devRef main_arg5) : Vec Ideal S16x512x1024 .f32) (ix3 (pick (w1 m c t)) f n) :=
    funext fun f => (blk4 m hO c t f n h).trans (Host.down_apply m c _ f n)
  rw [h0, h1, h2, h3]

/-- What the body leaves in the result's buffer at point `t`. -/
theorem after_eq (c : Dev nD) (t : Fin (cfgM m hO).N) :
    (dats m hO 0 c).after 5 t
      = View.canon (Val := Elt Idealize.ShloMosaic.Ideal) (s := S256x2048) (e := .f32)
          [⟨Rect.unit (s := S256x2048) ![0, 1024] S256x1024.size inb_S256x2048_S256x1024_0_1024,
              k0_pay1 (F := Ideal) (k0_pay4 (iblk m hO c 0 t) (iblk m hO c 3 t)) (iblk m hO c 4 t)⟩,
            ⟨Rect.unit (s := S256x2048) ![0, 0] S256x1024.size inb_S256x2048_S256x1024_0_0,
              k0_pay1 (F := Ideal) (k0_pay4 (iblk m hO c 0 t) (iblk m hO c 1 t)) (iblk m hO c 2 t)⟩] :=
  (after0_5 m hO c t).trans (Blk.out_eq c (grid0.coords t) _ _ _ _ _ _ _ _ _ _ _ _ (iblk m hO c 0 t) (iblk m hO c 1 t) (iblk m hO c 2 t)
    (iblk m hO c 3 t) (iblk m hO c 4 t) (tbl m 0) (tbl m 1))

/-- What point `t` writes back is block `t` of the result. -/
theorem flushed_eq (c : Dev nD) (t : Fin (cfgM m hO).N) (ha : (w0 m c t).toNat < 16) (hb : (w1 m c t).toNat < 16) :
    (dats m hO 0 c).flushed 5 t = (((cfgM m hO).win 5).blk t).view.read (Elt Ideal) (out m c) := by
  show ((cfgM m hO).win 5).cut (grid0.coords t) ((dats m hO 0 c).after 5 t) = _
  rw [after_eq]
  have hN : t.val < 152 := lt_of_lt_of_eq t.isLt N_0
  refine funext fun (j : S256x2048.Idx) => ?_
  have h0 : (j 0).val < 256 := (j 0).isLt
  have h1 : (j 1).val < 2048 := (j 1).isLt
  have cutKey : ∀ (f : Vec Ideal S256x2048 .f32) (n : Fin 2048), (j 1).val = n.val →
      ((cfgM m hO).win 5).cut (grid0.coords t) f j = f (ix2 ⟨(j 0).val, h0⟩ n) := fun f n hn =>
    congrArg f (funext fun a => match a with | ⟨0, _⟩ => rfl | ⟨1, _⟩ => Fin.ext hn)
  have readKey : ∀ f : Vec Ideal S38912x2048 .f32, (((cfgM m hO).win 5).blk t).view.read (Elt Ideal) f j
      = f (ix2 ⟨t.val * 256 + (j 0).val, by omega⟩ ⟨(j 1).val, h1⟩) := fun f => congrArg f (funext fun a => Fin.ext (by
    match a with
    | ⟨0, _⟩ =>
      show cc0_transform_5 (grid0.coords t) 0 * 256 + 1 * (j 0).val = t.val * 256 + (j 0).val
      rw [(index5 t).1]; omega
    | ⟨1, _⟩ =>
      show cc0_transform_5 (grid0.coords t) 1 * 2048 + 1 * (j 1).val = (j 1).val
      rw [(index5 t).2]; omega))
  by_cases hq : (j 1).val < 1024
  · refine (cutKey _ ⟨(j 1).val, h1⟩ rfl).trans (Eq.trans ?_ (readKey _).symm)
    exact (Blk.canon_left _ _ ⟨(j 0).val, h0⟩ ⟨(j 1).val, hq⟩).trans
      ((first_eq m hO c t ⟨(j 0).val, h0⟩ ⟨(j 1).val, hq⟩ ⟨t.val * 256 + (j 0).val, by omega⟩ rfl ha).trans
        (both_left _ _ _ _ _ _ (ix2 _ _) _ _ rfl rfl).symm)
  · have hn : (j 1).val = 1024 + ((j 1).val - 1024) := by omega
    refine (cutKey _ ⟨1024 + ((j 1).val - 1024), by omega⟩ hn).trans (Eq.trans ?_ (readKey _).symm)
    exact (Blk.canon_right _ _ ⟨(j 0).val, h0⟩ ⟨(j 1).val - 1024, by omega⟩).trans
      ((second_eq m hO c t ⟨(j 0).val, h0⟩ ⟨(j 1).val - 1024, by omega⟩ ⟨t.val * 256 + (j 0).val, by omega⟩ rfl hb).trans
        (both_right _ _ _ _ _ _ (ix2 _ _) _ _ rfl hn).symm)

/-- An index of the result array is in point `t`'s block. -/
theorem mem_blk (t : Fin (cfgM m hO).N) (i : S38912x2048.Idx) (h : (i 0).val / 256 = t.val) : i ∈ (((cfgM m hO).win 5).blk t).view.set := by
  have key : ∀ r : Rect S38912x2048, i ∈ r.set → i ∈ ((View.whole main_v3).slice r).set := fun r hr => by rw [View.set_slice_whole]; exact hr
  refine key (((cfgM m hO).win 5).rect t) ((Rect.mem_set_unit).2 ?_)
  have h1 : (i 1 : Nat) < 2048 := (i 1).isLt
  intro a
  match a with
  | ⟨0, _⟩ => show cc0_transform_5 (grid0.coords t) 0 * 256 ≤ (i 0 : Nat) ∧ (i 0 : Nat) < cc0_transform_5 (grid0.coords t) 0 * 256 + 256
              rw [(index5 t).1]; omega
  | ⟨1, _⟩ => show cc0_transform_5 (grid0.coords t) 1 * 2048 ≤ (i 1 : Nat) ∧ (i 1 : Nat) < cc0_transform_5 (grid0.coords t) 1 * 2048 + 2048
              rw [(index5 t).2]; omega

/-- The blocks tile the result array. -/
theorem cover (i : S38912x2048.Idx) : ∃ t : Fin (cfgM m hO).N, ((cfgM m hO).win 5).flush t = true ∧ i ∈ (((cfgM m hO).win 5).blk t).view.set := by
  have h0 : (i 0 : Nat) < 38912 := (i 0).isLt
  have hN : (cfgM m hO).N = 152 := N_0
  exact ⟨⟨(i 0).val / 256, by omega⟩, flush0_5 _ _, mem_blk m hO _ i rfl⟩

/-- The result array ends holding the rows through their experts. -/
theorem final (c : Dev nD) (ha : ∀ x, ((m (c, Proc.tc.devRef main_arg0) : Vec Ideal S152 .i32) x).toNat < 16)
    (hb : ∀ x, ((m (c, Proc.tc.devRef main_arg1) : Vec Ideal S152 .i32) x).toNat < 16) :
    (dats m hO 0 c).arrAt 5 (cfgM m hO).N = out m c :=
  (dats m hO 0 c).arrAt_eq_of_cover 5 (out m c) (fun t _ => flushed_eq m hO c t (ha _) (hb _)) (cover m hO)

end Cert.Kernel3Ideal.RefValue

end
-- ==== Proof.ExpertsEntry.lean ====
/- What the experts reference's result holds at an entry: the sum over all experts with the weight one at the expert the
   row's block names is that expert alone. -/
module

public import proofs.«01_k».proof.Proof.ExpertsSpec
public import proofs.«01_k».proof.Proof.Gen.Reference3Ideal.Read
public import Idealize.ShloMosaic.Lib.Pipeline.Value

@[expose] public section

set_option maxRecDepth 16384

noncomputable section

namespace Cert.Reference3Ideal.Entry

open Cert.Reference3Ideal Cert.Reference3Ideal.Gen Cert.Reference3Ideal.Read Idealize.ShloMosaic Idealize.ShloMosaic.ValueIdx
open Cert.Experts
open scoped BigOperators

variable (x0 x1 : IVec S152 32) (x2 : FVec Ideal S38912x1024 .f32) (x3 x4 : FVec Ideal S16x1024x512 .f32) (x5 : FVec Ideal S16x512x1024 .f32)

/-- The gate projection. -/
theorem gate_apply (e : Fin 16) (R : Fin 38912) (f : Fin 512) :
    val_main_v1 (F := Ideal) x2 x3 (ix3 e R f) = proj (fun d => x2 (ix2 R d)) (fun d => x3 (ix3 e d f)) := by
  rw [val_main_v1_apply, val_main_v0_apply]
  refine Finset.sum_congr rfl fun d _ => ?_
  have el : lidx_main_v0 (idx_main_v1 (ix3 e R f)) d = ix3 e d f := funext fun a => by
    match a with
    | ⟨0, _⟩ => rfl
    | ⟨1, _⟩ => rfl
    | ⟨2, _⟩ => rfl
  have er : ridx_main_v0 (idx_main_v1 (ix3 e R f)) d = ix2 R d := funext fun a => by
    match a with
    | ⟨0, _⟩ => rfl
    | ⟨1, _⟩ => rfl
  rw [el, er]
  exact mul_comm _ _

/-- The up projection. -/
theorem up_apply (e : Fin 16) (R : Fin 38912) (f : Fin 512) :
    val_main_v4 (F := Ideal) x2 x4 (ix3 e R f) = proj (fun d => x2 (ix2 R d)) (fun d => x4 (ix3 e d f)) := by
  rw [val_main_v4_apply, val_main_v3_apply]
  refine Finset.sum_congr rfl fun d _ => ?_
  have el : lidx_main_v3 (idx_main_v4 (ix3 e R f)) d = ix3 e d f := funext fun a => by
    match a with
    | ⟨0, _⟩ => rfl
    | ⟨1, _⟩ => rfl
    | ⟨2, _⟩ => rfl
  have er : ridx_main_v3 (idx_main_v4 (ix3 e R f)) d = ix2 R d := funext fun a => by
    match a with
    | ⟨0, _⟩ => rfl
    | ⟨1, _⟩ => rfl
  rw [el, er]
  exact mul_comm _ _

/-- A hidden unit. -/
theorem hidden_apply (e : Fin 16) (R : Fin 38912) (f : Fin 512) :
    val_main_v5 (F := Ideal) x2 x3 x4 (ix3 e R f)
      = unit (fun d => x2 (ix2 R d)) (fun d => x3 (ix3 e d f)) (fun d => x4 (ix3 e d f)) := by
  have one : (FloatOps.ofBits FTy.f32 0x3F800000#32 : Ideal .f32) = (1 : EReal) := Ideal.ofBits_one_f32
  rw [val_main_v5_apply, val_main_v2_apply, val_main_call0_v5_apply, val_main_call0_v4_apply, val_main_call0_cst_0_apply,
    val_main_call0_v3_apply, val_main_call0_v2_apply, val_main_call0_cst_apply, val_main_call0_v1_apply, val_main_call0_v0_apply,
    gate_apply, up_apply, one]
  rfl

/-- An expert's output on a row. -/
theorem expert_apply (e : Fin 16) (R : Fin 38912) (n : Fin 1024) :
    val_main_v6 (F := Ideal) x2 x3 x4 x5 (ix3 e R n)
      = expert (fun d => x2 (ix2 R d)) (fun f d => x3 (ix3 e d f)) (fun f d => x4 (ix3 e d f)) (fun f => x5 (ix3 e f n)) := by
  rw [val_main_v6_apply]
  refine Finset.sum_congr rfl fun f _ => ?_
  have el : lidx_main_v6 (ix3 e R n) f = ix3 e R f := funext fun a => by
    match a with
    | ⟨0, _⟩ => rfl
    | ⟨1, _⟩ => rfl
    | ⟨2, _⟩ => rfl
  have er : ridx_main_v6 (ix3 e R n) f = ix3 e f n := funext fun a => by
    match a with
    | ⟨0, _⟩ => rfl
    | ⟨1, _⟩ => rfl
    | ⟨2, _⟩ => rfl
  rw [el, er, hidden_apply]

/-- The weight of an expert: one at the one the word names, zero at the others. -/
theorem onehot (w : BitVec 32) (hw : w.toNat < 16) (e : Fin 16) :
    (FloatOps.uitofp .f32 (IntOp.cmpi .eq w (BitVec.ofNat 32 e.val)) : Ideal .f32) = (if e = pick w then (1 : EReal) else 0) := by
  have he := e.isLt
  by_cases h : e = pick w
  · have hv : e.val = w.toNat := by rw [h]; exact pick_val hw
    have : w = BitVec.ofNat 32 e.val := by
      apply BitVec.eq_of_toNat_eq
      rw [BitVec.toNat_ofNat, hv]
      omega
    rw [if_pos h, ← this]
    show (((IntOp.cmpi .eq w w).toNat : ℝ) : EReal) = 1
    simp [IntOp.cmpi]
  · have hne : ¬ w = BitVec.ofNat 32 e.val := fun hh => h (Fin.ext (by
      rw [pick_val hw, hh, BitVec.toNat_ofNat]
      omega))
    rw [if_neg h]
    show (((IntOp.cmpi .eq w (BitVec.ofNat 32 e.val)).toNat : ℝ) : EReal) = 0
    have hb : (w == BitVec.ofNat 32 e.val) = false := by simpa using hne
    simp [IntOp.cmpi, hb]

/-- A sum weighted by one at one expert and zero at the others. -/
theorem sum_onehot (k : Fin 16) (y : Fin 16 → EReal) : ∑ e : Fin 16, (if e = k then (1 : EReal) else 0) * y e = y k := by
  rw [Finset.sum_eq_single k (fun e _ hne => by rw [if_neg hne, zero_mul]) (fun h => absurd (Finset.mem_univ k) h), if_pos rfl, one_mul]

/-- The first half at an entry. -/
theorem first_apply (h : ∀ i, (x0 i).toNat < 16) (R : Fin 38912) (n : Fin 1024) :
    val_main_v10 (F := Ideal) x0 x2 x3 x4 x5 (ix2 R n) = side x0 x2 x3 x4 x5 R n := by
  rw [val_main_v10_apply]
  refine Eq.trans (Finset.sum_congr rfl fun e _ => ?_) (sum_onehot (pick (x0 (ix1 ⟨R.val / 256, by omega⟩))) fun e =>
    expert (fun d => x2 (ix2 R d)) (fun f d => x3 (ix3 e d f)) (fun f d => x4 (ix3 e d f)) (fun f => x5 (ix3 e f n)))
  have er : ridx_main_v10 (ix2 R n) e = ix3 e R n := funext fun a => by
    match a with
    | ⟨0, _⟩ => rfl
    | ⟨1, _⟩ => rfl
    | ⟨2, _⟩ => rfl
  have e7 : idx_main_v7 (idx_main_v8 (idx_main_call1_v0 (idx_main_call1_v2 (lidx_main_v10 (ix2 R n) e)))) = ix1 ⟨R.val / 256, by omega⟩ :=
    funext fun a => by
      match a with
      | ⟨0, _⟩ => rfl
  rw [er, expert_apply, val_main_v9_apply, val_main_call1_v4_apply, val_main_call1_v3_apply, val_main_call1_v1_apply, val_main_call1_v2_apply,
    val_main_call1_v0_apply, val_main_v8_apply, val_main_v7_apply, e7, ← onehot _ (h _) e]

/-- The second half at an entry. -/
theorem second_apply (h : ∀ i, (x1 i).toNat < 16) (R : Fin 38912) (n : Fin 1024) :
    val_main_v14 (F := Ideal) x1 x2 x3 x4 x5 (ix2 R n) = side x1 x2 x3 x4 x5 R n := by
  rw [val_main_v14_apply]
  refine Eq.trans (Finset.sum_congr rfl fun e _ => ?_) (sum_onehot (pick (x1 (ix1 ⟨R.val / 256, by omega⟩))) fun e =>
    expert (fun d => x2 (ix2 R d)) (fun f d => x3 (ix3 e d f)) (fun f d => x4 (ix3 e d f)) (fun f => x5 (ix3 e f n)))
  have er : ridx_main_v14 (ix2 R n) e = ix3 e R n := funext fun a => by
    match a with
    | ⟨0, _⟩ => rfl
    | ⟨1, _⟩ => rfl
    | ⟨2, _⟩ => rfl
  have e7 : idx_main_v11 (idx_main_v12 (idx_main_call2_v0 (idx_main_call2_v2 (lidx_main_v14 (ix2 R n) e)))) = ix1 ⟨R.val / 256, by omega⟩ :=
    funext fun a => by
      match a with
      | ⟨0, _⟩ => rfl
  rw [er, expert_apply, val_main_v13_apply, val_main_call2_v4_apply, val_main_call2_v3_apply, val_main_call2_v1_apply, val_main_call2_v2_apply,
    val_main_call2_v0_apply, val_main_v12_apply, val_main_v11_apply, e7, ← onehot _ (h _) e]

/-- The reference's result: both experts of every row, side by side. -/
theorem result_eq (h0 : ∀ i, (x0 i).toNat < 16) (h1 : ∀ i, (x1 i).toNat < 16) :
    val_main_v15 (F := Ideal) x0 x1 x2 x3 x4 x5 = both x0 x1 x2 x3 x4 x5 := by
  funext j
  obtain ⟨R, q, rfl⟩ : ∃ (R : Fin 38912) (q : Fin 2048), j = ix2 R q := ⟨j 0, j 1, eq_ix2 j⟩
  unfold val_main_v15
  by_cases hq : q.val < 1024
  · rw [both_left x0 x1 x2 x3 x4 x5 (ix2 R q) R ⟨q.val, hq⟩ rfl rfl, ← first_apply x0 x2 x3 x4 x5 h0]
    exact concatenate_pair_apply_left (t := S38912x2048) (s₁ := S38912x1024) (s₂ := S38912x1024) 1 _ _ _ (ix2 R q) rfl (ix2 R ⟨q.val, hq⟩)
      fun b => match b with
        | ⟨0, _⟩ => rfl
        | ⟨1, _⟩ => rfl
  · have hl := q.isLt
    rw [both_right x0 x1 x2 x3 x4 x5 (ix2 R q) R ⟨q.val - 1024, by omega⟩ rfl (by show q.val = 1024 + (q.val - 1024); omega),
      ← second_apply x1 x2 x3 x4 x5 h1]
    refine concatenate_pair_apply_right (t := S38912x2048) (s₁ := S38912x1024) (s₂ := S38912x1024) 1 _ _ _ (ix2 R q) rfl rfl
      (ix2 R ⟨q.val - 1024, by omega⟩) (fun b hb => ?_) ?_
    · match b, hb with
      | ⟨0, _⟩, _ => rfl
      | ⟨1, _⟩, hb => exact absurd rfl hb
    · show q.val - 1024 + 1024 = q.val
      omega

end Cert.Reference3Ideal.Entry

end
-- ==== Proof.OkKernel3Ideal.lean ====
/- The blocks of weights lie inside their arrays when the two tables name one of the sixteen experts everywhere. -/
module

public import proofs.«01_k».proof.Proof.Gen.Kernel3Ideal.Frame
public import Idealize.ShloMosaic.Lib.Affine

@[expose] public section

set_option maxRecDepth 16384

noncomputable section

namespace Cert.Kernel3Ideal.Words

open Cert.Kernel3Ideal Cert.Kernel3Ideal.Gen Idealize.ShloMosaic Idealize.ShloMosaic.TcCoe Idealize.SL.Sem

variable {F : FTy → Type} [FloatOps F] (m : (ℓ : Loc nD τ sig) → Buf (Elt F) ℓ)

/-- Words below sixteen put every block inside the weights. -/
theorem ok_of_lt (h0 : ∀ x : S152.Idx, ((m ((0 : Dev nD).tc.loc main_arg0) : Vec F S152 .i32) x).toNat < 16)
    (h1 : ∀ x : S152.Idx, ((m ((0 : Dev nD).tc.loc main_arg1) : Vec F S152 .i32) x).toNat < 16) : Ok m := by
  have t0 : ∀ x : S152.Idx, (tbl m 0 x : BitVec 32).toNat < 16 := fun x => by
    have e : tbl m 0 = (m ((0 : Dev nD).tc.loc main_arg0) : Vec F S152 .i32) := V_main_arg0 m 0
    rw [e]; exact h0 x
  have t1 : ∀ x : S152.Idx, (tbl m 1 x : BitVec 32).toNat < 16 := fun x => by
    have e : tbl m 1 = (m ((0 : Dev nD).tc.loc main_arg1) : Vec F S152 .i32) := V_main_arg1 m 0
    rw [e]; exact h1 x
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => show ((tbl m 0 _ : BitVec 32).toNat + 1) * 1 ≤ 16
                rw [Nat.mul_one]; exact t0 _
    | ⟨1, _⟩ => exact Nat.le_refl 1024
    | ⟨2, _⟩ => exact Nat.le_refl 1024
  · match a with
    | ⟨0, _⟩ => show ((tbl m 0 _ : BitVec 32).toNat + 1) * 1 ≤ 16
                rw [Nat.mul_one]; exact t0 _
    | ⟨1, _⟩ => exact Nat.le_refl 512
    | ⟨2, _⟩ => exact Nat.le_refl 1024
  · match a with
    | ⟨0, _⟩ => show ((tbl m 1 _ : BitVec 32).toNat + 1) * 1 ≤ 16
                rw [Nat.mul_one]; exact t1 _
    | ⟨1, _⟩ => exact Nat.le_refl 1024
    | ⟨2, _⟩ => exact Nat.le_refl 1024
  · match a with
    | ⟨0, _⟩ => show ((tbl m 1 _ : BitVec 32).toNat + 1) * 1 ≤ 16
                rw [Nat.mul_one]; exact t1 _
    | ⟨1, _⟩ => exact Nat.le_refl 512
    | ⟨2, _⟩ => exact Nat.le_refl 1024

end Cert.Kernel3Ideal.Words

end
-- ==== Proof.Experts.lean ====
/- The claims of the experts call: its blocks of weights lie inside their arrays, and it leaves what the reference leaves. -/
module

public import proofs.«01_k».proof.Defs
public import proofs.«01_k».proof.Proof.ExpertsWords
public import proofs.«01_k».proof.Proof.ExpertsArray
public import proofs.«01_k».proof.Proof.ExpertsEntry
public import proofs.«01_k».proof.Proof.OkKernel3
public import proofs.«01_k».proof.Proof.OkKernel3Ideal
public import proofs.«01_k».proof.Proof.Gen.Reference3Ideal.Run
public import proofs.«01_k».proof.Proof.Gen.Pre_experts

@[expose] public section

set_option maxRecDepth 16384

noncomputable section

namespace Cert.Proof

open Idealize.ShloMosaic Idealize.ShloMosaic.TcCoe Idealize.SL.Sem Idealize.ShloMosaic.ValueIdx
open Cert.Experts

/-- The program's blocks lie inside the weights, given the precondition. -/
theorem ok_kernel3 (m : (ℓ : Loc Cert.Kernel3.nD Cert.Kernel3.τ Cert.Kernel3.sig) → Buf (Elt Bits) ℓ) (h : Cert.Pre_Kernel3 m) :
    Cert.Kernel3.Gen.Ok m :=
  Cert.Kernel3.Words.ok_of_lt m (tables_lt _ _ _ _ _ _ (h 0)).1 (tables_lt _ _ _ _ _ _ (h 0)).2

/-- The idealized program's blocks lie inside the weights, given the precondition. -/
theorem ok_kernel3Ideal (m : (ℓ : Loc Cert.Kernel3Ideal.nD Cert.Kernel3Ideal.τ Cert.Kernel3Ideal.sig) → Buf (Elt Ideal) ℓ)
    (h : Cert.Pre_Kernel3Ideal m) : Cert.Kernel3Ideal.Gen.Ok m :=
  Cert.Kernel3Ideal.Words.ok_of_lt m (tables_lt _ _ _ _ _ _ (h 0)).1 (tables_lt _ _ _ _ _ _ (h 0)).2

/-- The experts call and the reference leave one array, whenever the tables name one of the sixteen experts everywhere. -/
theorem experts : Cert.algebraic_Kernel3Ideal_Reference3Ideal := by
  intro m ρ m' ρ' hpre hagree
  have hO := ok_kernel3Ideal m hpre
  refine ⟨fun c => Cert.Kernel3Ideal.RefValue.out m c, ?_, ?_⟩
  · refine (θ_run Cert.Kernel3Ideal.defs _ _).mono (fun r h c => ?_) (Cert.Kernel3Ideal.Gen.run_main (F := Ideal) m ρ hO)
    obtain ⟨h0, h1⟩ := tables_lt _ _ _ _ _ _ (hpre c)
    exact ⟨((h c).1 5).trans (Cert.Kernel3Ideal.RefValue.final m hO c h0 h1),
      ((h c).2 Cert.Kernel3Ideal.main_arg0 (by decide : Cert.Kernel3Ideal.main_arg0 ∈ Pipeline.restRefs Cert.Kernel3Ideal.sig Cert.Kernel3Ideal.spec0)).trans (Cert.Kernel3Ideal.Gen.V_main_arg0 m c),
      ((h c).2 Cert.Kernel3Ideal.main_arg1 (by decide : Cert.Kernel3Ideal.main_arg1 ∈ Pipeline.restRefs Cert.Kernel3Ideal.sig Cert.Kernel3Ideal.spec0)).trans (Cert.Kernel3Ideal.Gen.V_main_arg1 m c),
      ((h c).1 0).trans (((Cert.Kernel3Ideal.Gen.dats m hO 0 c).arrAt_in 0 rfl _).trans
        ((Cert.Kernel3Ideal.Gen.A_eq m hO c 0).trans (Cert.Kernel3Ideal.Gen.V_main_arg2 m c))),
      ((h c).2 Cert.Kernel3Ideal.main_arg3 (by decide : Cert.Kernel3Ideal.main_arg3 ∈ Pipeline.restRefs Cert.Kernel3Ideal.sig Cert.Kernel3Ideal.spec0)).trans (Cert.Kernel3Ideal.Gen.V_main_arg3 m c),
      ((h c).2 Cert.Kernel3Ideal.main_arg4 (by decide : Cert.Kernel3Ideal.main_arg4 ∈ Pipeline.restRefs Cert.Kernel3Ideal.sig Cert.Kernel3Ideal.spec0)).trans (Cert.Kernel3Ideal.Gen.V_main_arg4 m c),
      ((h c).2 Cert.Kernel3Ideal.main_arg5 (by decide : Cert.Kernel3Ideal.main_arg5 ∈ Pipeline.restRefs Cert.Kernel3Ideal.sig Cert.Kernel3Ideal.spec0)).trans (Cert.Kernel3Ideal.Gen.V_main_arg5 m c)⟩
  · refine (θ_run Cert.Reference3Ideal.defs _ _).mono (fun _ h c => ⟨(h c).1.trans ?_, (h c).2⟩)
      (Cert.Reference3Ideal.Value.run (F := Ideal) m' ρ')
    obtain ⟨h0, h1⟩ := tables_lt _ _ _ _ _ _ (hpre c)
    obtain ⟨e0, e1, e2, e3, e4, e5⟩ := hagree c
    rw [e0, e1, e2, e3, e4, e5]
    exact (Cert.Reference3Ideal.Read.val_main_v15_eq _ _ _ _ _ _).trans (Cert.Reference3Ideal.Entry.result_eq _ _ _ _ _ _ h0 h1)

end Cert.Proof

end
-- ==== Proof.MergeSpec.lean ====
/- The merge of three branches as mathematics: gated sum of projections, output projection, gated residual, then a
   root-mean-square norm with a modulation. -/
module

public import Idealize.ShloMosaic.Lib.ValueIdx
public import Idealize.ShloMosaic.Lib.IdealHost

@[expose] public section

set_option maxRecDepth 16384

noncomputable section

namespace Cert.Merge

open Idealize.ShloMosaic Idealize.ShloMosaic.ValueIdx
open scoped BigOperators

/-- A row's gated sum of the three branches' projections, at one coordinate. -/
def mixed (g0 g1 g2 : EReal) (a : Fin 512 → EReal) (b m : Fin 256 → EReal) (wa : Fin 512 → EReal) (wb wm : Fin 256 → EReal) : EReal :=
  g0 * (∑ d, a d * wa d) + g1 * (∑ d, b d * wb d) + g2 * (∑ d, m d * wm d)

/-- A row's output projection: of the gated sum `v` under one column of weights. -/
def proj (v w : Fin 1024 → EReal) : EReal := ∑ k, v k * w k

/-- The row's number the norm multiplies by: one over the root of the mean square plus a small number. -/
def rinv (z : Fin 1024 → EReal) : EReal :=
  Ideal.rsqrt (Ideal.div (∑ k, z k * z k) (Ideal.ofBits .f32 0x44800000#32) + Ideal.ofBits .f32 0x358637BD#32)

/-- One coordinate of the modulated norm of a row. -/
def modul (z : Fin 1024 → EReal) (n : Fin 1024) (g sc sh : EReal) : EReal :=
  z n * rinv z * g * (Ideal.ofBits .f32 0x3F800000#32 + sc) + sh

variable (x0 : FVec Ideal ⟨3, ![2, 16384, 512]⟩ .f32) (x1 x2 : FVec Ideal ⟨3, ![2, 16384, 256]⟩ .f32)
  (x3 : FVec Ideal ⟨3, ![2, 16384, 3072]⟩ .f32) (x4 : FVec Ideal ⟨3, ![2, 16384, 1024]⟩ .f32)
  (x5 x6 x7 : FVec Ideal ⟨2, ![2, 1024]⟩ .f32) (x8 : FVec Ideal ⟨1, ![1024]⟩ .f32) (x9 : FVec Ideal ⟨2, ![512, 1024]⟩ .f32)
  (x10 x11 : FVec Ideal ⟨2, ![256, 1024]⟩ .f32) (x12 : FVec Ideal ⟨2, ![1024, 1024]⟩ .f32)

/-- The gated sum of a position. -/
def mixAt (b : Fin 2) (s : Fin 16384) (k : Fin 1024) : EReal :=
  mixed (Ideal.logistic (x3 (ix3 b s ⟨k.val, by omega⟩))) (Ideal.logistic (x3 (ix3 b s ⟨1024 + k.val, by omega⟩)))
    (Ideal.logistic (x3 (ix3 b s ⟨2048 + k.val, by omega⟩)))
    (fun d => x0 (ix3 b s d)) (fun d => x1 (ix3 b s d)) (fun d => x2 (ix3 b s d))
    (fun d => x9 (ix2 d k)) (fun d => x10 (ix2 d k)) (fun d => x11 (ix2 d k))

/-- The new residual stream at a position. -/
def streamAt (b : Fin 2) (s : Fin 16384) (n : Fin 1024) : EReal :=
  x4 (ix3 b s n) + x5 (ix2 b n) * proj (mixAt x0 x1 x2 x3 x9 x10 x11 b s) (fun k => x12 (ix2 k n))

/-- The new stream normed and modulated at a position. -/
def normAt (b : Fin 2) (s : Fin 16384) (n : Fin 1024) : EReal :=
  modul (streamAt x0 x1 x2 x3 x4 x5 x9 x10 x11 x12 b s) n (x8 (ix1 n)) (x7 (ix2 b n)) (x6 (ix2 b n))

/-- The new stream, one row per position. -/
def stream : FVec Ideal ⟨2, ![32768, 1024]⟩ .f32 := fun i =>
  streamAt x0 x1 x2 x3 x4 x5 x9 x10 x11 x12 ⟨(i 0).val / 16384, by have := idx2_lt0 i; omega⟩
    ⟨(i 0).val % 16384, Nat.mod_lt _ (by norm_num)⟩ ⟨(i 1).val, idx2_lt1 i⟩

/-- The normed stream, one row per position. -/
def normed : FVec Ideal ⟨2, ![32768, 1024]⟩ .f32 := fun i =>
  normAt x0 x1 x2 x3 x4 x5 x6 x7 x8 x9 x10 x11 x12 ⟨(i 0).val / 16384, by have := idx2_lt0 i; omega⟩
    ⟨(i 0).val % 16384, Nat.mod_lt _ (by norm_num)⟩ ⟨(i 1).val, idx2_lt1 i⟩

/-- The new stream at row `b * 16384 + s`. -/
theorem stream_row (R : Fin 32768) (n : Fin 1024) (b : Fin 2) (s : Fin 16384) (hR : R.val = b.val * 16384 + s.val) :
    stream x0 x1 x2 x3 x4 x5 x9 x10 x11 x12 (ix2 R n) = streamAt x0 x1 x2 x3 x4 x5 x9 x10 x11 x12 b s n :=
  congrArg₂ (fun b s => streamAt x0 x1 x2 x3 x4 x5 x9 x10 x11 x12 b s n) (Fin.ext (by show R.val / 16384 = b.val; omega))
    (Fin.ext (by show R.val % 16384 = s.val; omega))

/-- The normed stream at row `b * 16384 + s`. -/
theorem normed_row (R : Fin 32768) (n : Fin 1024) (b : Fin 2) (s : Fin 16384) (hR : R.val = b.val * 16384 + s.val) :
    normed x0 x1 x2 x3 x4 x5 x6 x7 x8 x9 x10 x11 x12 (ix2 R n) = normAt x0 x1 x2 x3 x4 x5 x6 x7 x8 x9 x10 x11 x12 b s n :=
  congrArg₂ (fun b s => normAt x0 x1 x2 x3 x4 x5 x6 x7 x8 x9 x10 x11 x12 b s n) (Fin.ext (by show R.val / 16384 = b.val; omega))
    (Fin.ext (by show R.val % 16384 = s.val; omega))

end Cert.Merge

end
-- ==== Proof.MergeBlock.lean ====
/- What one grid point of the merge writes, read at an entry of its two blocks. -/
module

public import proofs.«01_k».proof.Proof.MergeSpec
public import proofs.«01_k».proof.Proof.Gen.Kernel4Ideal.Value
public import Idealize.ShloMosaic.Lib.Pipeline.ValueKit.Tiles
public import Idealize.ShloMosaic.Lib.MatmulPlain
public import Idealize.ShloMosaic.PureOps.Ideal.Laws
public import Idealize.ShloMosaic.Lib.ValueLayout

@[expose] public section

set_option maxRecDepth 16384

noncomputable section

namespace Cert.Kernel4Ideal.Blk

open Cert.Kernel4Ideal Cert.Kernel4Ideal.Gen Idealize.ShloMosaic Idealize.ShloMosaic.TcCoe Idealize.SL.Sem Idealize.ShloMosaic.ValueIdx
open Cert.Merge
open scoped BigOperators

/-- A cast to the shape a vector already has reads the same entry. -/
theorem same_apply {M N : ℕ} {α : Type} (v : (⟨2, ![M, N]⟩ : Shape).Idx → α) (h : (⟨2, ![M, N]⟩ : Shape).ShapeCasts ⟨2, ![M, N]⟩) (p : Fin M) (q : Fin N) :
    shapeCast ⟨2, ![M, N]⟩ v h (ix2 p q) = v (ix2 p q) := shapeCast_apply _ h (ix2 p q) (ix2 p q) rfl

/-- The zero constant. -/
theorem zero_apply (s : Shape) (i : s.Idx) : (constant (F := Ideal) s .f32 0x00000000#32 i : EReal) = 0 := Ideal.ofBits_zero_f32

/-- A product of a block with weights, accumulated from zero. -/
theorem dot_apply {M K N : ℕ} (a : FVec Ideal ⟨2, ![M, K]⟩ .bf16) (w : FVec Ideal ⟨2, ![K, N]⟩ .bf16)
    (ha : (⟨2, ![M, K]⟩ : Shape).ShapeCasts ⟨2, ![M, K]⟩) (hw : (⟨2, ![K, N]⟩ : Shape).ShapeCasts ⟨2, ![K, N]⟩) (r : Fin M) (n : Fin N) :
    FloatOps.matmul (F := Ideal) (DotDims.plain M K N) none (shapeCast ⟨2, ![M, K]⟩ a ha) (shapeCast ⟨2, ![K, N]⟩ w hw)
      (constant (F := Ideal) ⟨2, ![M, N]⟩ .f32 0x00000000#32) (ix2 r n) = ∑ k, a (ix2 r k) * w (ix2 k n) := by
  refine (Ideal.matmul_plain_apply none _ _ _ r n).trans ?_
  rw [zero_apply, zero_add]
  exact Finset.sum_congr rfl fun k _ => by rw [same_apply, same_apply]

/-- The output projection of the block's gated sums. -/
theorem pay3_apply (P2 : Vec Ideal S1024x1024 .bf16) (P3 : Vec Ideal S1024x512 .bf16) (P4 : Vec Ideal S512x1024 .bf16) (P5 : Vec Ideal S1024x1024 .bf16)
    (P6 : Vec Ideal S1024x256 .bf16) (P7 : Vec Ideal S256x1024 .bf16) (P8 : Vec Ideal S1024x1024 .bf16) (P9 : Vec Ideal S1024x256 .bf16)
    (P10 : Vec Ideal S256x1024 .bf16) (P11 : Vec Ideal S1024x1024 .bf16) (r n : Fin 1024) :
    k0_pay3 (F := Ideal) P2 P3 P4 P5 P6 P7 P8 P9 P10 P11 (ix2 r n)
      = proj (fun k => mixed (P2 (ix2 r k)) (P5 (ix2 r k)) (P8 (ix2 r k)) (fun d => P3 (ix2 r d)) (fun d => P6 (ix2 r d)) (fun d => P9 (ix2 r d))
          (fun d => P4 (ix2 d k)) (fun d => P7 (ix2 d k)) (fun d => P10 (ix2 d k))) (fun k => P11 (ix2 k n)) := by
  refine (Ideal.matmul_plain_apply none _ (shapeCast S1024x1024 P11 shapeCasts_S1024x1024_S1024x1024) _ r n).trans ?_
  rw [zero_apply, zero_add]
  refine Finset.sum_congr rfl fun k _ => ?_
  refine congrArg₂ (fun a b : EReal => a * b) ?_ (same_apply P11 shapeCasts_S1024x1024_S1024x1024 k n)
  exact congrArg₂ (fun a b : EReal => a + b)
    (congrArg₂ (fun a b : EReal => a + b)
      (congrArg₂ (fun a b : EReal => a * b) (same_apply P2 shapeCasts_S1024x1024_S1024x1024 r k)
        (dot_apply P3 P4 shapeCasts_S1024x512_S1024x512 shapeCasts_S512x1024_S512x1024 r k))
      (congrArg₂ (fun a b : EReal => a * b) (same_apply P5 shapeCasts_S1024x1024_S1024x1024 r k)
        (dot_apply P6 P7 shapeCasts_S1024x256_S1024x256 shapeCasts_S256x1024_S256x1024 r k)))
    (congrArg₂ (fun a b : EReal => a * b) (same_apply P8 shapeCasts_S1024x1024_S1024x1024 r k)
      (dot_apply P9 P10 shapeCasts_S1024x256_S1024x256 shapeCasts_S256x1024_S256x1024 r k))

/-- A row vector spread over the block's rows. -/
theorem spread_apply (v : FVec Ideal S1x1024 .f32) (r n : Fin 1024) :
    broadcastTo S1024x1024 v broadcasts_S1x1024_S1024x1024 (ix2 r n) = v (ix2 0 n) :=
  broadcastTo_apply v broadcasts_S1x1024_S1024x1024 (ix2 r n) (ix2 0 n) (fun a => match a with | ⟨0, _⟩ => rfl | ⟨1, _⟩ => rfl)

/-- A modulation vector as a row. -/
theorem vec_apply (v : FVec Ideal S1x1x1024 .f32) (n : Fin 1024) :
    shapeCast S1x1024 v shapeCasts_S1x1x1024_S1x1024 (ix2 0 n) = v (ix3 0 0 n) :=
  shapeCast_apply v shapeCasts_S1x1x1024_S1x1024 (ix2 0 n) (ix3 0 0 n) (by
    rw [Shape.rowMajor_val_three, Shape.rowMajor_val_two]; show (0 * 1 + 0) * 1024 + n.val = 0 * 1024 + n.val; omega)

/-- The block's new stream at an entry, from the output projection `q`. -/
theorem pay4_apply (q : FVec Ideal S1024x1024 .f32) (P0 : Vec Ideal S1024x1024 .f32) (P1 : Vec Ideal S1x1x1024 .f32) (r n : Fin 1024) :
    k0_pay4 (F := Ideal) q P0 P1 (ix2 r n) = P0 (ix2 r n) + P1 (ix3 0 0 n) * q (ix2 r n) := by
  show (shapeCast S1024x1024 P0 shapeCasts_S1024x1024_S1024x1024 (ix2 r n) : EReal)
    + broadcastTo S1024x1024 (shapeCast S1x1024 P1 shapeCasts_S1x1x1024_S1x1024) broadcasts_S1x1024_S1024x1024 (ix2 r n) * q (ix2 r n) = _
  rw [same_apply]
  refine congrArg (fun a : EReal => P0 (ix2 r n) + a * q (ix2 r n)) ?_
  exact (spread_apply _ r n).trans (vec_apply P1 n)

/-- The block's modulated norm at an entry, from the new stream's row. -/
theorem pay5_apply (q : FVec Ideal S1024x1024 .f32) (P0 : Vec Ideal S1024x1024 .f32) (P1 : Vec Ideal S1x1x1024 .f32)
    (g : Vec Ideal S1x1024 .f32) (sc sh : Vec Ideal S1x1x1024 .f32) (r n : Fin 1024) :
    k0_pay5 (F := Ideal) q P0 P1 g sc sh (ix2 r n)
      = modul (fun k => k0_pay4 (F := Ideal) q P0 P1 (ix2 r k)) n (g (ix2 0 n)) (sc (ix3 0 0 n)) (sh (ix3 0 0 n)) := by
  unfold k0_pay5
  generalize k0_pay4 (F := Ideal) q P0 P1 = X
  dsimp only
  have hs : (multiReduction .add [1] S1024 (mulf X X) 0x00000000#32 reduces_S1024x1024_S1024 (.inl rfl) rfl : FVec Ideal S1024 .f32) (ix1 r)
      = ∑ k, X (ix2 r k) * X (ix2 r k) :=
    (Ideal.multiReduction_add_single (mulf X X) _ reduces_S1024x1024_S1024 (.inl rfl) rfl (ix1 r)).trans
      (Finset.sum_congr rfl fun (k : Fin 1024) _ => by
        have e : reduces_S1024x1024_S1024.lift (ix1 r) k = ix2 r k := funext fun a => Fin.ext (by
          match a with
          | ⟨0, _⟩ => rfl
          | ⟨1, _⟩ => rfl)
        show X (reduces_S1024x1024_S1024.lift (ix1 r) k) * X (reduces_S1024x1024_S1024.lift (ix1 r) k) = _
        rw [e])
  have hi : broadcastTo S1024x1024 (rsqrt (addf (divf (shapeCast S1024x1
        (multiReduction .add [1] S1024 (mulf X X) 0x00000000#32 reduces_S1024x1024_S1024 (.inl rfl) rfl) shapeCasts_S1024_S1024x1)
        (broadcast S1024x1 (Scalar.ofBits .f32 0x44800000#32))) (broadcast S1024x1 (Scalar.ofBits .f32 0x358637BD#32)))) broadcasts_S1024x1_S1024x1024 (ix2 r n)
      = rinv fun k => X (ix2 r k) := by
    refine (broadcastTo_apply _ broadcasts_S1024x1_S1024x1024 (ix2 r n) (ix2 r 0) (fun a => match a with | ⟨0, _⟩ => rfl | ⟨1, _⟩ => rfl)).trans ?_
    have hc : shapeCast S1024x1 (multiReduction .add [1] S1024 (mulf X X) 0x00000000#32 reduces_S1024x1024_S1024 (.inl rfl) rfl : FVec Ideal S1024 .f32)
        shapeCasts_S1024_S1024x1 (ix2 r 0) = ∑ k, X (ix2 r k) * X (ix2 r k) :=
      (shapeCast_apply _ shapeCasts_S1024_S1024x1 (ix2 r 0) (ix1 r) (by
        rw [Shape.rowMajor_val_one, Shape.rowMajor_val_two]; show r.val = r.val * 1 + 0; omega)).trans hs
    unfold rinv
    rw [← hc]
    rfl
  unfold modul
  rw [← hi, ← vec_apply sc n, ← vec_apply sh n, ← same_apply g shapeCasts_S1x1024_S1x1024 0 n,
    ← spread_apply (shapeCast S1x1024 g shapeCasts_S1x1024_S1x1024) r n, ← spread_apply (shapeCast S1x1024 sh shapeCasts_S1x1x1024_S1x1024) r n]
  have h1 : broadcastTo S1024x1024 (addf (broadcast S1x1024 (Scalar.ofBits .f32 0x3F800000#32)) (shapeCast S1x1024 sc shapeCasts_S1x1x1024_S1x1024))
      broadcasts_S1x1024_S1024x1024 (ix2 r n) = Ideal.ofBits .f32 0x3F800000#32 + shapeCast S1x1024 sc shapeCasts_S1x1x1024_S1x1024 (ix2 0 n) :=
    (spread_apply _ r n).trans rfl
  rw [← h1]
  rfl

/-- The zero offset, as a constant function. -/
theorem hz2 : (![0, 0] : Fin 2 → Nat) = fun _ => 0 := funext fun a => by fin_cases a <;> rfl
/-- The zero offset, as a constant function. -/
theorem hz3 : (![0, 0, 0] : Fin 3 → Nat) = fun _ => 0 := funext fun a => by fin_cases a <;> rfl

/-- A load of a gate's columns. -/
theorem ld_gate (x : Vec Ideal S1024x3072 .bf16) (o : ℕ) (inb) (r k : Fin 1024) (q : Fin 3072) (hq : q.val = o + k.val) :
    View.ld x (Rect.unit (s := S1024x3072) ![0, o] S1024x1024.size inb) (ix2 r k) = x (ix2 r q) := by
  refine View.ld_unit_apply_of _ _ _ _ _ _ ?_
  intro a
  match a with
  | ⟨0, _⟩ => exact (Nat.zero_add _).symm
  | ⟨1, _⟩ => exact hq

variable (x0 : Vec Ideal S1024x512 .bf16) (x1 x2 : Vec Ideal S1024x256 .bf16) (x3 : Vec Ideal S1024x3072 .bf16) (x4 : Vec Ideal S1024x1024 .f32)
  (x5 x6 x7 : Vec Ideal S1x1x1024 .f32) (x8 : Vec Ideal S1x1024 .f32) (x9 : Vec Ideal S512x1024 .bf16) (x10 x11 : Vec Ideal S256x1024 .bf16)
  (x12 : Vec Ideal S1024x1024 .bf16) (x13 : Vec Ideal S16x1024 .f32) (x14 : Vec Ideal S16x1 .f32)

/-- A row of the new stream from the point's blocks. -/
def row (r n : Fin 1024) : EReal :=
  x4 (ix2 r n) + x5 (ix3 0 0 n) * proj (fun k => mixed (x3 (ix2 r ⟨k.val, by omega⟩)) (x3 (ix2 r ⟨1024 + k.val, by omega⟩)) (x3 (ix2 r ⟨2048 + k.val, by omega⟩))
    (fun d => x0 (ix2 r d)) (fun d => x1 (ix2 r d)) (fun d => x2 (ix2 r d)) (fun d => x9 (ix2 d k)) (fun d => x10 (ix2 d k)) (fun d => x11 (ix2 d k)))
    (fun k => x12 (ix2 k n))

/-- The new stream's payload at an entry. -/
theorem stream_apply (r n : Fin 1024) :
    k0_pay4 (F := Ideal) (k0_pay138 x0 x1 x2 x3 x4 x5 x6 x7 x8 x9 x10 x11 x12 x13 x14) (View.ld x4 r0_7) (View.ld x5 r0_8) (ix2 r n)
      = row x0 x1 x2 x3 x4 x5 x9 x10 x11 x12 r n := by
  unfold k0_pay138 row
  rw [pay4_apply, pay3_apply, View.ld_unit_zero hz2 _ x4, View.ld_unit_zero hz3 _ x5, View.ld_unit_zero hz2 _ x0, View.ld_unit_zero hz2 _ x1, View.ld_unit_zero hz2 _ x2,
    View.ld_unit_zero hz2 _ x9, View.ld_unit_zero hz2 _ x10, View.ld_unit_zero hz2 _ x11, View.ld_unit_zero hz2 _ x12]
  refine congrArg (fun f => x4 (ix2 r n) + x5 (ix3 0 0 n) * proj f (fun k => x12 (ix2 k n))) (funext fun k => ?_)
  rw [ld_gate x3 0 _ r k ⟨k.val, by omega⟩ (by simp), ld_gate x3 1024 _ r k ⟨1024 + k.val, by omega⟩ rfl, ld_gate x3 2048 _ r k ⟨2048 + k.val, by omega⟩ rfl]

/-- What a point writes to the new stream. -/
theorem out15_apply (r n : Fin 1024) :
    out0_15 (F := Ideal) x0 x1 x2 x3 x4 x5 x6 x7 x8 x9 x10 x11 x12 x13 x14 (ix2 r n) = row x0 x1 x2 x3 x4 x5 x9 x10 x11 x12 r n := by
  unfold out0_15
  rw [View.canon_unit_zero hz2]
  exact stream_apply x0 x1 x2 x3 x4 x5 x6 x7 x8 x9 x10 x11 x12 x13 x14 r n

/-- What a point writes to the normed stream. -/
theorem out16_apply (r n : Fin 1024) :
    out0_16 (F := Ideal) x0 x1 x2 x3 x4 x5 x6 x7 x8 x9 x10 x11 x12 x13 x14 (ix2 r n)
      = modul (row x0 x1 x2 x3 x4 x5 x9 x10 x11 x12 r) n (x8 (ix2 0 n)) (x7 (ix3 0 0 n)) (x6 (ix3 0 0 n)) := by
  unfold out0_16
  rw [View.canon_unit_zero hz2]
  refine (pay5_apply _ _ _ _ _ _ r n).trans ?_
  rw [View.ld_unit_zero hz2 _ x8, View.ld_unit_zero hz3 _ x7, View.ld_unit_zero hz3 _ x6]
  exact congrArg (fun f => modul f n (x8 (ix2 0 n)) (x7 (ix3 0 0 n)) (x6 (ix3 0 0 n)))
    (funext fun k => stream_apply x0 x1 x2 x3 x4 x5 x6 x7 x8 x9 x10 x11 x12 x13 x14 r k)

end Cert.Kernel4Ideal.Blk

end
-- ==== Proof.MergeHost.lean ====
/- What the merge call's windows hold when it starts, read at an entry of the arguments. -/
module

public import proofs.«01_k».proof.Proof.ExpertsSpec
public import proofs.«01_k».proof.Proof.Gen.Kernel4Ideal.Frame
public import Idealize.ShloMosaic.Lib.StableHlo.RunRead
public import Idealize.ShloMosaic.Lib.IdealHost
public import Idealize.ShloMosaic.Lib.ValueIdx
public import Idealize.ShloMosaic.Lib.ValueLayout

@[expose] public section

set_option maxRecDepth 16384

noncomputable section

namespace Cert.Kernel4Ideal.Host

open Cert.Kernel4Ideal Cert.Kernel4Ideal.Gen Idealize.ShloMosaic Idealize.ShloMosaic.TcCoe Idealize.SL.Sem Idealize.ShloMosaic.ValueIdx

variable (m : (ℓ : Loc nD τ sig) → Buf (Elt Idealize.ShloMosaic.Ideal) ℓ)

/-- The two leading axes taken as one. -/
theorem rows_apply {α : Type} {N : ℕ} (v : (⟨3, ![2, 16384, N]⟩ : Shape).Idx → α) (h : (⟨3, ![2, 16384, N]⟩ : Shape).ShapeCasts ⟨2, ![32768, N]⟩)
    (R : Fin 32768) (d : Fin N) (b : Fin 2) (s : Fin 16384) (hR : R.val = b.val * 16384 + s.val) :
    shapeCast ⟨2, ![32768, N]⟩ v h (ix2 R d) = v (ix3 b s d) :=
  shapeCast_apply _ h (ix2 R d) (ix3 b s d) (by
    rw [Shape.rowMajor_val_three, Shape.rowMajor_val_two]; show (b.val * 16384 + s.val) * N + d.val = R.val * N + d.val; rw [hR])

/-- The first branch. -/
theorem a_apply (c : Dev nD) (R : Fin 32768) (d : Fin 512) (b : Fin 2) (s : Fin 16384) (hR : R.val = b.val * 16384 + s.val) :
    (V m c main_v6 : Vec Ideal S32768x512 .bf16) (ix2 R d) = (m (c, Proc.tc.devRef main_arg0) : Vec Ideal S2x16384x512 .f32) (ix3 b s d) := by
  after_reads_simp
  rw [truncf_apply]
  exact rows_apply _ _ R d b s hR

/-- The second branch. -/
theorem b_apply (c : Dev nD) (R : Fin 32768) (d : Fin 256) (b : Fin 2) (s : Fin 16384) (hR : R.val = b.val * 16384 + s.val) :
    (V m c main_v8 : Vec Ideal S32768x256 .bf16) (ix2 R d) = (m (c, Proc.tc.devRef main_arg1) : Vec Ideal S2x16384x256 .f32) (ix3 b s d) := by
  after_reads_simp
  rw [truncf_apply]
  exact rows_apply _ _ R d b s hR

/-- The third branch. -/
theorem m_apply (c : Dev nD) (R : Fin 32768) (d : Fin 256) (b : Fin 2) (s : Fin 16384) (hR : R.val = b.val * 16384 + s.val) :
    (V m c main_v10 : Vec Ideal S32768x256 .bf16) (ix2 R d) = (m (c, Proc.tc.devRef main_arg2) : Vec Ideal S2x16384x256 .f32) (ix3 b s d) := by
  after_reads_simp
  rw [truncf_apply]
  exact rows_apply _ _ R d b s hR

/-- The gates. -/
theorem g_apply (c : Dev nD) (R : Fin 32768) (k : Fin 3072) (b : Fin 2) (s : Fin 16384) (hR : R.val = b.val * 16384 + s.val) :
    (V m c main_v19 : Vec Ideal S32768x3072 .bf16) (ix2 R k)
      = Ideal.logistic ((m (c, Proc.tc.devRef main_arg3) : Vec Ideal S2x16384x3072 .f32) (ix3 b s k)) := by
  have e : (shapeCast S32768x3072 (m (c, Proc.tc.devRef main_arg3) : Vec Ideal S2x16384x3072 .f32) shapeCasts_S2x16384x3072_S32768x3072) (ix2 R k)
      = (m (c, Proc.tc.devRef main_arg3) : Vec Ideal S2x16384x3072 .f32) (ix3 b s k) := rows_apply _ _ R k b s hR
  rw [← e, ← Cert.Experts.logistic_eq, ← Cert.Experts.half_word]
  after_reads_simp
  rfl

/-- The old stream. -/
theorem x_apply (c : Dev nD) (R : Fin 32768) (d : Fin 1024) (b : Fin 2) (s : Fin 16384) (hR : R.val = b.val * 16384 + s.val) :
    (V m c main_v20 : Vec Ideal S32768x1024 .f32) (ix2 R d) = (m (c, Proc.tc.devRef main_arg4) : Vec Ideal S2x16384x1024 .f32) (ix3 b s d) := by
  after_reads_simp
  exact rows_apply _ _ R d b s hR

/-- A unit axis put in the middle. -/
theorem mid_apply {α : Type} (v : S2x1024.Idx → α) (h : S2x1024.ShapeCasts S2x1x1024) (b : Fin 2) (n : Fin 1024) :
    shapeCast S2x1x1024 v h (ix3 b 0 n) = v (ix2 b n) :=
  shapeCast_apply _ h (ix3 b 0 n) (ix2 b n) (by
    rw [Shape.rowMajor_val_three, Shape.rowMajor_val_two]; show b.val * 1024 + n.val = (b.val * 1 + 0) * 1024 + n.val; omega)

/-- The residual's gate. -/
theorem gate_apply (c : Dev nD) (b : Fin 2) (n : Fin 1024) :
    (V m c main_v21 : Vec Ideal S2x1x1024 .f32) (ix3 b 0 n) = (m (c, Proc.tc.devRef main_arg5) : Vec Ideal S2x1024 .f32) (ix2 b n) := by
  after_reads_simp
  exact mid_apply _ _ b n

/-- The modulation's shift. -/
theorem shift_apply (c : Dev nD) (b : Fin 2) (n : Fin 1024) :
    (V m c main_v22 : Vec Ideal S2x1x1024 .f32) (ix3 b 0 n) = (m (c, Proc.tc.devRef main_arg6) : Vec Ideal S2x1024 .f32) (ix2 b n) := by
  after_reads_simp
  exact mid_apply _ _ b n

/-- The modulation's scale. -/
theorem scale_apply (c : Dev nD) (b : Fin 2) (n : Fin 1024) :
    (V m c main_v23 : Vec Ideal S2x1x1024 .f32) (ix3 b 0 n) = (m (c, Proc.tc.devRef main_arg7) : Vec Ideal S2x1024 .f32) (ix2 b n) := by
  after_reads_simp
  exact mid_apply _ _ b n

/-- The norm's gains. -/
theorem gain_apply (c : Dev nD) (n : Fin 1024) :
    (V m c main_v0 : Vec Ideal S1x1024 .f32) (ix2 0 n) = (m (c, Proc.tc.devRef main_arg8) : Vec Ideal S1024 .f32) (ix1 n) := by
  after_reads_simp
  exact shapeCast_apply _ _ (ix2 0 n) (ix1 n) (by
    rw [Shape.rowMajor_val_one, Shape.rowMajor_val_two]; show n.val = 0 * 1024 + n.val; omega)

/-- The first branch's weights. -/
theorem wa_apply (c : Dev nD) (d : Fin 512) (k : Fin 1024) :
    (V m c main_v1 : Vec Ideal S512x1024 .bf16) (ix2 d k) = (m (c, Proc.tc.devRef main_arg9) : Vec Ideal S512x1024 .f32) (ix2 d k) := by
  after_reads_simp
  rw [truncf_apply]

/-- The second branch's weights. -/
theorem wb_apply (c : Dev nD) (d : Fin 256) (k : Fin 1024) :
    (V m c main_v2 : Vec Ideal S256x1024 .bf16) (ix2 d k) = (m (c, Proc.tc.devRef main_arg10) : Vec Ideal S256x1024 .f32) (ix2 d k) := by
  after_reads_simp
  rw [truncf_apply]

/-- The third branch's weights. -/
theorem wm_apply (c : Dev nD) (d : Fin 256) (k : Fin 1024) :
    (V m c main_v3 : Vec Ideal S256x1024 .bf16) (ix2 d k) = (m (c, Proc.tc.devRef main_arg11) : Vec Ideal S256x1024 .f32) (ix2 d k) := by
  after_reads_simp
  rw [truncf_apply]

/-- The output projection's weights. -/
theorem wo_apply (c : Dev nD) (d k : Fin 1024) :
    (V m c main_v4 : Vec Ideal S1024x1024 .bf16) (ix2 d k) = (m (c, Proc.tc.devRef main_arg12) : Vec Ideal S1024x1024 .f32) (ix2 d k) := by
  after_reads_simp
  rw [truncf_apply]

end Cert.Kernel4Ideal.Host

end
-- ==== Proof.MergeArray.lean ====
/- The merge call's first two result arrays after the run, as expressions of the arguments: every block is what its grid
   point wrote, and the blocks tile the arrays. -/
module

public import proofs.«01_k».proof.Proof.MergeBlock
public import proofs.«01_k».proof.Proof.MergeHost

@[expose] public section

set_option maxRecDepth 16384

noncomputable section

namespace Cert.Kernel4Ideal.RefValue

open Cert.Kernel4Ideal Cert.Kernel4Ideal.Gen Idealize.ShloMosaic Idealize.ShloMosaic.TcCoe Idealize.SL.Sem Idealize.ShloMosaic.ValueIdx
open Idealize.ShloMosaic.Pipeline (Dat)
open Cert.Merge

variable (m : (ℓ : Loc nD τ sig) → Buf (Elt Idealize.ShloMosaic.Ideal) ℓ)

/-- Device `c`'s new stream. -/
abbrev out15 (c : Dev nD) : Vec Ideal S32768x1024 .f32 :=
  stream (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg9)) (m (c, Proc.tc.devRef main_arg10))
    (m (c, Proc.tc.devRef main_arg11)) (m (c, Proc.tc.devRef main_arg12))

/-- Device `c`'s normed stream. -/
abbrev out16 (c : Dev nD) : Vec Ideal S32768x1024 .f32 :=
  normed (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10))
    (m (c, Proc.tc.devRef main_arg11)) (m (c, Proc.tc.devRef main_arg12))

/-- Which block window 0 takes at a grid point. -/
theorem index0 : ∀ t : Fin grid0.N, win0_0.index t 0 = t.val ∧ win0_0.index t 1 = 0 := by decide +kernel
/-- Which block window 1 takes at a grid point. -/
theorem index1 : ∀ t : Fin grid0.N, win0_1.index t 0 = t.val ∧ win0_1.index t 1 = 0 := by decide +kernel
/-- Which block window 2 takes at a grid point. -/
theorem index2 : ∀ t : Fin grid0.N, win0_2.index t 0 = t.val ∧ win0_2.index t 1 = 0 := by decide +kernel
/-- Which block window 3 takes at a grid point. -/
theorem index3 : ∀ t : Fin grid0.N, win0_3.index t 0 = t.val ∧ win0_3.index t 1 = 0 := by decide +kernel
/-- Which block window 4 takes at a grid point. -/
theorem index4 : ∀ t : Fin grid0.N, win0_4.index t 0 = t.val ∧ win0_4.index t 1 = 0 := by decide +kernel
/-- Which block window 15 takes at a grid point. -/
theorem index15 : ∀ t : Fin grid0.N, win0_15.index t 0 = t.val ∧ win0_15.index t 1 = 0 := by decide +kernel
/-- Which block window 16 takes at a grid point. -/
theorem index16 : ∀ t : Fin grid0.N, win0_16.index t 0 = t.val ∧ win0_16.index t 1 = 0 := by decide +kernel
/-- Which block window 5 takes at a grid point. -/
theorem index5 : ∀ t : Fin grid0.N, win0_5.index t 0 = t.val / 16 ∧ win0_5.index t 1 = 0 ∧ win0_5.index t 2 = 0 := by decide +kernel
/-- Which block window 6 takes at a grid point. -/
theorem index6 : ∀ t : Fin grid0.N, win0_6.index t 0 = t.val / 16 ∧ win0_6.index t 1 = 0 ∧ win0_6.index t 2 = 0 := by decide +kernel
/-- Which block window 7 takes at a grid point. -/
theorem index7 : ∀ t : Fin grid0.N, win0_7.index t 0 = t.val / 16 ∧ win0_7.index t 1 = 0 ∧ win0_7.index t 2 = 0 := by decide +kernel
/-- Which block window 8 takes at a grid point. -/
theorem index8 : ∀ t : Fin grid0.N, win0_8.index t 0 = 0 ∧ win0_8.index t 1 = 0 := by decide +kernel
/-- Which block window 9 takes at a grid point. -/
theorem index9 : ∀ t : Fin grid0.N, win0_9.index t 0 = 0 ∧ win0_9.index t 1 = 0 := by decide +kernel
/-- Which block window 10 takes at a grid point. -/
theorem index10 : ∀ t : Fin grid0.N, win0_10.index t 0 = 0 ∧ win0_10.index t 1 = 0 := by decide +kernel
/-- Which block window 11 takes at a grid point. -/
theorem index11 : ∀ t : Fin grid0.N, win0_11.index t 0 = 0 ∧ win0_11.index t 1 = 0 := by decide +kernel
/-- Which block window 12 takes at a grid point. -/
theorem index12 : ∀ t : Fin grid0.N, win0_12.index t 0 = 0 ∧ win0_12.index t 1 = 0 := by decide +kernel
/-- The extents of the block window 15 takes at a grid point. -/
theorem xsize15 : ∀ t : Fin grid0.N, win0_15.xsize (grid0.coords t) 0 = 1024 ∧ win0_15.xsize (grid0.coords t) 1 = 1024 := by decide +kernel
/-- The extents of the block window 16 takes at a grid point. -/
theorem xsize16 : ∀ t : Fin grid0.N, win0_16.xsize (grid0.coords t) 0 = 1024 ∧ win0_16.xsize (grid0.coords t) 1 = 1024 := by decide +kernel

/-- Window 0's block at a point: 1024 rows of the array. -/
theorem blk0 (c : Dev nD) (t : Fin cfg0.N) (r : Fin 1024) (d : Fin 512) (b : Fin 2) (s : Fin 16384) (hR : t.val * 1024 + r.val = b.val * 16384 + s.val) :
    (iblk m c 0 t : Vec Ideal S1024x512 .bf16) (ix2 r d) = (m (c, Proc.tc.devRef main_arg0) : Vec Ideal S2x16384x512 .f32) (ix3 b s d) := by
  have hN : t.val < 32 := lt_of_lt_of_eq t.isLt N_0
  rw [← Host.a_apply m c ⟨t.val * 1024 + r.val, by omega⟩ d b s hR]
  have key : ∀ f : (b : Ref sig .tc) → Buf (Elt Ideal) ((c : Thread nD τ).loc b),
      (((cfg0.win 0).blk t).view.read (Elt Ideal) (f (Pipeline.arrRef spec0 0)) : Vec Ideal S1024x512 .bf16) (ix2 r d)
        = f main_v6 ((win0_0.blk t).view.emb (ix2 r d)) := fun _ => rfl
  refine (key (V m c)).trans (congrArg (V m c main_v6) (funext fun a => Fin.ext ?_))
  match a with
  | ⟨0, _⟩ =>
    show win0_0.index t 0 * 1024 + 1 * r.val = t.val * 1024 + r.val
    rw [(index0 t).1]; omega
  | ⟨1, _⟩ =>
    show win0_0.index t 1 * 512 + 1 * d.val = d.val
    rw [(index0 t).2, Nat.zero_mul, Nat.zero_add, Nat.one_mul]

/-- Window 1's block at a point: 1024 rows of the array. -/
theorem blk1 (c : Dev nD) (t : Fin cfg0.N) (r : Fin 1024) (d : Fin 256) (b : Fin 2) (s : Fin 16384) (hR : t.val * 1024 + r.val = b.val * 16384 + s.val) :
    (iblk m c 1 t : Vec Ideal S1024x256 .bf16) (ix2 r d) = (m (c, Proc.tc.devRef main_arg1) : Vec Ideal S2x16384x256 .f32) (ix3 b s d) := by
  have hN : t.val < 32 := lt_of_lt_of_eq t.isLt N_0
  rw [← Host.b_apply m c ⟨t.val * 1024 + r.val, by omega⟩ d b s hR]
  have key : ∀ f : (b : Ref sig .tc) → Buf (Elt Ideal) ((c : Thread nD τ).loc b),
      (((cfg0.win 1).blk t).view.read (Elt Ideal) (f (Pipeline.arrRef spec0 1)) : Vec Ideal S1024x256 .bf16) (ix2 r d)
        = f main_v8 ((win0_1.blk t).view.emb (ix2 r d)) := fun _ => rfl
  refine (key (V m c)).trans (congrArg (V m c main_v8) (funext fun a => Fin.ext ?_))
  match a with
  | ⟨0, _⟩ =>
    show win0_1.index t 0 * 1024 + 1 * r.val = t.val * 1024 + r.val
    rw [(index1 t).1]; omega
  | ⟨1, _⟩ =>
    show win0_1.index t 1 * 256 + 1 * d.val = d.val
    rw [(index1 t).2, Nat.zero_mul, Nat.zero_add, Nat.one_mul]

/-- Window 2's block at a point: 1024 rows of the array. -/
theorem blk2 (c : Dev nD) (t : Fin cfg0.N) (r : Fin 1024) (d : Fin 256) (b : Fin 2) (s : Fin 16384) (hR : t.val * 1024 + r.val = b.val * 16384 + s.val) :
    (iblk m c 2 t : Vec Ideal S1024x256 .bf16) (ix2 r d) = (m (c, Proc.tc.devRef main_arg2) : Vec Ideal S2x16384x256 .f32) (ix3 b s d) := by
  have hN : t.val < 32 := lt_of_lt_of_eq t.isLt N_0
  rw [← Host.m_apply m c ⟨t.val * 1024 + r.val, by omega⟩ d b s hR]
  have key : ∀ f : (b : Ref sig .tc) → Buf (Elt Ideal) ((c : Thread nD τ).loc b),
      (((cfg0.win 2).blk t).view.read (Elt Ideal) (f (Pipeline.arrRef spec0 2)) : Vec Ideal S1024x256 .bf16) (ix2 r d)
        = f main_v10 ((win0_2.blk t).view.emb (ix2 r d)) := fun _ => rfl
  refine (key (V m c)).trans (congrArg (V m c main_v10) (funext fun a => Fin.ext ?_))
  match a with
  | ⟨0, _⟩ =>
    show win0_2.index t 0 * 1024 + 1 * r.val = t.val * 1024 + r.val
    rw [(index2 t).1]; omega
  | ⟨1, _⟩ =>
    show win0_2.index t 1 * 256 + 1 * d.val = d.val
    rw [(index2 t).2, Nat.zero_mul, Nat.zero_add, Nat.one_mul]

/-- Window 3's block at a point: 1024 rows of the array. -/
theorem blk3 (c : Dev nD) (t : Fin cfg0.N) (r : Fin 1024) (d : Fin 3072) (b : Fin 2) (s : Fin 16384) (hR : t.val * 1024 + r.val = b.val * 16384 + s.val) :
    (iblk m c 3 t : Vec Ideal S1024x3072 .bf16) (ix2 r d) = Ideal.logistic ((m (c, Proc.tc.devRef main_arg3) : Vec Ideal S2x16384x3072 .f32) (ix3 b s d)) := by
  have hN : t.val < 32 := lt_of_lt_of_eq t.isLt N_0
  rw [← Host.g_apply m c ⟨t.val * 1024 + r.val, by omega⟩ d b s hR]
  have key : ∀ f : (b : Ref sig .tc) → Buf (Elt Ideal) ((c : Thread nD τ).loc b),
      (((cfg0.win 3).blk t).view.read (Elt Ideal) (f (Pipeline.arrRef spec0 3)) : Vec Ideal S1024x3072 .bf16) (ix2 r d)
        = f main_v19 ((win0_3.blk t).view.emb (ix2 r d)) := fun _ => rfl
  refine (key (V m c)).trans (congrArg (V m c main_v19) (funext fun a => Fin.ext ?_))
  match a with
  | ⟨0, _⟩ =>
    show win0_3.index t 0 * 1024 + 1 * r.val = t.val * 1024 + r.val
    rw [(index3 t).1]; omega
  | ⟨1, _⟩ =>
    show win0_3.index t 1 * 3072 + 1 * d.val = d.val
    rw [(index3 t).2, Nat.zero_mul, Nat.zero_add, Nat.one_mul]

/-- Window 4's block at a point: 1024 rows of the array. -/
theorem blk4 (c : Dev nD) (t : Fin cfg0.N) (r : Fin 1024) (d : Fin 1024) (b : Fin 2) (s : Fin 16384) (hR : t.val * 1024 + r.val = b.val * 16384 + s.val) :
    (iblk m c 4 t : Vec Ideal S1024x1024 .f32) (ix2 r d) = (m (c, Proc.tc.devRef main_arg4) : Vec Ideal S2x16384x1024 .f32) (ix3 b s d) := by
  have hN : t.val < 32 := lt_of_lt_of_eq t.isLt N_0
  rw [← Host.x_apply m c ⟨t.val * 1024 + r.val, by omega⟩ d b s hR]
  have key : ∀ f : (b : Ref sig .tc) → Buf (Elt Ideal) ((c : Thread nD τ).loc b),
      (((cfg0.win 4).blk t).view.read (Elt Ideal) (f (Pipeline.arrRef spec0 4)) : Vec Ideal S1024x1024 .f32) (ix2 r d)
        = f main_v20 ((win0_4.blk t).view.emb (ix2 r d)) := fun _ => rfl
  refine (key (V m c)).trans (congrArg (V m c main_v20) (funext fun a => Fin.ext ?_))
  match a with
  | ⟨0, _⟩ =>
    show win0_4.index t 0 * 1024 + 1 * r.val = t.val * 1024 + r.val
    rw [(index4 t).1]; omega
  | ⟨1, _⟩ =>
    show win0_4.index t 1 * 1024 + 1 * d.val = d.val
    rw [(index4 t).2, Nat.zero_mul, Nat.zero_add, Nat.one_mul]

/-- Window 5's block at a point: the vector of the point's batch entry. -/
theorem blk5 (c : Dev nD) (t : Fin cfg0.N) (n : Fin 1024) (b : Fin 2) (hb : b.val = t.val / 16) :
    (iblk m c 5 t : Vec Ideal S1x1x1024 .f32) (ix3 0 0 n) = (m (c, Proc.tc.devRef main_arg5) : Vec Ideal S2x1024 .f32) (ix2 b n) := by
  rw [← Host.gate_apply m c b n]
  have key : ∀ f : (b : Ref sig .tc) → Buf (Elt Ideal) ((c : Thread nD τ).loc b),
      (((cfg0.win 5).blk t).view.read (Elt Ideal) (f (Pipeline.arrRef spec0 5)) : Vec Ideal S1x1x1024 .f32) (ix3 0 0 n)
        = f main_v21 ((win0_5.blk t).view.emb (ix3 0 0 n)) := fun _ => rfl
  refine (key (V m c)).trans (congrArg (V m c main_v21) (funext fun a => Fin.ext ?_))
  match a with
  | ⟨0, _⟩ =>
    show win0_5.index t 0 * 1 + 1 * 0 = b.val
    rw [(index5 t).1]; omega
  | ⟨1, _⟩ =>
    show win0_5.index t 1 * 1 + 1 * 0 = 0
    rw [(index5 t).2.1]
  | ⟨2, _⟩ =>
    show win0_5.index t 2 * 1024 + 1 * n.val = n.val
    rw [(index5 t).2.2]; omega

/-- Window 6's block at a point: the vector of the point's batch entry. -/
theorem blk6 (c : Dev nD) (t : Fin cfg0.N) (n : Fin 1024) (b : Fin 2) (hb : b.val = t.val / 16) :
    (iblk m c 6 t : Vec Ideal S1x1x1024 .f32) (ix3 0 0 n) = (m (c, Proc.tc.devRef main_arg6) : Vec Ideal S2x1024 .f32) (ix2 b n) := by
  rw [← Host.shift_apply m c b n]
  have key : ∀ f : (b : Ref sig .tc) → Buf (Elt Ideal) ((c : Thread nD τ).loc b),
      (((cfg0.win 6).blk t).view.read (Elt Ideal) (f (Pipeline.arrRef spec0 6)) : Vec Ideal S1x1x1024 .f32) (ix3 0 0 n)
        = f main_v22 ((win0_6.blk t).view.emb (ix3 0 0 n)) := fun _ => rfl
  refine (key (V m c)).trans (congrArg (V m c main_v22) (funext fun a => Fin.ext ?_))
  match a with
  | ⟨0, _⟩ =>
    show win0_6.index t 0 * 1 + 1 * 0 = b.val
    rw [(index6 t).1]; omega
  | ⟨1, _⟩ =>
    show win0_6.index t 1 * 1 + 1 * 0 = 0
    rw [(index6 t).2.1]
  | ⟨2, _⟩ =>
    show win0_6.index t 2 * 1024 + 1 * n.val = n.val
    rw [(index6 t).2.2]; omega

/-- Window 7's block at a point: the vector of the point's batch entry. -/
theorem blk7 (c : Dev nD) (t : Fin cfg0.N) (n : Fin 1024) (b : Fin 2) (hb : b.val = t.val / 16) :
    (iblk m c 7 t : Vec Ideal S1x1x1024 .f32) (ix3 0 0 n) = (m (c, Proc.tc.devRef main_arg7) : Vec Ideal S2x1024 .f32) (ix2 b n) := by
  rw [← Host.scale_apply m c b n]
  have key : ∀ f : (b : Ref sig .tc) → Buf (Elt Ideal) ((c : Thread nD τ).loc b),
      (((cfg0.win 7).blk t).view.read (Elt Ideal) (f (Pipeline.arrRef spec0 7)) : Vec Ideal S1x1x1024 .f32) (ix3 0 0 n)
        = f main_v23 ((win0_7.blk t).view.emb (ix3 0 0 n)) := fun _ => rfl
  refine (key (V m c)).trans (congrArg (V m c main_v23) (funext fun a => Fin.ext ?_))
  match a with
  | ⟨0, _⟩ =>
    show win0_7.index t 0 * 1 + 1 * 0 = b.val
    rw [(index7 t).1]; omega
  | ⟨1, _⟩ =>
    show win0_7.index t 1 * 1 + 1 * 0 = 0
    rw [(index7 t).2.1]
  | ⟨2, _⟩ =>
    show win0_7.index t 2 * 1024 + 1 * n.val = n.val
    rw [(index7 t).2.2]; omega

/-- Window 8's block at a point: its whole array. -/
theorem blk8 (c : Dev nD) (t : Fin cfg0.N) (k : Fin 1024) :
    (iblk m c 8 t : Vec Ideal S1x1024 .f32) (ix2 0 k) = (m (c, Proc.tc.devRef main_arg8) : Vec Ideal S1024 .f32) (ix1 k) := by
  rw [← Host.gain_apply m c k]
  have key : ∀ f : (b : Ref sig .tc) → Buf (Elt Ideal) ((c : Thread nD τ).loc b),
      (((cfg0.win 8).blk t).view.read (Elt Ideal) (f (Pipeline.arrRef spec0 8)) : Vec Ideal S1x1024 .f32) (ix2 0 k)
        = f main_v0 ((win0_8.blk t).view.emb (ix2 0 k)) := fun _ => rfl
  refine (key (V m c)).trans (congrArg (V m c main_v0) (funext fun a => Fin.ext ?_))
  match a with
  | ⟨0, _⟩ =>
    show win0_8.index t 0 * 1 + 1 * 0 = 0
    rw [(index8 t).1]
  | ⟨1, _⟩ =>
    show win0_8.index t 1 * 1024 + 1 * k.val = k.val
    rw [(index8 t).2]; omega

/-- Window 9's block at a point: its whole array. -/
theorem blk9 (c : Dev nD) (t : Fin cfg0.N) (d : Fin 512) (k : Fin 1024) :
    (iblk m c 9 t : Vec Ideal S512x1024 .bf16) (ix2 d k) = (m (c, Proc.tc.devRef main_arg9) : Vec Ideal S512x1024 .f32) (ix2 d k) := by
  rw [← Host.wa_apply m c d k]
  have key : ∀ f : (b : Ref sig .tc) → Buf (Elt Ideal) ((c : Thread nD τ).loc b),
      (((cfg0.win 9).blk t).view.read (Elt Ideal) (f (Pipeline.arrRef spec0 9)) : Vec Ideal S512x1024 .bf16) (ix2 d k)
        = f main_v1 ((win0_9.blk t).view.emb (ix2 d k)) := fun _ => rfl
  refine (key (V m c)).trans (congrArg (V m c main_v1) (funext fun a => Fin.ext ?_))
  match a with
  | ⟨0, _⟩ =>
    show win0_9.index t 0 * 512 + 1 * d.val = d.val
    rw [(index9 t).1]; omega
  | ⟨1, _⟩ =>
    show win0_9.index t 1 * 1024 + 1 * k.val = k.val
    rw [(index9 t).2]; omega

/-- Window 10's block at a point: its whole array. -/
theorem blk10 (c : Dev nD) (t : Fin cfg0.N) (d : Fin 256) (k : Fin 1024) :
    (iblk m c 10 t : Vec Ideal S256x1024 .bf16) (ix2 d k) = (m (c, Proc.tc.devRef main_arg10) : Vec Ideal S256x1024 .f32) (ix2 d k) := by
  rw [← Host.wb_apply m c d k]
  have key : ∀ f : (b : Ref sig .tc) → Buf (Elt Ideal) ((c : Thread nD τ).loc b),
      (((cfg0.win 10).blk t).view.read (Elt Ideal) (f (Pipeline.arrRef spec0 10)) : Vec Ideal S256x1024 .bf16) (ix2 d k)
        = f main_v2 ((win0_10.blk t).view.emb (ix2 d k)) := fun _ => rfl
  refine (key (V m c)).trans (congrArg (V m c main_v2) (funext fun a => Fin.ext ?_))
  match a with
  | ⟨0, _⟩ =>
    show win0_10.index t 0 * 256 + 1 * d.val = d.val
    rw [(index10 t).1]; omega
  | ⟨1, _⟩ =>
    show win0_10.index t 1 * 1024 + 1 * k.val = k.val
    rw [(index10 t).2]; omega

/-- Window 11's block at a point: its whole array. -/
theorem blk11 (c : Dev nD) (t : Fin cfg0.N) (d : Fin 256) (k : Fin 1024) :
    (iblk m c 11 t : Vec Ideal S256x1024 .bf16) (ix2 d k) = (m (c, Proc.tc.devRef main_arg11) : Vec Ideal S256x1024 .f32) (ix2 d k) := by
  rw [← Host.wm_apply m c d k]
  have key : ∀ f : (b : Ref sig .tc) → Buf (Elt Ideal) ((c : Thread nD τ).loc b),
      (((cfg0.win 11).blk t).view.read (Elt Ideal) (f (Pipeline.arrRef spec0 11)) : Vec Ideal S256x1024 .bf16) (ix2 d k)
        = f main_v3 ((win0_11.blk t).view.emb (ix2 d k)) := fun _ => rfl
  refine (key (V m c)).trans (congrArg (V m c main_v3) (funext fun a => Fin.ext ?_))
  match a with
  | ⟨0, _⟩ =>
    show win0_11.index t 0 * 256 + 1 * d.val = d.val
    rw [(index11 t).1]; omega
  | ⟨1, _⟩ =>
    show win0_11.index t 1 * 1024 + 1 * k.val = k.val
    rw [(index11 t).2]; omega

/-- Window 12's block at a point: its whole array. -/
theorem blk12 (c : Dev nD) (t : Fin cfg0.N) (d : Fin 1024) (k : Fin 1024) :
    (iblk m c 12 t : Vec Ideal S1024x1024 .bf16) (ix2 d k) = (m (c, Proc.tc.devRef main_arg12) : Vec Ideal S1024x1024 .f32) (ix2 d k) := by
  rw [← Host.wo_apply m c d k]
  have key : ∀ f : (b : Ref sig .tc) → Buf (Elt Ideal) ((c : Thread nD τ).loc b),
      (((cfg0.win 12).blk t).view.read (Elt Ideal) (f (Pipeline.arrRef spec0 12)) : Vec Ideal S1024x1024 .bf16) (ix2 d k)
        = f main_v4 ((win0_12.blk t).view.emb (ix2 d k)) := fun _ => rfl
  refine (key (V m c)).trans (congrArg (V m c main_v4) (funext fun a => Fin.ext ?_))
  match a with
  | ⟨0, _⟩ =>
    show win0_12.index t 0 * 1024 + 1 * d.val = d.val
    rw [(index12 t).1]; omega
  | ⟨1, _⟩ =>
    show win0_12.index t 1 * 1024 + 1 * k.val = k.val
    rw [(index12 t).2]; omega

/-- A point's row of the new stream is the stream's row. -/
theorem row_eq (c : Dev nD) (t : Fin cfg0.N) (r n : Fin 1024) (b : Fin 2) (s : Fin 16384) (hR : t.val * 1024 + r.val = b.val * 16384 + s.val) :
    Blk.row (iblk m c 0 t) (iblk m c 1 t) (iblk m c 2 t) (iblk m c 3 t) (iblk m c 4 t) (iblk m c 5 t) (iblk m c 9 t) (iblk m c 10 t) (iblk m c 11 t) (iblk m c 12 t) r n
      = streamAt (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg9)) (m (c, Proc.tc.devRef main_arg10)) (m (c, Proc.tc.devRef main_arg11)) (m (c, Proc.tc.devRef main_arg12)) b s n := by
  have hb : b.val = t.val / 16 := by omega
  unfold Blk.row streamAt
  rw [blk4 m c t r n b s hR, blk5 m c t n b hb]
  have hsum : ∀ (x g : EReal) (f f' w w' : Fin 1024 → EReal), f = f' → w = w' → x + g * proj f w = x + g * proj f' w' := by
    intro x g f f' w w' hf hw
    rw [hf, hw]
  refine hsum _ _ _ _ _ _ (funext fun k => ?_) (funext fun k => blk12 m c t k n)
  unfold mixAt
  rw [blk3 m c t r _ b s hR, blk3 m c t r _ b s hR, blk3 m c t r _ b s hR]
  rw [show (fun d => (iblk m c 0 t : Vec Ideal S1024x512 .bf16) (ix2 r d)) = fun d => (m (c, Proc.tc.devRef main_arg0) : Vec Ideal S2x16384x512 .f32) (ix3 b s d)
      from funext fun d => blk0 m c t r d b s hR,
    show (fun d => (iblk m c 1 t : Vec Ideal S1024x256 .bf16) (ix2 r d)) = fun d => (m (c, Proc.tc.devRef main_arg1) : Vec Ideal S2x16384x256 .f32) (ix3 b s d)
      from funext fun d => blk1 m c t r d b s hR,
    show (fun d => (iblk m c 2 t : Vec Ideal S1024x256 .bf16) (ix2 r d)) = fun d => (m (c, Proc.tc.devRef main_arg2) : Vec Ideal S2x16384x256 .f32) (ix3 b s d)
      from funext fun d => blk2 m c t r d b s hR,
    show (fun d => (iblk m c 9 t : Vec Ideal S512x1024 .bf16) (ix2 d k)) = fun d => (m (c, Proc.tc.devRef main_arg9) : Vec Ideal S512x1024 .f32) (ix2 d k)
      from funext fun d => blk9 m c t d k,
    show (fun d => (iblk m c 10 t : Vec Ideal S256x1024 .bf16) (ix2 d k)) = fun d => (m (c, Proc.tc.devRef main_arg10) : Vec Ideal S256x1024 .f32) (ix2 d k)
      from funext fun d => blk10 m c t d k,
    show (fun d => (iblk m c 11 t : Vec Ideal S256x1024 .bf16) (ix2 d k)) = fun d => (m (c, Proc.tc.devRef main_arg11) : Vec Ideal S256x1024 .f32) (ix2 d k)
      from funext fun d => blk11 m c t d k]

/-- An entry of what a point writes to the new stream. -/
theorem entry15 (c : Dev nD) (t : Fin cfg0.N) (r n : Fin 1024) (R : Fin 32768) (hr : R.val = t.val * 1024 + r.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r n) = out15 m c (ix2 R n) := by
  have hN : t.val < 32 := lt_of_lt_of_eq t.isLt N_0
  rw [show R = ⟨t.val * 1024 + r.val, by omega⟩ from Fin.ext hr]
  obtain ⟨b, hb⟩ : ∃ b : Fin 2, b.val = t.val / 16 := ⟨⟨t.val / 16, by omega⟩, rfl⟩
  obtain ⟨s, hs⟩ : ∃ s : Fin 16384, s.val = t.val % 16 * 1024 + r.val := ⟨⟨t.val % 16 * 1024 + r.val, by omega⟩, rfl⟩
  have hR : t.val * 1024 + r.val = b.val * 16384 + s.val := by omega
  exact (Blk.out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r n).trans
    ((row_eq m c t r n b s hR).trans (stream_row _ _ _ _ _ _ _ _ _ _ ⟨t.val * 1024 + r.val, by omega⟩ n b s hR).symm)

/-- What point `t` writes back to the new stream is block `t` of it. -/
theorem flushed_eq15 (c : Dev nD) (t : Fin cfg0.N) :
    (dats m 0 c).flushed 15 t = (win0_15.blk t).view.read (Elt Ideal) (out15 m c) := by
  rw [Value.flushed15]
  have hN : t.val < 32 := lt_of_lt_of_eq t.isLt N_0
  refine funext fun (j : S1024x1024.Idx) => ?_
  have h0 : (j 0).val < 1024 := (j 0).isLt
  have h1 : (j 1).val < 1024 := (j 1).isLt
  have cutKey : ∀ f : Vec Ideal S1024x1024 .f32, (cfg0.win 15).cut (grid0.coords t) f j = f (ix2 ⟨(j 0).val, h0⟩ ⟨(j 1).val, h1⟩) := fun f =>
    congrArg f (funext fun a => match a with | ⟨0, _⟩ => rfl | ⟨1, _⟩ => rfl)
  have readKey : ∀ f : Vec Ideal S32768x1024 .f32, (win0_15.blk t).view.read (Elt Ideal) f j
      = f (ix2 ⟨t.val * 1024 + (j 0).val, by omega⟩ ⟨(j 1).val, h1⟩) := fun f => congrArg f (funext fun a => Fin.ext (by
    match a with
    | ⟨0, _⟩ =>
      show win0_15.index t 0 * 1024 + 1 * (j 0).val = t.val * 1024 + (j 0).val
      rw [(index15 t).1]; omega
    | ⟨1, _⟩ =>
      show win0_15.index t 1 * 1024 + 1 * (j 1).val = (j 1).val
      rw [(index15 t).2]; omega))
  exact (cutKey _).trans ((entry15 m c t ⟨(j 0).val, h0⟩ ⟨(j 1).val, h1⟩ ⟨t.val * 1024 + (j 0).val, by omega⟩ rfl).trans (readKey _).symm)

/-- An index of the new stream is in point `t`'s block. -/
theorem mem_blk15 (t : Fin cfg0.N) (i : S32768x1024.Idx) (h : (i 0).val / 1024 = t.val) : i ∈ (win0_15.blk t).view.set := by
  have key : ∀ r : Rect S32768x1024, i ∈ r.set → i ∈ ((View.whole main_v26_0).slice r).set := fun r hr => by rw [View.set_slice_whole]; exact hr
  refine key (win0_15.rect t) ((Rect.mem_set_unit).2 ?_)
  have h1 : (i 1 : Nat) < 1024 := (i 1).isLt
  intro a
  match a with
  | ⟨0, _⟩ => show win0_15.index t 0 * 1024 ≤ (i 0 : Nat) ∧ (i 0 : Nat) < win0_15.index t 0 * 1024 + win0_15.xsize (grid0.coords t) 0
              rw [(index15 t).1, (xsize15 t).1]; omega
  | ⟨1, _⟩ => show win0_15.index t 1 * 1024 ≤ (i 1 : Nat) ∧ (i 1 : Nat) < win0_15.index t 1 * 1024 + win0_15.xsize (grid0.coords t) 1
              rw [(index15 t).2, (xsize15 t).2]; omega

/-- The blocks tile the new stream. -/
theorem cover15 (i : S32768x1024.Idx) : ∃ t : Fin cfg0.N, (cfg0.win 15).flush t = true ∧ i ∈ ((cfg0.win 15).blk t).view.set := by
  have h0 : (i 0 : Nat) < 32768 := (i 0).isLt
  have hN : cfg0.N = 32 := N_0
  exact ⟨⟨(i 0).val / 1024, by omega⟩, flush0_15 _, mem_blk15 _ i rfl⟩

/-- The array ends holding the new stream. -/
theorem final15 (c : Dev nD) : (dats m 0 c).arrAt 15 cfg0.N = out15 m c :=
  (dats m 0 c).arrAt_eq_of_cover 15 (out15 m c) (fun t _ => flushed_eq15 m c t) cover15

/-- An entry of what a point writes to the normed stream. -/
theorem entry16 (c : Dev nD) (t : Fin cfg0.N) (r n : Fin 1024) (R : Fin 32768) (hr : R.val = t.val * 1024 + r.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r n) = out16 m c (ix2 R n) := by
  have hN : t.val < 32 := lt_of_lt_of_eq t.isLt N_0
  rw [show R = ⟨t.val * 1024 + r.val, by omega⟩ from Fin.ext hr]
  obtain ⟨b, hb⟩ : ∃ b : Fin 2, b.val = t.val / 16 := ⟨⟨t.val / 16, by omega⟩, rfl⟩
  obtain ⟨s, hs⟩ : ∃ s : Fin 16384, s.val = t.val % 16 * 1024 + r.val := ⟨⟨t.val % 16 * 1024 + r.val, by omega⟩, rfl⟩
  have hR : t.val * 1024 + r.val = b.val * 16384 + s.val := by omega
  refine (Blk.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r n).trans
    (Eq.trans ?_ (normed_row _ _ _ _ _ _ _ _ _ _ _ _ _ ⟨t.val * 1024 + r.val, by omega⟩ n b s hR).symm)
  rw [blk8 m c t n, blk7 m c t n b hb, blk6 m c t n b hb]
  exact congrArg (fun f => modul f n ((m (c, Proc.tc.devRef main_arg8) : Vec Ideal S1024 .f32) (ix1 n))
    ((m (c, Proc.tc.devRef main_arg7) : Vec Ideal S2x1024 .f32) (ix2 b n)) ((m (c, Proc.tc.devRef main_arg6) : Vec Ideal S2x1024 .f32) (ix2 b n)))
    (funext fun k => row_eq m c t r k b s hR)

/-- What point `t` writes back to the normed stream is block `t` of it. -/
theorem flushed_eq16 (c : Dev nD) (t : Fin cfg0.N) :
    (dats m 0 c).flushed 16 t = (win0_16.blk t).view.read (Elt Ideal) (out16 m c) := by
  rw [Value.flushed16]
  have hN : t.val < 32 := lt_of_lt_of_eq t.isLt N_0
  refine funext fun (j : S1024x1024.Idx) => ?_
  have h0 : (j 0).val < 1024 := (j 0).isLt
  have h1 : (j 1).val < 1024 := (j 1).isLt
  have cutKey : ∀ f : Vec Ideal S1024x1024 .f32, (cfg0.win 16).cut (grid0.coords t) f j = f (ix2 ⟨(j 0).val, h0⟩ ⟨(j 1).val, h1⟩) := fun f =>
    congrArg f (funext fun a => match a with | ⟨0, _⟩ => rfl | ⟨1, _⟩ => rfl)
  have readKey : ∀ f : Vec Ideal S32768x1024 .f32, (win0_16.blk t).view.read (Elt Ideal) f j
      = f (ix2 ⟨t.val * 1024 + (j 0).val, by omega⟩ ⟨(j 1).val, h1⟩) := fun f => congrArg f (funext fun a => Fin.ext (by
    match a with
    | ⟨0, _⟩ =>
      show win0_16.index t 0 * 1024 + 1 * (j 0).val = t.val * 1024 + (j 0).val
      rw [(index16 t).1]; omega
    | ⟨1, _⟩ =>
      show win0_16.index t 1 * 1024 + 1 * (j 1).val = (j 1).val
      rw [(index16 t).2]; omega))
  exact (cutKey _).trans ((entry16 m c t ⟨(j 0).val, h0⟩ ⟨(j 1).val, h1⟩ ⟨t.val * 1024 + (j 0).val, by omega⟩ rfl).trans (readKey _).symm)

/-- An index of the normed stream is in point `t`'s block. -/
theorem mem_blk16 (t : Fin cfg0.N) (i : S32768x1024.Idx) (h : (i 0).val / 1024 = t.val) : i ∈ (win0_16.blk t).view.set := by
  have key : ∀ r : Rect S32768x1024, i ∈ r.set → i ∈ ((View.whole main_v26_1).slice r).set := fun r hr => by rw [View.set_slice_whole]; exact hr
  refine key (win0_16.rect t) ((Rect.mem_set_unit).2 ?_)
  have h1 : (i 1 : Nat) < 1024 := (i 1).isLt
  intro a
  match a with
  | ⟨0, _⟩ => show win0_16.index t 0 * 1024 ≤ (i 0 : Nat) ∧ (i 0 : Nat) < win0_16.index t 0 * 1024 + win0_16.xsize (grid0.coords t) 0
              rw [(index16 t).1, (xsize16 t).1]; omega
  | ⟨1, _⟩ => show win0_16.index t 1 * 1024 ≤ (i 1 : Nat) ∧ (i 1 : Nat) < win0_16.index t 1 * 1024 + win0_16.xsize (grid0.coords t) 1
              rw [(index16 t).2, (xsize16 t).2]; omega

/-- The blocks tile the normed stream. -/
theorem cover16 (i : S32768x1024.Idx) : ∃ t : Fin cfg0.N, (cfg0.win 16).flush t = true ∧ i ∈ ((cfg0.win 16).blk t).view.set := by
  have h0 : (i 0 : Nat) < 32768 := (i 0).isLt
  have hN : cfg0.N = 32 := N_0
  exact ⟨⟨(i 0).val / 1024, by omega⟩, flush0_16 _, mem_blk16 _ i rfl⟩

/-- The array ends holding the normed stream. -/
theorem final16 (c : Dev nD) : (dats m 0 c).arrAt 16 cfg0.N = out16 m c :=
  (dats m 0 c).arrAt_eq_of_cover 16 (out16 m c) (fun t _ => flushed_eq16 m c t) cover16

end Cert.Kernel4Ideal.RefValue

end
-- ==== Proof.MergeEntry.lean ====
/- What the merge's reference holds at an entry: the new stream and its modulated norm. -/
module

public import proofs.«01_k».proof.Proof.MergeSpec
public import proofs.«01_k».proof.Proof.Gen.Reference4Ideal.Read

@[expose] public section

set_option maxRecDepth 16384

noncomputable section

namespace Cert.Reference4Ideal.Entry

open Cert.Reference4Ideal Cert.Reference4Ideal.Gen Cert.Reference4Ideal.Read Idealize.ShloMosaic Idealize.ShloMosaic.ValueIdx
open Cert.Merge
open scoped BigOperators

variable (x0 : FVec Ideal S2x16384x512 .f32) (x1 x2 : FVec Ideal S2x16384x256 .f32) (x3 : FVec Ideal S2x16384x3072 .f32)
  (x4 : FVec Ideal S2x16384x1024 .f32) (x5 x6 x7 : FVec Ideal S2x1024 .f32) (x8 : FVec Ideal S1024 .f32) (x9 : FVec Ideal S512x1024 .f32)
  (x10 x11 : FVec Ideal S256x1024 .f32) (x12 : FVec Ideal S1024x1024 .f32)

/-- A gate. -/
theorem sigmoid_apply (i : S2x16384x3072.Idx) : val_main_v5 (F := Ideal) x3 i = Ideal.logistic (x3 i) := by
  rw [val_main_v5_apply, val_main_v4_apply, val_main_cst_0_apply, val_main_v3_apply, val_main_v2_apply, val_main_cst_apply, val_main_v1_apply, val_main_v0_apply]
  rw [show (FloatOps.ofBits FTy.f32 0x3F800000#32 : Ideal .f32) = (1 : EReal) from Ideal.ofBits_one_f32]
  rfl

/-- The gated sum. -/
theorem mixed_apply (b : Fin 2) (s : Fin 16384) (k : Fin 1024) :
    val_main_v16 (F := Ideal) x0 x1 x2 x3 x9 x10 x11 (ix3 b s k) = mixAt x0 x1 x2 x3 x9 x10 x11 b s k := by
  have e6 : idx_main_v6 (ix3 b s k) = ix3 b s ⟨k.val, by omega⟩ := funext fun a => by
    match a with
    | ⟨0, _⟩ => rfl
    | ⟨1, _⟩ => rfl
    | ⟨2, _⟩ => rfl
  have e7 : idx_main_v7 (ix3 b s k) = ix3 b s ⟨1024 + k.val, by omega⟩ := funext fun a => by
    match a with
    | ⟨0, _⟩ => rfl
    | ⟨1, _⟩ => rfl
    | ⟨2, _⟩ => rfl
  have e8 : idx_main_v8 (ix3 b s k) = ix3 b s ⟨2048 + k.val, by omega⟩ := funext fun a => by
    match a with
    | ⟨0, _⟩ => rfl
    | ⟨1, _⟩ => rfl
    | ⟨2, _⟩ => rfl
  have d9 : val_main_v9 (F := Ideal) x0 x9 (ix3 b s k) = ∑ d, x0 (ix3 b s d) * x9 (ix2 d k) := by
    rw [val_main_v9_apply]
    refine Finset.sum_congr rfl fun d _ => congrArg₂ (fun p q : EReal => p * q) (congrArg x0 (funext fun a => ?_)) (congrArg x9 (funext fun a => ?_))
    · match a with
      | ⟨0, _⟩ => rfl
      | ⟨1, _⟩ => rfl
      | ⟨2, _⟩ => rfl
    · match a with
      | ⟨0, _⟩ => rfl
      | ⟨1, _⟩ => rfl
  have d11 : val_main_v11 (F := Ideal) x1 x10 (ix3 b s k) = ∑ d, x1 (ix3 b s d) * x10 (ix2 d k) := by
    rw [val_main_v11_apply]
    refine Finset.sum_congr rfl fun d _ => congrArg₂ (fun p q : EReal => p * q) (congrArg x1 (funext fun a => ?_)) (congrArg x10 (funext fun a => ?_))
    · match a with
      | ⟨0, _⟩ => rfl
      | ⟨1, _⟩ => rfl
      | ⟨2, _⟩ => rfl
    · match a with
      | ⟨0, _⟩ => rfl
      | ⟨1, _⟩ => rfl
  have d14 : val_main_v14 (F := Ideal) x2 x11 (ix3 b s k) = ∑ d, x2 (ix3 b s d) * x11 (ix2 d k) := by
    rw [val_main_v14_apply]
    refine Finset.sum_congr rfl fun d _ => congrArg₂ (fun p q : EReal => p * q) (congrArg x2 (funext fun a => ?_)) (congrArg x11 (funext fun a => ?_))
    · match a with
      | ⟨0, _⟩ => rfl
      | ⟨1, _⟩ => rfl
      | ⟨2, _⟩ => rfl
    · match a with
      | ⟨0, _⟩ => rfl
      | ⟨1, _⟩ => rfl
  rw [val_main_v16_apply, val_main_v13_apply, val_main_v10_apply, val_main_v12_apply, val_main_v15_apply, d9, d11, d14, val_main_v6_apply, val_main_v7_apply,
    val_main_v8_apply, e6, e7, e8, sigmoid_apply, sigmoid_apply, sigmoid_apply]
  rfl

/-- The new stream. -/
theorem stream_apply (b : Fin 2) (s : Fin 16384) (n : Fin 1024) :
    val_main_v21 (F := Ideal) x0 x1 x2 x3 x4 x5 x9 x10 x11 x12 (ix3 b s n) = streamAt x0 x1 x2 x3 x4 x5 x9 x10 x11 x12 b s n := by
  have e17 : idx_main_v17 (idx_main_v19 (ix3 b s n)) = ix2 b n := funext fun a => by
    match a with
    | ⟨0, _⟩ => rfl
    | ⟨1, _⟩ => rfl
  have d18 : val_main_v18 (F := Ideal) x0 x1 x2 x3 x9 x10 x11 x12 (ix3 b s n) = proj (mixAt x0 x1 x2 x3 x9 x10 x11 b s) (fun k => x12 (ix2 k n)) := by
    rw [val_main_v18_apply]
    refine Finset.sum_congr rfl fun k _ => ?_
    have el : lidx_main_v18 (ix3 b s n) k = ix3 b s k := funext fun a => by
      match a with
      | ⟨0, _⟩ => rfl
      | ⟨1, _⟩ => rfl
      | ⟨2, _⟩ => rfl
    have er : ridx_main_v18 (ix3 b s n) k = ix2 k n := funext fun a => by
      match a with
      | ⟨0, _⟩ => rfl
      | ⟨1, _⟩ => rfl
    rw [el, er, mixed_apply]
  rw [val_main_v21_apply, val_main_v20_apply, val_main_v19_apply, val_main_v17_apply, e17, d18]
  rfl

/-- The number the norm multiplies by. -/
theorem rinv_apply (b : Fin 2) (s : Fin 16384) :
    val_main_v29 (F := Ideal) x0 x1 x2 x3 x4 x5 x9 x10 x11 x12 (ix3 b s 0) = rinv (streamAt x0 x1 x2 x3 x4 x5 x9 x10 x11 x12 b s) := by
  have e24 : idx_main_v24 (ix3 b s 0) = ix2 b s := funext fun a => by
    match a with
    | ⟨0, _⟩ => rfl
    | ⟨1, _⟩ => rfl
  have d23 : val_main_v23 (F := Ideal) x0 x1 x2 x3 x4 x5 x9 x10 x11 x12 (ix2 b s)
      = ∑ k, streamAt x0 x1 x2 x3 x4 x5 x9 x10 x11 x12 b s k * streamAt x0 x1 x2 x3 x4 x5 x9 x10 x11 x12 b s k := by
    rw [val_main_v23_apply, val_main_cst_1_apply, show (FloatOps.ofBits FTy.f32 0x00000000#32 : Ideal .f32) = (0 : EReal) from Ideal.ofBits_zero_f32, zero_add]
    refine Finset.sum_congr rfl fun k _ => ?_
    have e : idx_main_v23 (ix2 b s) k = ix3 b s k := funext fun a => by
      match a with
      | ⟨0, _⟩ => rfl
      | ⟨1, _⟩ => rfl
      | ⟨2, _⟩ => rfl
    rw [e, val_main_v22_apply, stream_apply]
    rfl
  rw [val_main_v29_apply, val_main_v28_apply, val_main_v26_apply, val_main_v24_apply, e24, d23, val_main_v25_apply, val_main_cst_2_apply, val_main_v27_apply,
    val_main_cst_3_apply]
  rfl

/-- The modulated norm. -/
theorem norm_apply (b : Fin 2) (s : Fin 16384) (n : Fin 1024) :
    val_main_v42 (F := Ideal) x0 x1 x2 x3 x4 x5 x6 x7 x8 x9 x10 x11 x12 (ix3 b s n) = normAt x0 x1 x2 x3 x4 x5 x6 x7 x8 x9 x10 x11 x12 b s n := by
  have e30 : idx_main_v30 (ix3 b s n) = ix3 b s 0 := funext fun a => by
    match a with
    | ⟨0, _⟩ => rfl
    | ⟨1, _⟩ => rfl
    | ⟨2, _⟩ => rfl
  have e32 : idx_main_v32 (idx_main_v33 (ix3 b s n)) = ix1 n := funext fun a => by
    match a with
    | ⟨0, _⟩ => rfl
  have e35 : idx_main_v35 (idx_main_v38 (ix3 b s n)) = ix2 b n := funext fun a => by
    match a with
    | ⟨0, _⟩ => rfl
    | ⟨1, _⟩ => rfl
  have e40 : idx_main_v40 (idx_main_v41 (ix3 b s n)) = ix2 b n := funext fun a => by
    match a with
    | ⟨0, _⟩ => rfl
    | ⟨1, _⟩ => rfl
  rw [val_main_v42_apply, val_main_v39_apply, val_main_v34_apply, val_main_v31_apply, stream_apply, val_main_v30_apply, e30, rinv_apply, val_main_v33_apply,
    val_main_v32_apply, e32, val_main_v38_apply, val_main_v37_apply, val_main_v36_apply, val_main_cst_4_apply, val_main_v35_apply, e35, val_main_v41_apply,
    val_main_v40_apply, e40]
  rfl

/-- The reference's first result. -/
theorem stream_eq : val_main_v43 (F := Ideal) x0 x1 x2 x3 x4 x5 x9 x10 x11 x12 = stream x0 x1 x2 x3 x4 x5 x9 x10 x11 x12 := by
  funext j
  obtain ⟨R, n, rfl⟩ : ∃ (R : Fin 32768) (n : Fin 1024), j = ix2 R n := ⟨j 0, j 1, eq_ix2 j⟩
  have e : idx_main_v43 (ix2 R n) = ix3 ⟨R.val / 16384, by omega⟩ ⟨R.val % 16384, by omega⟩ n := funext fun a => Fin.ext (by
    match a with
    | ⟨0, _⟩ => show (R.val * 1024 + n.val) / 16777216 = R.val / 16384; omega
    | ⟨1, _⟩ => show (R.val * 1024 + n.val) / 1024 % 16384 = R.val % 16384; omega
    | ⟨2, _⟩ => show (R.val * 1024 + n.val) % 1024 = n.val; omega)
  rw [val_main_v43_apply, e, stream_apply]
  rfl

/-- The reference's second result. -/
theorem normed_eq : val_main_v44 (F := Ideal) x0 x1 x2 x3 x4 x5 x6 x7 x8 x9 x10 x11 x12 = normed x0 x1 x2 x3 x4 x5 x6 x7 x8 x9 x10 x11 x12 := by
  funext j
  obtain ⟨R, n, rfl⟩ : ∃ (R : Fin 32768) (n : Fin 1024), j = ix2 R n := ⟨j 0, j 1, eq_ix2 j⟩
  have e : idx_main_v44 (ix2 R n) = ix3 ⟨R.val / 16384, by omega⟩ ⟨R.val % 16384, by omega⟩ n := funext fun a => Fin.ext (by
    match a with
    | ⟨0, _⟩ => show (R.val * 1024 + n.val) / 16777216 = R.val / 16384; omega
    | ⟨1, _⟩ => show (R.val * 1024 + n.val) / 1024 % 16384 = R.val % 16384; omega
    | ⟨2, _⟩ => show (R.val * 1024 + n.val) % 1024 = n.val; omega)
  rw [val_main_v44_apply, e, norm_apply]
  rfl

end Cert.Reference4Ideal.Entry

end
-- ==== Proof.Merge.lean ====
/- The value claim of the merge call's first two results. -/
module

public import proofs.«01_k».proof.Defs
public import proofs.«01_k».proof.Proof.MergeArray
public import proofs.«01_k».proof.Proof.MergeEntry
public import proofs.«01_k».proof.Proof.Gen.Kernel4Ideal.Value
public import proofs.«01_k».proof.Proof.Gen.Reference4Ideal.Run

@[expose] public section

set_option maxRecDepth 16384

noncomputable section

namespace Cert.Proof

open Idealize.ShloMosaic Idealize.ShloMosaic.TcCoe Idealize.SL.Sem Idealize.ShloMosaic.ValueIdx
open Cert.Merge

/-- The merge call and the reference leave the same new stream and the same normed stream, from any arguments. -/
theorem merge : Cert.algebraic_Kernel4Ideal_Reference4Ideal := by
  intro m ρ m' ρ' _ hagree
  refine ⟨fun c => Cert.Kernel4Ideal.RefValue.out15 m c, fun c => Cert.Kernel4Ideal.RefValue.out16 m c, ?_, ?_⟩
  · exact (θ_run Cert.Kernel4Ideal.defs _ _).mono (fun _ h c => ⟨(h c).1.trans (Cert.Kernel4Ideal.RefValue.final15 m c),
      (h c).2.1.trans (Cert.Kernel4Ideal.RefValue.final16 m c), (h c).2.2.2.2⟩)
      (Cert.Kernel4Ideal.Value.run_blocks (F := Ideal) m ρ)
  · refine (θ_run Cert.Reference4Ideal.defs _ _).mono (fun _ h c => ⟨(h c).1.trans ?_, (h c).2.1.trans ?_, (h c).2.2⟩)
      (Cert.Reference4Ideal.Value.run (F := Ideal) m' ρ')
    · obtain ⟨e0, e1, e2, e3, e4, e5, -, -, -, e9, e10, e11, e12, -, -⟩ := hagree c
      rw [e0, e1, e2, e3, e4, e5, e9, e10, e11, e12]
      exact (Cert.Reference4Ideal.Read.val_main_v43_eq _ _ _ _ _ _ _ _ _ _).trans
        (Cert.Reference4Ideal.Entry.stream_eq _ _ _ _ _ _ _ _ _ _)
    · obtain ⟨e0, e1, e2, e3, e4, e5, e6, e7, e8, e9, e10, e11, e12, -, -⟩ := hagree c
      refine (Cert.Reference4Ideal.Read.val_main_v44_eq m' c).trans ?_
      rw [e0, e1, e2, e3, e4, e5, e6, e7, e8, e9, e10, e11, e12]
      exact Cert.Reference4Ideal.Entry.normed_eq _ _ _ _ _ _ _ _ _ _ _ _ _

end Cert.Proof

end
-- ==== Proof.PremixSpec.lean ====
/- The input projection of a modulated norm as mathematics: two slices of its columns, the second through a sigmoid. -/
module

public import proofs.«01_k».proof.Proof.MergeSpec

@[expose] public section

set_option maxRecDepth 16384

noncomputable section

namespace Cert.Premix

open Idealize.ShloMosaic Idealize.ShloMosaic.ValueIdx
open Cert.Merge (modul)
open scoped BigOperators

variable (x0 : FVec Ideal ⟨3, ![2, 16384, 1024]⟩ .f32) (x1 x2 : FVec Ideal ⟨2, ![2, 1024]⟩ .f32) (x3 : FVec Ideal ⟨1, ![1024]⟩ .f32)
  (x4 : FVec Ideal ⟨2, ![1024, 5024]⟩ .f32)

/-- The modulated norm of a position's row. -/
def normAt (b : Fin 2) (s : Fin 16384) (k : Fin 1024) : EReal :=
  modul (fun j => x0 (ix3 b s j)) k (x3 (ix1 k)) (x2 (ix2 b k)) (x1 (ix2 b k))

/-- One column of a position's projection. -/
def colAt (b : Fin 2) (s : Fin 16384) (q : Fin 5024) : EReal := ∑ k, normAt x0 x1 x2 x3 b s k * x4 (ix2 k q)

/-- The long convolution's columns, one row per position. -/
def conv : FVec Ideal ⟨2, ![32768, 768]⟩ .bf16 := fun i =>
  colAt x0 x1 x2 x3 x4 ⟨(i 0).val / 16384, by have := idx2_lt0 i; omega⟩ ⟨(i 0).val % 16384, Nat.mod_lt _ (by norm_num)⟩
    ⟨672 + (i 1).val, by have := idx2_lt1 i; omega⟩

/-- The gates, one row per position. -/
def gates : FVec Ideal ⟨2, ![32768, 3072]⟩ .bf16 := fun i =>
  Ideal.logistic (colAt x0 x1 x2 x3 x4 ⟨(i 0).val / 16384, by have := idx2_lt0 i; omega⟩ ⟨(i 0).val % 16384, Nat.mod_lt _ (by norm_num)⟩
    ⟨1952 + (i 1).val, by have := idx2_lt1 i; omega⟩)

/-- The convolution's columns at row `b * 16384 + s`. -/
theorem conv_row (R : Fin 32768) (n : Fin 768) (b : Fin 2) (s : Fin 16384) (hR : R.val = b.val * 16384 + s.val) :
    conv x0 x1 x2 x3 x4 (ix2 R n) = colAt x0 x1 x2 x3 x4 b s ⟨672 + n.val, by omega⟩ :=
  congrArg₂ (fun b s => colAt x0 x1 x2 x3 x4 b s ⟨672 + n.val, by omega⟩) (Fin.ext (by show R.val / 16384 = b.val; omega))
    (Fin.ext (by show R.val % 16384 = s.val; omega))

/-- The gates at row `b * 16384 + s`. -/
theorem gates_row (R : Fin 32768) (n : Fin 3072) (b : Fin 2) (s : Fin 16384) (hR : R.val = b.val * 16384 + s.val) :
    gates x0 x1 x2 x3 x4 (ix2 R n) = Ideal.logistic (colAt x0 x1 x2 x3 x4 b s ⟨1952 + n.val, by omega⟩) :=
  congrArg₂ (fun b s => Ideal.logistic (colAt x0 x1 x2 x3 x4 b s ⟨1952 + n.val, by omega⟩)) (Fin.ext (by show R.val / 16384 = b.val; omega))
    (Fin.ext (by show R.val % 16384 = s.val; omega))

end Cert.Premix

end
-- ==== Proof.PremixPay.lean ====
/- The premix body's modulated norm, its projection onto columns and the sigmoid of the gates, read at an entry. -/
module

public import proofs.«01_k».proof.Proof.PremixSpec
public import proofs.«01_k».proof.Proof.ExpertsSpec
public import proofs.«01_k».proof.Proof.Gen.Kernel5Ideal.Skeleton
public import Idealize.ShloMosaic.Lib.Pipeline.ValueKit.Tiles
public import Idealize.ShloMosaic.Lib.MatmulPlain
public import Idealize.ShloMosaic.PureOps.Ideal.Laws
public import Idealize.ShloMosaic.Lib.ValueLayout

@[expose] public section

set_option maxRecDepth 16384

noncomputable section

namespace Cert.Kernel5Ideal.Blk

open Cert.Kernel5Ideal Cert.Kernel5Ideal.Gen Idealize.ShloMosaic Idealize.ShloMosaic.TcCoe Idealize.SL.Sem Idealize.ShloMosaic.ValueIdx
open Cert.Merge (modul rinv)
open scoped BigOperators

/-- A cast to the shape a vector already has changes nothing. -/
theorem same_eq {M N : ℕ} {α : Type} (v : (⟨2, ![M, N]⟩ : Shape).Idx → α) (h : (⟨2, ![M, N]⟩ : Shape).ShapeCasts ⟨2, ![M, N]⟩) :
    shapeCast ⟨2, ![M, N]⟩ v h = v := funext fun i => shapeCast_apply _ h i i rfl

/-- A row vector spread over the block's rows. -/
theorem spread_apply (v : FVec Ideal S1x1024 .f32) (r : Fin 512) (n : Fin 1024) :
    broadcastTo S512x1024 v broadcasts_S1x1024_S512x1024 (ix2 r n) = v (ix2 0 n) :=
  broadcastTo_apply v broadcasts_S1x1024_S512x1024 (ix2 r n) (ix2 0 n) (fun a => match a with | ⟨0, _⟩ => rfl | ⟨1, _⟩ => rfl)

/-- A modulation vector as a row. -/
theorem vec_apply (v : FVec Ideal S1x1x1024 .f32) (n : Fin 1024) :
    shapeCast S1x1024 v shapeCasts_S1x1x1024_S1x1024 (ix2 0 n) = v (ix3 0 0 n) :=
  shapeCast_apply v shapeCasts_S1x1x1024_S1x1024 (ix2 0 n) (ix3 0 0 n) (by
    rw [Shape.rowMajor_val_three, Shape.rowMajor_val_two]; show (0 * 1 + 0) * 1024 + n.val = 0 * 1024 + n.val; omega)

/-- The block's modulated norm at an entry. -/
theorem norm_apply (x : FVec Ideal S512x1024 .f32) (g : Vec Ideal S1x1024 .f32) (sc sh : Vec Ideal S1x1x1024 .f32) (r : Fin 512) (n : Fin 1024) :
    k0_pay5 (F := Ideal) x g sc sh (ix2 r n) = modul (fun k => x (ix2 r k)) n (g (ix2 0 n)) (sc (ix3 0 0 n)) (sh (ix3 0 0 n)) := by
  unfold k0_pay5
  rw [show shapeCast S512x1024 x shapeCasts_S512x1024_S512x1024 = x from same_eq x _, show shapeCast S1x1024 g shapeCasts_S1x1024_S1x1024 = g from same_eq g _]
  dsimp only
  have hs : (multiReduction .add [1] S512 (mulf x x) 0x00000000#32 reduces_S512x1024_S512 (.inl rfl) rfl : FVec Ideal S512 .f32) (ix1 r)
      = ∑ k, x (ix2 r k) * x (ix2 r k) :=
    (Ideal.multiReduction_add_single (mulf x x) _ reduces_S512x1024_S512 (.inl rfl) rfl (ix1 r)).trans
      (Finset.sum_congr rfl fun (k : Fin 1024) _ => by
        have e : reduces_S512x1024_S512.lift (ix1 r) k = ix2 r k := funext fun a => Fin.ext (by
          match a with
          | ⟨0, _⟩ => rfl
          | ⟨1, _⟩ => rfl)
        show x (reduces_S512x1024_S512.lift (ix1 r) k) * x (reduces_S512x1024_S512.lift (ix1 r) k) = _
        rw [e])
  have hi : broadcastTo S512x1024 (rsqrt (addf (divf (shapeCast S512x1
        (multiReduction .add [1] S512 (mulf x x) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024 (ix2 r n)
      = rinv fun k => x (ix2 r k) := by
    refine (broadcastTo_apply _ broadcasts_S512x1_S512x1024 (ix2 r n) (ix2 r 0) (fun a => match a with | ⟨0, _⟩ => rfl | ⟨1, _⟩ => rfl)).trans ?_
    have hc : shapeCast S512x1 (multiReduction .add [1] S512 (mulf x x) 0x00000000#32 reduces_S512x1024_S512 (.inl rfl) rfl : FVec Ideal S512 .f32)
        shapeCasts_S512_S512x1 (ix2 r 0) = ∑ k, x (ix2 r k) * x (ix2 r k) :=
      (shapeCast_apply _ shapeCasts_S512_S512x1 (ix2 r 0) (ix1 r) (by
        rw [Shape.rowMajor_val_one, Shape.rowMajor_val_two]; show r.val = r.val * 1 + 0; omega)).trans hs
    unfold rinv
    rw [← hc]
    rfl
  unfold modul
  rw [← hi, ← vec_apply sc n, ← vec_apply sh n, ← spread_apply g r n, ← spread_apply (shapeCast S1x1024 sh shapeCasts_S1x1x1024_S1x1024) r n]
  have h1 : broadcastTo S512x1024 (addf (broadcast S1x1024 (Scalar.ofBits .f32 0x3F800000#32)) (shapeCast S1x1024 sc shapeCasts_S1x1x1024_S1x1024))
      broadcasts_S1x1024_S512x1024 (ix2 r n) = Ideal.ofBits .f32 0x3F800000#32 + shapeCast S1x1024 sc shapeCasts_S1x1x1024_S1x1024 (ix2 0 n) :=
    (spread_apply _ r n).trans rfl
  rw [← h1]
  rfl

/-- The zero constant. -/
theorem zero_apply (s : Shape) (i : s.Idx) : (constant (F := Ideal) s .f32 0x00000000#32 i : EReal) = 0 := Ideal.ofBits_zero_f32

/-- The convolution's columns at an entry. -/
theorem conv_apply (h : FVec Ideal S512x1024 .bf16) (w : Vec Ideal S1024x768 .bf16) (r : Fin 512) (n : Fin 768) :
    k0_pay87 (F := Ideal) h w (ix2 r n) = ∑ k, h (ix2 r k) * w (ix2 k n) := by
  unfold k0_pay87
  rw [show shapeCast S1024x768 w shapeCasts_S1024x768_S1024x768 = w from same_eq w _]
  rw [truncf_apply]
  refine (Ideal.matmul_plain_apply (φ₁ := .bf16) (φ₂ := .bf16) none h w _ r n).trans ?_
  rw [zero_apply, zero_add]

/-- A block of gates' columns at an entry. -/
theorem pay88_apply (h : FVec Ideal S512x1024 .bf16) (w : Vec Ideal S1024x1024 .bf16) (r : Fin 512) (n : Fin 1024) :
    k0_pay88 (F := Ideal) h w (ix2 r n) = ∑ k, h (ix2 r k) * w (ix2 k n) := by
  unfold k0_pay88
  rw [show shapeCast S1024x1024 w shapeCasts_S1024x1024_S1024x1024 = w from same_eq w _]
  refine (Ideal.matmul_plain_apply (φ₁ := .bf16) (φ₂ := .bf16) none h w _ r n).trans ?_
  rw [zero_apply, zero_add]

/-- The sigmoid of a block of columns. -/
theorem pay89_apply (z : FVec Ideal S512x1024 .f32) (i : S512x1024.Idx) : k0_pay89 (F := Ideal) z i = Ideal.logistic (z i) := by
  rw [← Cert.Experts.logistic_eq, ← Cert.Experts.half_word]
  rfl

/-- The three blocks of gates are computed alike. -/
theorem pay90_eq (h : FVec Ideal S512x1024 .bf16) (w : Vec Ideal S1024x1024 .bf16) : k0_pay90 (F := Ideal) h w = k0_pay89 (k0_pay88 h w) := rfl
/-- Another of the blocks of gates, computed alike. -/
theorem pay1_eq (h : FVec Ideal S512x1024 .bf16) (w : Vec Ideal S1024x1024 .bf16) : k0_pay1 (F := Ideal) h w = k0_pay89 (k0_pay88 h w) := rfl

/-- A gate at an entry. -/
theorem gate_apply (h : FVec Ideal S512x1024 .bf16) (w : Vec Ideal S1024x1024 .bf16) (r : Fin 512) (n : Fin 1024) :
    k0_pay89 (F := Ideal) (k0_pay88 h w) (ix2 r n) = Ideal.logistic (∑ k, h (ix2 r k) * w (ix2 k n)) := by
  rw [pay89_apply, pay88_apply]

/-- A load of some of the weights' columns. -/
theorem ld_cols {N : ℕ} (x : Vec Ideal S1024x5120 .bf16) (o : ℕ) (inb) (k : Fin 1024) (n : Fin N) (q : Fin 5120) (hq : q.val = o + n.val) :
    View.ld x (Rect.unit (s := S1024x5120) ![0, o] (⟨2, ![1024, N]⟩ : Shape).size inb) (ix2 k n) = x (ix2 k q) := by
  refine View.ld_unit_apply_of _ _ _ _ _ _ ?_
  intro a
  match a with
  | ⟨0, _⟩ => exact (Nat.zero_add _).symm
  | ⟨1, _⟩ => exact hq

end Cert.Kernel5Ideal.Blk

end
-- ==== Proof.PremixBlock.lean ====
/- What one grid point of the premix writes to the convolution's columns and to the gates, read at an entry. -/
module

public import proofs.«01_k».proof.Proof.PremixPay
public import proofs.«01_k».proof.Proof.Gen.Kernel5Ideal.Value

@[expose] public section

set_option maxRecDepth 16384

noncomputable section

namespace Cert.Kernel5Ideal.Blk

open Cert.Kernel5Ideal Cert.Kernel5Ideal.Gen Idealize.ShloMosaic Idealize.ShloMosaic.TcCoe Idealize.ShloMosaic.Tactic Idealize.SL.Sem Idealize.ShloMosaic.ValueIdx
open Cert.Merge (modul rinv)
open scoped BigOperators

/-- The zero offset, as a constant function. -/
theorem hz2 : (![0, 0] : Fin 2 → Nat) = fun _ => 0 := funext fun a => by fin_cases a <;> rfl
/-- The zero offset, as a constant function. -/
theorem hz3 : (![0, 0, 0] : Fin 3 → Nat) = fun _ => 0 := funext fun a => by fin_cases a <;> rfl

/-- What a grid point writes to the convolution's columns. -/
theorem out24_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S1x384 .f32) (harg6 : arg6.IsWhole) (arg7 : Memref sig .tc .vmem S384x1024 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S512x256 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S1x1024x512 .bf16) (harg21 : arg21.IsWhole) (arg22 : Memref sig .tc .vmem S512x1024 .bf16) (harg22 : arg22.IsWhole) (arg23 : Memref sig .tc .vmem S1x1x640x512 .bf16) (harg23 : arg23.IsWhole) (arg24 : Memref sig .tc .vmem S512x256 .bf16) (harg24 : arg24.IsWhole) (arg25 : Memref sig .tc .vmem S512x768 .bf16) (harg25 : arg25.IsWhole) (arg26 : Memref sig .tc .vmem S512x3072 .bf16) (harg26 : arg26.IsWhole)
    (x0 : Vec Ideal S512x1024 .f32) (x1 : Vec Ideal S1x1x1024 .f32) (x2 : Vec Ideal S1x1x1024 .f32) (x3 : Vec Ideal S1x1024 .f32) (x4 : Vec Ideal S1024x5120 .bf16) (x5 : Vec Ideal S1x384 .f32) (x6 : Vec Ideal S384x1024 .bf16) (x7 : Vec Ideal S1x128 .f32) (x8 : Vec Ideal S1x256 .f32) (x9 : Vec Ideal S256x1024 .bf16) (x10 : Vec Ideal S512x256 .bf16) (x11 : Vec Ideal S1x128 .f32) (x12 : Vec Ideal S1x256 .f32) (x13 : Vec Ideal S4x128x128 .bf16) (x14 : Vec Ideal S128x256 .f32) (x15 : Vec Ideal S1x128 .f32) (x16 : Vec Ideal S1x128 .f32) (x17 : Vec Ideal S512x128 .f32) (x18 : Vec Ideal S512x128 .f32) (x19 : Vec Ideal S512x128 .f32) :
    out0_A_24 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19
      = k0_pay87 (F := Ideal) (k0_pay5 x0 x3 x2 x1) (View.ld x4 (Rect.unit (s := S1024x5120) ![0, 768] S1024x768.size inb_S1024x5120_S1024x768_0_768)) := by
  unfold out0_A_24
  rw [View.read_writes_eq_canon _ _ _ (cover0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19)]
  unfold kernelRun0_A
  dsimp only
  sl_unfold_words
  simp only [View.readAt_eq_ld, harg1.read_unread, harg2.read_unread, harg3.read_unread, harg4.read_unread, harg5.read_unread]
  rw [View.ld_unit_zero hz2 _ x0, View.ld_unit_zero hz3 _ x1, View.ld_unit_zero hz3 _ x2, View.ld_unit_zero hz2 _ x3]
  rw [View.canon_unit_zero hz2]

/-- What a grid point writes to the gates, as its three stores. -/
theorem out25_eq (c : Dev nD) (i : grid0.Coords) (arg1 : Memref sig .tc .vmem S512x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x5120 .bf16) (harg5 : arg5.IsWhole) (arg6 : Memref sig .tc .vmem S1x384 .f32) (harg6 : arg6.IsWhole) (arg7 : Memref sig .tc .vmem S384x1024 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S512x256 .bf16) (harg11 : arg11.IsWhole) (arg12 : Memref sig .tc .vmem S1x128 .f32) (harg12 : arg12.IsWhole) (arg13 : Memref sig .tc .vmem S1x256 .f32) (harg13 : arg13.IsWhole) (arg14 : Memref sig .tc .vmem S4x128x128 .bf16) (harg14 : arg14.IsWhole) (arg15 : Memref sig .tc .vmem S128x256 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S512x128 .f32) (harg20 : arg20.IsWhole) (arg21 : Memref sig .tc .vmem S1x1024x512 .bf16) (harg21 : arg21.IsWhole) (arg22 : Memref sig .tc .vmem S512x1024 .bf16) (harg22 : arg22.IsWhole) (arg23 : Memref sig .tc .vmem S1x1x640x512 .bf16) (harg23 : arg23.IsWhole) (arg24 : Memref sig .tc .vmem S512x256 .bf16) (harg24 : arg24.IsWhole) (arg25 : Memref sig .tc .vmem S512x768 .bf16) (harg25 : arg25.IsWhole) (arg26 : Memref sig .tc .vmem S512x3072 .bf16) (harg26 : arg26.IsWhole)
    (x0 : Vec Ideal S512x1024 .f32) (x1 : Vec Ideal S1x1x1024 .f32) (x2 : Vec Ideal S1x1x1024 .f32) (x3 : Vec Ideal S1x1024 .f32) (x4 : Vec Ideal S1024x5120 .bf16) (x5 : Vec Ideal S1x384 .f32) (x6 : Vec Ideal S384x1024 .bf16) (x7 : Vec Ideal S1x128 .f32) (x8 : Vec Ideal S1x256 .f32) (x9 : Vec Ideal S256x1024 .bf16) (x10 : Vec Ideal S512x256 .bf16) (x11 : Vec Ideal S1x128 .f32) (x12 : Vec Ideal S1x256 .f32) (x13 : Vec Ideal S4x128x128 .bf16) (x14 : Vec Ideal S128x256 .f32) (x15 : Vec Ideal S1x128 .f32) (x16 : Vec Ideal S1x128 .f32) (x17 : Vec Ideal S512x128 .f32) (x18 : Vec Ideal S512x128 .f32) (x19 : Vec Ideal S512x128 .f32) :
    out0_A_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19
      = View.canon (Val := Elt Idealize.ShloMosaic.Ideal) (s := S512x3072) (e := .bf16)
        [⟨Rect.unit (s := S512x3072) ![0, 2048] S512x1024.size inb_S512x3072_S512x1024_0_2048, k0_pay89 (F := Ideal) (k0_pay88 (k0_pay5 x0 x3 x2 x1) (View.ld x4 (Rect.unit (s := S1024x5120) ![0, 4096] S1024x1024.size inb_S1024x5120_S1024x1024_0_4096)))⟩,
          ⟨Rect.unit (s := S512x3072) ![0, 1024] S512x1024.size inb_S512x3072_S512x1024_0_1024, k0_pay89 (F := Ideal) (k0_pay88 (k0_pay5 x0 x3 x2 x1) (View.ld x4 (Rect.unit (s := S1024x5120) ![0, 3072] S1024x1024.size inb_S1024x5120_S1024x1024_0_3072)))⟩,
          ⟨Rect.unit (s := S512x3072) ![0, 0] S512x1024.size inb_S512x3072_S512x1024_0_0, k0_pay89 (F := Ideal) (k0_pay88 (k0_pay5 x0 x3 x2 x1) (View.ld x4 (Rect.unit (s := S1024x5120) ![0, 2048] S1024x1024.size inb_S1024x5120_S1024x1024_0_2048)))⟩] := by
  unfold out0_A_25
  rw [View.read_writes_eq_canon _ _ _ (cover0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15 x16 x17 x18 x19)]
  unfold kernelRun0_A
  dsimp only
  sl_unfold_words
  simp only [View.readAt_eq_ld, harg1.read_unread, harg2.read_unread, harg3.read_unread, harg4.read_unread, harg5.read_unread]
  rw [View.ld_unit_zero hz2 _ x0, View.ld_unit_zero hz3 _ x1, View.ld_unit_zero hz3 _ x2, View.ld_unit_zero hz2 _ x3]
  rw [pay90_eq, pay1_eq]

/-- Three stores side by side, read at an entry. -/
theorem canon_gates (p0 p1 p2 : Vec Ideal S512x1024 .bf16) (r : Fin 512) (q : Fin 3072) (v : EReal)
    (h0 : ∀ n : Fin 1024, q.val = n.val → p0 (ix2 r n) = v) (h1 : ∀ n : Fin 1024, q.val = 1024 + n.val → p1 (ix2 r n) = v)
    (h2 : ∀ n : Fin 1024, q.val = 2048 + n.val → p2 (ix2 r n) = v) :
    View.canon (Val := Elt Idealize.ShloMosaic.Ideal) (s := S512x3072) (e := .bf16)
        [⟨Rect.unit (s := S512x3072) ![0, 2048] S512x1024.size inb_S512x3072_S512x1024_0_2048, p2⟩,
          ⟨Rect.unit (s := S512x3072) ![0, 1024] S512x1024.size inb_S512x3072_S512x1024_0_1024, p1⟩,
          ⟨Rect.unit (s := S512x3072) ![0, 0] S512x1024.size inb_S512x3072_S512x1024_0_0, p0⟩] (ix2 r q) = v := by
  refine View.canon_eq_of_allAt _ _ _ (View.cover_of_tiled_head _ _ _ rfl _) ?_
  refine View.allAt_cons_unit _ _ _ _ _ (fun x hx => ?_) (View.allAt_cons_unit _ _ _ _ _ (fun x hx => ?_)
    (View.allAt_cons_unit _ _ _ _ _ (fun x hx => ?_) (View.allAt_nil _ _)))
  all_goals
    obtain ⟨p, n, rfl⟩ : ∃ (p : Fin 512) (n : Fin 1024), x = ix2 p n := ⟨x 0, x 1, eq_ix2 x⟩
    have e0 : r.val = 0 + p.val := hx 0
    obtain rfl : p = r := Fin.ext (by omega)
  · exact h2 n (hx 1)
  · exact h1 n (hx 1)
  · exact h0 n ((hx 1).trans (Nat.zero_add _))

end Cert.Kernel5Ideal.Blk

end
-- ==== Proof.PremixHost.lean ====
/- What the premix call's windows hold when it starts, read at an entry of the arguments. -/
module

public import proofs.«01_k».proof.Proof.Gen.Kernel5Ideal.Frame
public import Idealize.ShloMosaic.Lib.StableHlo.RunRead
public import Idealize.ShloMosaic.Lib.IdealHost
public import Idealize.ShloMosaic.Lib.ValueIdx
public import Idealize.ShloMosaic.Lib.ValueLayout
public import Idealize.ShloMosaic.Lib.Pipeline.Value

@[expose] public section

set_option maxRecDepth 16384

noncomputable section

namespace Cert.Kernel5Ideal.Host

open Cert.Kernel5Ideal Cert.Kernel5Ideal.Gen Idealize.ShloMosaic Idealize.ShloMosaic.TcCoe Idealize.SL.Sem Idealize.ShloMosaic.ValueIdx

variable (m : (ℓ : Loc nD τ sig) → Buf (Elt Idealize.ShloMosaic.Ideal) ℓ)

/-- The two leading axes taken as one. -/
theorem rows_apply {α : Type} {N : ℕ} (v : (⟨3, ![2, 16384, N]⟩ : Shape).Idx → α) (h : (⟨3, ![2, 16384, N]⟩ : Shape).ShapeCasts ⟨2, ![32768, N]⟩)
    (R : Fin 32768) (d : Fin N) (b : Fin 2) (s : Fin 16384) (hR : R.val = b.val * 16384 + s.val) :
    shapeCast ⟨2, ![32768, N]⟩ v h (ix2 R d) = v (ix3 b s d) :=
  shapeCast_apply _ h (ix2 R d) (ix3 b s d) (by
    rw [Shape.rowMajor_val_three, Shape.rowMajor_val_two]; show (b.val * 16384 + s.val) * N + d.val = R.val * N + d.val; rw [hR])

/-- A unit axis put in the middle. -/
theorem mid_apply {α : Type} (v : S2x1024.Idx → α) (h : S2x1024.ShapeCasts S2x1x1024) (b : Fin 2) (n : Fin 1024) :
    shapeCast S2x1x1024 v h (ix3 b 0 n) = v (ix2 b n) :=
  shapeCast_apply _ h (ix3 b 0 n) (ix2 b n) (by
    rw [Shape.rowMajor_val_three, Shape.rowMajor_val_two]; show b.val * 1024 + n.val = (b.val * 1 + 0) * 1024 + n.val; omega)

/-- The stream. -/
theorem x_apply (c : Dev nD) (R : Fin 32768) (d : Fin 1024) (b : Fin 2) (s : Fin 16384) (hR : R.val = b.val * 16384 + s.val) :
    (V m c main_v74 : Vec Ideal S32768x1024 .f32) (ix2 R d) = (m (c, Proc.tc.devRef main_arg0) : Vec Ideal S2x16384x1024 .f32) (ix3 b s d) := by
  after_reads_simp
  exact rows_apply _ _ R d b s hR

/-- The modulation's shift. -/
theorem shift_apply (c : Dev nD) (b : Fin 2) (n : Fin 1024) :
    (V m c main_v75 : Vec Ideal S2x1x1024 .f32) (ix3 b 0 n) = (m (c, Proc.tc.devRef main_arg1) : Vec Ideal S2x1024 .f32) (ix2 b n) := by
  after_reads_simp
  exact mid_apply _ _ b n

/-- The modulation's scale. -/
theorem scale_apply (c : Dev nD) (b : Fin 2) (n : Fin 1024) :
    (V m c main_v76 : Vec Ideal S2x1x1024 .f32) (ix3 b 0 n) = (m (c, Proc.tc.devRef main_arg2) : Vec Ideal S2x1024 .f32) (ix2 b n) := by
  after_reads_simp
  exact mid_apply _ _ b n

/-- The norm's gains. -/
theorem gain_apply (c : Dev nD) (n : Fin 1024) :
    (V m c main_v51 : Vec Ideal S1x1024 .f32) (ix2 0 n) = (m (c, Proc.tc.devRef main_arg3) : Vec Ideal S1024 .f32) (ix1 n) := by
  after_reads_simp
  exact shapeCast_apply _ _ (ix2 0 n) (ix1 n) (by
    rw [Shape.rowMajor_val_one, Shape.rowMajor_val_two]; show n.val = 0 * 1024 + n.val; omega)

/-- Three pieces side by side, read in the third. -/
theorem third_apply (a : S1024x640.Idx → EReal) (b : S1024x128.Idx → EReal) (x : S1024x4352.Idx → EReal)
    (k : Fin 1024) (q : Fin 5120) (p : Fin 4352) (hq : q.val = 768 + p.val) :
    concatenate S1024x5120 1 [⟨S1024x640, a⟩, ⟨S1024x128, b⟩, ⟨S1024x4352, x⟩] concatenates_S1024x640_S1024x128_S1024x4352_S1024x5120_d1 (ix2 k q)
      = x (ix2 k p) := by
  refine concatenate_apply_piece (t := S1024x5120) (1 : Fin 2) [⟨S1024x640, a⟩, ⟨S1024x128, b⟩, ⟨S1024x4352, x⟩] _ (ix2 k q) 2 (show 2 < 3 by decide) S1024x4352 x rfl rfl 768 rfl (ix2 k p) ?_ ?_
  · intro b hb
    match b with
    | ⟨0, _⟩ => rfl
    | ⟨1, _⟩ => exact absurd rfl hb
  · exact hq.symm

/-- The weights' columns past the key's. -/
theorem w_apply (c : Dev nD) (k : Fin 1024) (q : Fin 5120) (p : Fin 4352) (o : Fin 5024) (hq : q.val = 768 + p.val) (ho : o.val = 672 + p.val) :
    (V m c main_v12 : Vec Ideal S1024x5120 .bf16) (ix2 k q) = (m (c, Proc.tc.devRef main_arg4) : Vec Ideal S1024x5024 .f32) (ix2 k o) := by
  after_reads_simp
  refine (third_apply _ _ _ k q p hq).trans ?_
  refine congrArg (m (c, Proc.tc.devRef main_arg4) : Vec Ideal S1024x5024 .f32) (funext fun a => Fin.ext ?_)
  match a with
  | ⟨0, _⟩ => exact Nat.zero_add _
  | ⟨1, _⟩ => exact ho.symm

end Cert.Kernel5Ideal.Host

end
-- ==== Proof.PremixArray.lean ====
/- The premix call's arrays of convolution columns and of gates after the run, as expressions of the arguments: every block is
   what its grid point wrote, and the blocks tile the arrays. -/
module

public import proofs.«01_k».proof.Proof.PremixBlock
public import proofs.«01_k».proof.Proof.PremixHost

@[expose] public section

set_option maxRecDepth 16384

noncomputable section

namespace Cert.Kernel5Ideal.RefValue

open Cert.Kernel5Ideal Cert.Kernel5Ideal.Gen Idealize.ShloMosaic Idealize.ShloMosaic.TcCoe Idealize.SL.Sem Idealize.ShloMosaic.ValueIdx
open Idealize.ShloMosaic.Pipeline (Dat)
open Cert.Premix
open Cert.Merge (modul)
open scoped BigOperators

variable (m : (ℓ : Loc nD τ sig) → Buf (Elt Idealize.ShloMosaic.Ideal) ℓ)

/-- A position's projected column on device `c`. -/
abbrev col (c : Dev nD) (b : Fin 2) (s : Fin 16384) (q : Fin 5024) : EReal :=
  colAt (m (c, Proc.tc.devRef main_arg0)) (m (c, Proc.tc.devRef main_arg1)) (m (c, Proc.tc.devRef main_arg2)) (m (c, Proc.tc.devRef main_arg3))
    (m (c, Proc.tc.devRef main_arg4)) b s q

/-- The convolution's columns on device `c`. -/
abbrev out24 (c : Dev nD) : Vec Ideal S32768x768 .bf16 :=
  conv (m (c, Proc.tc.devRef main_arg0)) (m (c, Proc.tc.devRef main_arg1)) (m (c, Proc.tc.devRef main_arg2)) (m (c, Proc.tc.devRef main_arg3))
    (m (c, Proc.tc.devRef main_arg4))

/-- The gates on device `c`. -/
abbrev out25 (c : Dev nD) : Vec Ideal S32768x3072 .bf16 :=
  gates (m (c, Proc.tc.devRef main_arg0)) (m (c, Proc.tc.devRef main_arg1)) (m (c, Proc.tc.devRef main_arg2)) (m (c, Proc.tc.devRef main_arg3))
    (m (c, Proc.tc.devRef main_arg4))

/-- Which block each window is on at a point. -/
theorem index0 : ∀ t : Fin grid0.N, win0_0.index t 0 = t.val ∧ win0_0.index t 1 = 0 := by decide +kernel
/-- Which block window 1 takes at a grid point. -/
theorem index1 : ∀ t : Fin grid0.N, win0_1.index t 0 = t.val / 32 ∧ win0_1.index t 1 = 0 ∧ win0_1.index t 2 = 0 := by decide +kernel
/-- Which block window 2 takes at a grid point. -/
theorem index2 : ∀ t : Fin grid0.N, win0_2.index t 0 = t.val / 32 ∧ win0_2.index t 1 = 0 ∧ win0_2.index t 2 = 0 := by decide +kernel
/-- Which block window 3 takes at a grid point. -/
theorem index3 : ∀ t : Fin grid0.N, win0_3.index t 0 = 0 ∧ win0_3.index t 1 = 0 := by decide +kernel
/-- Which block window 4 takes at a grid point. -/
theorem index4 : ∀ t : Fin grid0.N, win0_4.index t 0 = 0 ∧ win0_4.index t 1 = 0 := by decide +kernel
/-- Which block window 24 takes at a grid point. -/
theorem index24 : ∀ t : Fin grid0.N, win0_24.index t 0 = t.val ∧ win0_24.index t 1 = 0 := by decide +kernel
/-- Which block window 25 takes at a grid point. -/
theorem index25 : ∀ t : Fin grid0.N, win0_25.index t 0 = t.val ∧ win0_25.index t 1 = 0 := by decide +kernel
/-- The extents of the block window 24 takes at a grid point. -/
theorem xsize24 : ∀ t : Fin grid0.N, win0_24.xsize (grid0.coords t) 0 = 512 ∧ win0_24.xsize (grid0.coords t) 1 = 768 := by decide +kernel
/-- The extents of the block window 25 takes at a grid point. -/
theorem xsize25 : ∀ t : Fin grid0.N, win0_25.xsize (grid0.coords t) 0 = 512 ∧ win0_25.xsize (grid0.coords t) 1 = 3072 := by decide +kernel

/-- Window 0's block at a point: 512 rows of the stream. -/
theorem blk0 (c : Dev nD) (t : Fin cfg0.N) (r : Fin 512) (d : Fin 1024) (b : Fin 2) (s : Fin 16384) (hR : t.val * 512 + r.val = b.val * 16384 + s.val) :
    (iblk m c 0 t : Vec Ideal S512x1024 .f32) (ix2 r d) = (m (c, Proc.tc.devRef main_arg0) : Vec Ideal S2x16384x1024 .f32) (ix3 b s d) := by
  have hN : t.val < 64 := lt_of_lt_of_eq t.isLt N_0
  rw [← Host.x_apply m c ⟨t.val * 512 + r.val, by omega⟩ d b s hR]
  have key : ∀ f : (b : Ref sig .tc) → Buf (Elt Ideal) ((c : Thread nD τ).loc b),
      (((cfg0.win 0).blk t).view.read (Elt Ideal) (f (Pipeline.arrRef spec0 0)) : Vec Ideal S512x1024 .f32) (ix2 r d)
        = f main_v74 ((win0_0.blk t).view.emb (ix2 r d)) := fun _ => rfl
  refine (key (V m c)).trans (congrArg (V m c main_v74) (funext fun a => Fin.ext ?_))
  match a with
  | ⟨0, _⟩ =>
    show win0_0.index t 0 * 512 + 1 * r.val = t.val * 512 + r.val
    rw [(index0 t).1]; omega
  | ⟨1, _⟩ =>
    show win0_0.index t 1 * 1024 + 1 * d.val = d.val
    rw [(index0 t).2, Nat.zero_mul, Nat.zero_add, Nat.one_mul]

/-- Window 1's block at a point: the shift of the point's batch entry. -/
theorem blk1 (c : Dev nD) (t : Fin cfg0.N) (n : Fin 1024) (b : Fin 2) (hb : b.val = t.val / 32) :
    (iblk m c 1 t : Vec Ideal S1x1x1024 .f32) (ix3 0 0 n) = (m (c, Proc.tc.devRef main_arg1) : Vec Ideal S2x1024 .f32) (ix2 b n) := by
  rw [← Host.shift_apply m c b n]
  have key : ∀ f : (b : Ref sig .tc) → Buf (Elt Ideal) ((c : Thread nD τ).loc b),
      (((cfg0.win 1).blk t).view.read (Elt Ideal) (f (Pipeline.arrRef spec0 1)) : Vec Ideal S1x1x1024 .f32) (ix3 0 0 n)
        = f main_v75 ((win0_1.blk t).view.emb (ix3 0 0 n)) := fun _ => rfl
  refine (key (V m c)).trans (congrArg (V m c main_v75) (funext fun a => Fin.ext ?_))
  match a with
  | ⟨0, _⟩ =>
    show win0_1.index t 0 * 1 + 1 * 0 = b.val
    rw [(index1 t).1]; omega
  | ⟨1, _⟩ =>
    show win0_1.index t 1 * 1 + 1 * 0 = 0
    rw [(index1 t).2.1]
  | ⟨2, _⟩ =>
    show win0_1.index t 2 * 1024 + 1 * n.val = n.val
    rw [(index1 t).2.2, Nat.zero_mul, Nat.zero_add, Nat.one_mul]

/-- Window 2's block at a point: the scale of the point's batch entry. -/
theorem blk2 (c : Dev nD) (t : Fin cfg0.N) (n : Fin 1024) (b : Fin 2) (hb : b.val = t.val / 32) :
    (iblk m c 2 t : Vec Ideal S1x1x1024 .f32) (ix3 0 0 n) = (m (c, Proc.tc.devRef main_arg2) : Vec Ideal S2x1024 .f32) (ix2 b n) := by
  rw [← Host.scale_apply m c b n]
  have key : ∀ f : (b : Ref sig .tc) → Buf (Elt Ideal) ((c : Thread nD τ).loc b),
      (((cfg0.win 2).blk t).view.read (Elt Ideal) (f (Pipeline.arrRef spec0 2)) : Vec Ideal S1x1x1024 .f32) (ix3 0 0 n)
        = f main_v76 ((win0_2.blk t).view.emb (ix3 0 0 n)) := fun _ => rfl
  refine (key (V m c)).trans (congrArg (V m c main_v76) (funext fun a => Fin.ext ?_))
  match a with
  | ⟨0, _⟩ =>
    show win0_2.index t 0 * 1 + 1 * 0 = b.val
    rw [(index2 t).1]; omega
  | ⟨1, _⟩ =>
    show win0_2.index t 1 * 1 + 1 * 0 = 0
    rw [(index2 t).2.1]
  | ⟨2, _⟩ =>
    show win0_2.index t 2 * 1024 + 1 * n.val = n.val
    rw [(index2 t).2.2, Nat.zero_mul, Nat.zero_add, Nat.one_mul]

/-- Window 3's block: the norm's gains. -/
theorem blk3 (c : Dev nD) (t : Fin cfg0.N) (n : Fin 1024) :
    (iblk m c 3 t : Vec Ideal S1x1024 .f32) (ix2 0 n) = (m (c, Proc.tc.devRef main_arg3) : Vec Ideal S1024 .f32) (ix1 n) := by
  rw [← Host.gain_apply m c n]
  have key : ∀ f : (b : Ref sig .tc) → Buf (Elt Ideal) ((c : Thread nD τ).loc b),
      (((cfg0.win 3).blk t).view.read (Elt Ideal) (f (Pipeline.arrRef spec0 3)) : Vec Ideal S1x1024 .f32) (ix2 0 n)
        = f main_v51 ((win0_3.blk t).view.emb (ix2 0 n)) := fun _ => rfl
  refine (key (V m c)).trans (congrArg (V m c main_v51) (funext fun a => Fin.ext ?_))
  match a with
  | ⟨0, _⟩ =>
    show win0_3.index t 0 * 1 + 1 * 0 = 0
    rw [(index3 t).1]
  | ⟨1, _⟩ =>
    show win0_3.index t 1 * 1024 + 1 * n.val = n.val
    rw [(index3 t).2, Nat.zero_mul, Nat.zero_add, Nat.one_mul]

/-- Window 4's block: the weights, whose columns past the key's are the argument's. -/
theorem blk4 (c : Dev nD) (t : Fin cfg0.N) (k : Fin 1024) (q : Fin 5120) (p : Fin 4352) (o : Fin 5024) (hq : q.val = 768 + p.val) (ho : o.val = 672 + p.val) :
    (iblk m c 4 t : Vec Ideal S1024x5120 .bf16) (ix2 k q) = (m (c, Proc.tc.devRef main_arg4) : Vec Ideal S1024x5024 .f32) (ix2 k o) := by
  rw [← Host.w_apply m c k q p o hq ho]
  have key : ∀ f : (b : Ref sig .tc) → Buf (Elt Ideal) ((c : Thread nD τ).loc b),
      (((cfg0.win 4).blk t).view.read (Elt Ideal) (f (Pipeline.arrRef spec0 4)) : Vec Ideal S1024x5120 .bf16) (ix2 k q)
        = f main_v12 ((win0_4.blk t).view.emb (ix2 k q)) := fun _ => rfl
  refine (key (V m c)).trans (congrArg (V m c main_v12) (funext fun a => Fin.ext ?_))
  match a with
  | ⟨0, _⟩ =>
    show win0_4.index t 0 * 1024 + 1 * k.val = k.val
    rw [(index4 t).1, Nat.zero_mul, Nat.zero_add, Nat.one_mul]
  | ⟨1, _⟩ =>
    show win0_4.index t 1 * 5120 + 1 * q.val = q.val
    rw [(index4 t).2, Nat.zero_mul, Nat.zero_add, Nat.one_mul]

/-- A point's modulated norm at an entry. -/
theorem norm_point (c : Dev nD) (t : Fin cfg0.N) (r : Fin 512) (k : Fin 1024) (b : Fin 2) (s : Fin 16384)
    (hb : b.val = t.val / 32) (hR : t.val * 512 + r.val = b.val * 16384 + s.val) :
    k0_pay5 (F := Ideal) (iblk m c 0 t) (iblk m c 3 t) (iblk m c 2 t) (iblk m c 1 t) (ix2 r k)
      = normAt (m (c, Proc.tc.devRef main_arg0)) (m (c, Proc.tc.devRef main_arg1)) (m (c, Proc.tc.devRef main_arg2)) (m (c, Proc.tc.devRef main_arg3)) b s k := by
  have hx : (fun j : Fin 1024 => (iblk m c 0 t : Vec Ideal S512x1024 .f32) (ix2 r j))
      = fun j => (m (c, Proc.tc.devRef main_arg0) : Vec Ideal S2x16384x1024 .f32) (ix3 b s j) := funext fun j => blk0 m c t r j b s hR
  refine (Blk.norm_apply (iblk m c 0 t) (iblk m c 3 t) (iblk m c 2 t) (iblk m c 1 t) r k).trans ?_
  rw [blk3 m c t k, blk2 m c t k b hb, blk1 m c t k b hb]
  exact congrArg (fun f : Fin 1024 → EReal => modul f k _ _ _) hx

/-- A point's norm times loaded columns of the weights is the projection's column. -/
theorem col_point (c : Dev nD) (t : Fin cfg0.N) (r : Fin 512) (b : Fin 2) (s : Fin 16384)
    (hb : b.val = t.val / 32) (hR : t.val * 512 + r.val = b.val * 16384 + s.val) {N : ℕ} (w : Vec Ideal ⟨2, ![1024, N]⟩ .bf16) (n : Fin N)
    (q : Fin 5120) (p : Fin 4352) (o : Fin 5024) (hq : q.val = 768 + p.val) (ho : o.val = 672 + p.val)
    (hw : ∀ k : Fin 1024, w (ix2 k n) = (iblk m c 4 t : Vec Ideal S1024x5120 .bf16) (ix2 k q)) :
    (∑ k : Fin 1024, (k0_pay5 (F := Ideal) (iblk m c 0 t) (iblk m c 3 t) (iblk m c 2 t) (iblk m c 1 t) (ix2 r k) : EReal) * w (ix2 k n)) = col m c b s o :=
  Finset.sum_congr rfl fun k _ => by
    rw [norm_point m c t r k b s hb hR, hw k, blk4 m c t k q p o hq ho]

/-- An entry of what a point writes to the convolution's columns. -/
theorem entry24 (c : Dev nD) (t : Fin cfg0.N) (r : Fin 512) (n : Fin 768) (R : Fin 32768) (hr : R.val = t.val * 512 + r.val) :
    out0_A_24 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r n)
      = out24 m c (ix2 R n) := by
  have hN : t.val < 64 := lt_of_lt_of_eq t.isLt N_0
  have hb : (⟨t.val / 32, by omega⟩ : Fin 2).val = t.val / 32 := rfl
  have hR : t.val * 512 + r.val = (⟨t.val / 32, by omega⟩ : Fin 2).val * 16384 + (⟨(t.val * 512 + r.val) % 16384, Nat.mod_lt _ (by norm_num)⟩ : Fin 16384).val := by
    show t.val * 512 + r.val = t.val / 32 * 16384 + (t.val * 512 + r.val) % 16384; omega
  refine Eq.trans ?_ (conv_row _ _ _ _ _ R n _ _ (hr.trans hR)).symm
  rw [Blk.out24_eq]
  refine (Blk.conv_apply _ _ r n).trans ?_
  exact col_point m c t r _ _ hb hR _ n ⟨768 + n.val, by omega⟩ ⟨n.val, by omega⟩ _ rfl rfl (fun k => Blk.ld_cols _ 768 _ k n _ rfl)

/-- An entry of what a point writes to the gates. -/
theorem entry25 (c : Dev nD) (t : Fin cfg0.N) (r : Fin 512) (n : Fin 3072) (R : Fin 32768) (hr : R.val = t.val * 512 + r.val) :
    out0_A_25 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r n)
      = out25 m c (ix2 R n) := by
  have hN : t.val < 64 := lt_of_lt_of_eq t.isLt N_0
  have hb : (⟨t.val / 32, by omega⟩ : Fin 2).val = t.val / 32 := rfl
  have hR : t.val * 512 + r.val = (⟨t.val / 32, by omega⟩ : Fin 2).val * 16384 + (⟨(t.val * 512 + r.val) % 16384, Nat.mod_lt _ (by norm_num)⟩ : Fin 16384).val := by
    show t.val * 512 + r.val = t.val / 32 * 16384 + (t.val * 512 + r.val) % 16384; omega
  refine Eq.trans ?_ (gates_row _ _ _ _ _ R n _ _ (hr.trans hR)).symm
  rw [Blk.out25_eq]
  refine Blk.canon_gates _ _ _ r n _ (fun j hj => ?_) (fun j hj => ?_) (fun j hj => ?_)
  · refine (Blk.gate_apply _ _ r j).trans (congrArg Ideal.logistic ?_)
    exact col_point m c t r _ _ hb hR _ j ⟨2048 + j.val, by omega⟩ ⟨1280 + j.val, by omega⟩ _ (by show 2048 + j.val = 768 + (1280 + j.val); omega)
      (by show 1952 + n.val = 672 + (1280 + j.val); omega) (fun k => Blk.ld_cols _ 2048 _ k j _ rfl)
  · refine (Blk.gate_apply _ _ r j).trans (congrArg Ideal.logistic ?_)
    exact col_point m c t r _ _ hb hR _ j ⟨3072 + j.val, by omega⟩ ⟨2304 + j.val, by omega⟩ _ (by show 3072 + j.val = 768 + (2304 + j.val); omega)
      (by show 1952 + n.val = 672 + (2304 + j.val); omega) (fun k => Blk.ld_cols _ 3072 _ k j _ rfl)
  · refine (Blk.gate_apply _ _ r j).trans (congrArg Ideal.logistic ?_)
    exact col_point m c t r _ _ hb hR _ j ⟨4096 + j.val, by omega⟩ ⟨3328 + j.val, by omega⟩ _ (by show 4096 + j.val = 768 + (3328 + j.val); omega)
      (by show 1952 + n.val = 672 + (3328 + j.val); omega) (fun k => Blk.ld_cols _ 4096 _ k j _ rfl)

/-- What a point writes back to the convolution's columns. -/
theorem flushed_eq24 (c : Dev nD) (t : Fin cfg0.N) :
    (dats m 0 c).flushed 24 t = (win0_24.blk t).view.read (Elt Ideal) (out24 m c) := by
  rw [Value.flushed24_A]
  have hN : t.val < 64 := lt_of_lt_of_eq t.isLt N_0
  refine funext fun (j : S512x768.Idx) => ?_
  have h0 : (j 0).val < 512 := (j 0).isLt
  have h1 : (j 1).val < 768 := (j 1).isLt
  have cutKey : ∀ f : Vec Ideal S512x768 .bf16, (cfg0.win 24).cut (grid0.coords t) f j = f (ix2 ⟨(j 0).val, h0⟩ ⟨(j 1).val, h1⟩) := fun f =>
    congrArg f (funext fun a => match a with | ⟨0, _⟩ => rfl | ⟨1, _⟩ => rfl)
  have readKey : ∀ f : Vec Ideal S32768x768 .bf16, (win0_24.blk t).view.read (Elt Ideal) f j
      = f (ix2 ⟨t.val * 512 + (j 0).val, by omega⟩ ⟨(j 1).val, h1⟩) := fun f => congrArg f (funext fun a => Fin.ext (by
    match a with
    | ⟨0, _⟩ =>
      show win0_24.index t 0 * 512 + 1 * (j 0).val = t.val * 512 + (j 0).val
      rw [(index24 t).1]; omega
    | ⟨1, _⟩ =>
      show win0_24.index t 1 * 768 + 1 * (j 1).val = (j 1).val
      rw [(index24 t).2, Nat.zero_mul, Nat.zero_add, Nat.one_mul]))
  exact (cutKey _).trans ((entry24 m c t ⟨(j 0).val, h0⟩ ⟨(j 1).val, h1⟩ ⟨t.val * 512 + (j 0).val, by omega⟩ rfl).trans (readKey _).symm)

/-- An index of the convolution's columns is in point `t`'s block. -/
theorem mem_blk24 (t : Fin cfg0.N) (i : S32768x768.Idx) (h : (i 0).val / 512 = t.val) : i ∈ (win0_24.blk t).view.set := by
  have key : ∀ r : Rect S32768x768, i ∈ r.set → i ∈ ((View.whole main_v115_4).slice r).set := fun r hr => by rw [View.set_slice_whole]; exact hr
  refine key (win0_24.rect t) ((Rect.mem_set_unit).2 ?_)
  have h1 : (i 1 : Nat) < 768 := (i 1).isLt
  intro a
  match a with
  | ⟨0, _⟩ => show win0_24.index t 0 * 512 ≤ (i 0 : Nat) ∧ (i 0 : Nat) < win0_24.index t 0 * 512 + win0_24.xsize (grid0.coords t) 0
              rw [(index24 t).1, (xsize24 t).1]; omega
  | ⟨1, _⟩ => show win0_24.index t 1 * 768 ≤ (i 1 : Nat) ∧ (i 1 : Nat) < win0_24.index t 1 * 768 + win0_24.xsize (grid0.coords t) 1
              rw [(index24 t).2, (xsize24 t).2]; omega

/-- The blocks tile the convolution's columns. -/
theorem cover24 (i : S32768x768.Idx) : ∃ t : Fin cfg0.N, (cfg0.win 24).flush t = true ∧ i ∈ ((cfg0.win 24).blk t).view.set := by
  have h0 : (i 0 : Nat) < 32768 := (i 0).isLt
  have hN : cfg0.N = 64 := N_0
  exact ⟨⟨(i 0).val / 512, by omega⟩, flush0_24 _, mem_blk24 _ i rfl⟩

/-- The array ends holding the convolution's columns. -/
theorem final24 (c : Dev nD) : (dats m 0 c).arrAt 24 cfg0.N = out24 m c :=
  (dats m 0 c).arrAt_eq_of_cover 24 (out24 m c) (fun t _ => flushed_eq24 m c t) cover24

/-- What a point writes back to the gates. -/
theorem flushed_eq25 (c : Dev nD) (t : Fin cfg0.N) :
    (dats m 0 c).flushed 25 t = (win0_25.blk t).view.read (Elt Ideal) (out25 m c) := by
  rw [Value.flushed25_A]
  have hN : t.val < 64 := lt_of_lt_of_eq t.isLt N_0
  refine funext fun (j : S512x3072.Idx) => ?_
  have h0 : (j 0).val < 512 := (j 0).isLt
  have h1 : (j 1).val < 3072 := (j 1).isLt
  have cutKey : ∀ f : Vec Ideal S512x3072 .bf16, (cfg0.win 25).cut (grid0.coords t) f j = f (ix2 ⟨(j 0).val, h0⟩ ⟨(j 1).val, h1⟩) := fun f =>
    congrArg f (funext fun a => match a with | ⟨0, _⟩ => rfl | ⟨1, _⟩ => rfl)
  have readKey : ∀ f : Vec Ideal S32768x3072 .bf16, (win0_25.blk t).view.read (Elt Ideal) f j
      = f (ix2 ⟨t.val * 512 + (j 0).val, by omega⟩ ⟨(j 1).val, h1⟩) := fun f => congrArg f (funext fun a => Fin.ext (by
    match a with
    | ⟨0, _⟩ =>
      show win0_25.index t 0 * 512 + 1 * (j 0).val = t.val * 512 + (j 0).val
      rw [(index25 t).1]; omega
    | ⟨1, _⟩ =>
      show win0_25.index t 1 * 3072 + 1 * (j 1).val = (j 1).val
      rw [(index25 t).2, Nat.zero_mul, Nat.zero_add, Nat.one_mul]))
  exact (cutKey _).trans ((entry25 m c t ⟨(j 0).val, h0⟩ ⟨(j 1).val, h1⟩ ⟨t.val * 512 + (j 0).val, by omega⟩ rfl).trans (readKey _).symm)

/-- An index of the gates is in point `t`'s block. -/
theorem mem_blk25 (t : Fin cfg0.N) (i : S32768x3072.Idx) (h : (i 0).val / 512 = t.val) : i ∈ (win0_25.blk t).view.set := by
  have key : ∀ r : Rect S32768x3072, i ∈ r.set → i ∈ ((View.whole main_v115_5).slice r).set := fun r hr => by rw [View.set_slice_whole]; exact hr
  refine key (win0_25.rect t) ((Rect.mem_set_unit).2 ?_)
  have h1 : (i 1 : Nat) < 3072 := (i 1).isLt
  intro a
  match a with
  | ⟨0, _⟩ => show win0_25.index t 0 * 512 ≤ (i 0 : Nat) ∧ (i 0 : Nat) < win0_25.index t 0 * 512 + win0_25.xsize (grid0.coords t) 0
              rw [(index25 t).1, (xsize25 t).1]; omega
  | ⟨1, _⟩ => show win0_25.index t 1 * 3072 ≤ (i 1 : Nat) ∧ (i 1 : Nat) < win0_25.index t 1 * 3072 + win0_25.xsize (grid0.coords t) 1
              rw [(index25 t).2, (xsize25 t).2]; omega

/-- The blocks tile the gates. -/
theorem cover25 (i : S32768x3072.Idx) : ∃ t : Fin cfg0.N, (cfg0.win 25).flush t = true ∧ i ∈ ((cfg0.win 25).blk t).view.set := by
  have h0 : (i 0 : Nat) < 32768 := (i 0).isLt
  have hN : cfg0.N = 64 := N_0
  exact ⟨⟨(i 0).val / 512, by omega⟩, flush0_25 _, mem_blk25 _ i rfl⟩

/-- The array ends holding the gates. -/
theorem final25 (c : Dev nD) : (dats m 0 c).arrAt 25 cfg0.N = out25 m c :=
  (dats m 0 c).arrAt_eq_of_cover 25 (out25 m c) (fun t _ => flushed_eq25 m c t) cover25

end Cert.Kernel5Ideal.RefValue

end
-- ==== Proof.PremixEntry.lean ====
/- What the premix call's reference holds at an entry: two slices of the projection of the modulated norm. -/
module

public import proofs.«01_k».proof.Proof.PremixSpec
public import proofs.«01_k».proof.Proof.Gen.Reference5Ideal.Read

@[expose] public section

set_option maxRecDepth 16384

noncomputable section

namespace Cert.Reference5Ideal.Entry

open Cert.Reference5Ideal Cert.Reference5Ideal.Gen Cert.Reference5Ideal.Read Idealize.ShloMosaic Idealize.ShloMosaic.ValueIdx
open Cert.Merge (modul rinv)
open Cert.Premix
open scoped BigOperators

variable (x0 : FVec Ideal S2x16384x1024 .f32) (x1 x2 : FVec Ideal S2x1024 .f32) (x3 : FVec Ideal S1024 .f32) (x4 : FVec Ideal S1024x5024 .f32)

/-- The number the norm multiplies by. -/
theorem rinv_apply (b : Fin 2) (s : Fin 16384) : val_main_v7 (F := Ideal) x0 (ix3 b s 0) = rinv fun k => x0 (ix3 b s k) := by
  have e2 : idx_main_v2 (ix3 b s 0) = ix2 b s := funext fun a => by
    match a with
    | ⟨0, _⟩ => rfl
    | ⟨1, _⟩ => rfl
  have d1 : val_main_v1 (F := Ideal) x0 (ix2 b s) = ∑ k, x0 (ix3 b s k) * x0 (ix3 b s k) := by
    rw [val_main_v1_apply, val_main_cst_apply, show (FloatOps.ofBits FTy.f32 0x00000000#32 : Ideal .f32) = (0 : EReal) from Ideal.ofBits_zero_f32, zero_add]
    refine Finset.sum_congr rfl fun k _ => ?_
    have e : idx_main_v1 (ix2 b s) k = ix3 b s k := funext fun a => by
      match a with
      | ⟨0, _⟩ => rfl
      | ⟨1, _⟩ => rfl
      | ⟨2, _⟩ => rfl
    rw [e, val_main_v0_apply]
    rfl
  rw [val_main_v7_apply, val_main_v6_apply, val_main_v4_apply, val_main_v2_apply, e2, d1, val_main_v3_apply, val_main_cst_0_apply, val_main_v5_apply,
    val_main_cst_1_apply]
  rfl

/-- The modulated norm. -/
theorem norm_apply (b : Fin 2) (s : Fin 16384) (k : Fin 1024) : val_main_v20 (F := Ideal) x0 x1 x2 x3 (ix3 b s k) = normAt x0 x1 x2 x3 b s k := by
  have e8 : idx_main_v8 (ix3 b s k) = ix3 b s 0 := funext fun a => by
    match a with
    | ⟨0, _⟩ => rfl
    | ⟨1, _⟩ => rfl
    | ⟨2, _⟩ => rfl
  have e10 : idx_main_v10 (idx_main_v11 (ix3 b s k)) = ix1 k := funext fun a => by
    match a with
    | ⟨0, _⟩ => rfl
  have e13 : idx_main_v13 (idx_main_v16 (ix3 b s k)) = ix2 b k := funext fun a => by
    match a with
    | ⟨0, _⟩ => rfl
    | ⟨1, _⟩ => rfl
  have e18 : idx_main_v18 (idx_main_v19 (ix3 b s k)) = ix2 b k := funext fun a => by
    match a with
    | ⟨0, _⟩ => rfl
    | ⟨1, _⟩ => rfl
  rw [val_main_v20_apply, val_main_v17_apply, val_main_v12_apply, val_main_v9_apply, val_main_v8_apply, e8, rinv_apply, val_main_v11_apply, val_main_v10_apply,
    e10, val_main_v16_apply, val_main_v15_apply, val_main_v14_apply, val_main_cst_2_apply, val_main_v13_apply, e13, val_main_v19_apply, val_main_v18_apply, e18]
  rfl

/-- A column of the projection. -/
theorem col_apply (b : Fin 2) (s : Fin 16384) (q : Fin 5024) : val_main_v21 (F := Ideal) x0 x1 x2 x3 x4 (ix3 b s q) = colAt x0 x1 x2 x3 x4 b s q := by
  rw [val_main_v21_apply]
  refine Finset.sum_congr rfl fun k _ => ?_
  have el : lidx_main_v21 (ix3 b s q) k = ix3 b s k := funext fun a => by
    match a with
    | ⟨0, _⟩ => rfl
    | ⟨1, _⟩ => rfl
    | ⟨2, _⟩ => rfl
  have er : ridx_main_v21 (ix3 b s q) k = ix2 k q := funext fun a => by
    match a with
    | ⟨0, _⟩ => rfl
    | ⟨1, _⟩ => rfl
  rw [el, er, norm_apply]

/-- A sigmoid of a gate's column. -/
theorem sigmoid_apply (b : Fin 2) (s : Fin 16384) (n : Fin 3072) :
    val_main_v31 (F := Ideal) x0 x1 x2 x3 x4 (ix3 b s n) = Ideal.logistic (colAt x0 x1 x2 x3 x4 b s ⟨1952 + n.val, by omega⟩) := by
  have e : idx_main_v23 (ix3 b s n) = ix3 b s ⟨1952 + n.val, by omega⟩ := funext fun a => by
    match a with
    | ⟨0, _⟩ => rfl
    | ⟨1, _⟩ => rfl
    | ⟨2, _⟩ => rfl
  rw [val_main_v31_apply, val_main_v30_apply, val_main_cst_4_apply, val_main_v29_apply, val_main_v28_apply, val_main_cst_3_apply, val_main_v27_apply,
    val_main_v26_apply, val_main_v23_apply, e, col_apply]
  rw [show (FloatOps.ofBits FTy.f32 0x3F800000#32 : Ideal .f32) = (1 : EReal) from Ideal.ofBits_one_f32]
  rfl

/-- The reference's first result. -/
theorem conv_eq : val_main_v25 (F := Ideal) x0 x1 x2 x3 x4 = conv x0 x1 x2 x3 x4 := by
  funext i
  obtain ⟨R, n, rfl⟩ : ∃ (R : Fin 32768) (n : Fin 768), i = ix2 R n := ⟨i 0, i 1, eq_ix2 i⟩
  have hR : R.val = (⟨R.val / 16384, by omega⟩ : Fin 2).val * 16384 + (⟨R.val % 16384, Nat.mod_lt _ (by norm_num)⟩ : Fin 16384).val := by
    show R.val = R.val / 16384 * 16384 + R.val % 16384; omega
  rw [conv_row x0 x1 x2 x3 x4 R n _ _ hR, ← col_apply, val_main_v25_apply, val_main_v24_apply, val_main_v22_apply]
  refine congrArg (val_main_v21 (F := Ideal) x0 x1 x2 x3 x4) (funext fun a => Fin.ext ?_)
  match a with
  | ⟨0, _⟩ => show (R.val * 768 + n.val) / 12582912 = R.val / 16384; omega
  | ⟨1, _⟩ => show (R.val * 768 + n.val) / 768 % 16384 = R.val % 16384; omega
  | ⟨2, _⟩ => show 672 + (R.val * 768 + n.val) % 768 = 672 + n.val; omega

/-- The reference's second result. -/
theorem gates_eq : val_main_v33 (F := Ideal) x0 x1 x2 x3 x4 = gates x0 x1 x2 x3 x4 := by
  funext i
  obtain ⟨R, n, rfl⟩ : ∃ (R : Fin 32768) (n : Fin 3072), i = ix2 R n := ⟨i 0, i 1, eq_ix2 i⟩
  have hR : R.val = (⟨R.val / 16384, by omega⟩ : Fin 2).val * 16384 + (⟨R.val % 16384, Nat.mod_lt _ (by norm_num)⟩ : Fin 16384).val := by
    show R.val = R.val / 16384 * 16384 + R.val % 16384; omega
  rw [gates_row x0 x1 x2 x3 x4 R n _ _ hR, ← sigmoid_apply, val_main_v33_apply, val_main_v32_apply]
  refine congrArg (val_main_v31 (F := Ideal) x0 x1 x2 x3 x4) (funext fun a => Fin.ext ?_)
  match a with
  | ⟨0, _⟩ => show (R.val * 3072 + n.val) / 50331648 = R.val / 16384; omega
  | ⟨1, _⟩ => show (R.val * 3072 + n.val) / 3072 % 16384 = R.val % 16384; omega
  | ⟨2, _⟩ => show (R.val * 3072 + n.val) % 3072 = n.val; omega

end Cert.Reference5Ideal.Entry

end
-- ==== Proof.Premix.lean ====
/- The value claim of the premix call's two results. -/
module

public import proofs.«01_k».proof.Defs
public import proofs.«01_k».proof.Proof.PremixArray
public import proofs.«01_k».proof.Proof.PremixEntry
public import proofs.«01_k».proof.Proof.Gen.Kernel5Ideal.Value
public import proofs.«01_k».proof.Proof.Gen.Reference5Ideal.Run

@[expose] public section

set_option maxRecDepth 16384

noncomputable section

namespace Cert.Proof

open Idealize.ShloMosaic Idealize.ShloMosaic.TcCoe Idealize.SL.Sem Idealize.ShloMosaic.ValueIdx
open Cert.Premix

/-- The premix call and the reference leave the same convolution columns and the same gates, from any arguments. -/
theorem premix : Cert.algebraic_Kernel5Ideal_Reference5Ideal := by
  intro m ρ m' ρ' _ hagree
  refine ⟨fun c => Cert.Kernel5Ideal.RefValue.out24 m c, fun c => Cert.Kernel5Ideal.RefValue.out25 m c, ?_, ?_⟩
  · exact (θ_run Cert.Kernel5Ideal.defs _ _).mono (fun _ h c => ⟨(h c).2.2.2.2.1.trans (Cert.Kernel5Ideal.RefValue.final24 m c),
      (h c).2.2.2.2.2.1.trans (Cert.Kernel5Ideal.RefValue.final25 m c), (h c).2.2.2.2.2.2⟩)
      (Cert.Kernel5Ideal.Value.run_blocks (F := Ideal) m ρ)
  · refine (θ_run Cert.Reference5Ideal.defs _ _).mono (fun _ h c => ⟨(h c).1.trans ?_, (h c).2.1.trans ?_, (h c).2.2⟩)
      (Cert.Reference5Ideal.Value.run (F := Ideal) m' ρ')
    · obtain ⟨e0, e1, e2, e3, e4, -⟩ := hagree c
      rw [e0, e1, e2, e3, e4]
      exact (Cert.Reference5Ideal.Read.val_main_v25_eq _ _ _ _ _).trans (Cert.Reference5Ideal.Entry.conv_eq _ _ _ _ _)
    · obtain ⟨e0, e1, e2, e3, e4, -⟩ := hagree c
      rw [e0, e1, e2, e3, e4]
      exact (Cert.Reference5Ideal.Read.val_main_v33_eq _ _ _ _ _).trans (Cert.Reference5Ideal.Entry.gates_eq _ _ _ _ _)

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Bounded
public import proofs.«01_k».proof.Proof.Experts
public import proofs.«01_k».proof.Proof.Merge
public import proofs.«01_k».proof.Proof.Premix
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Pre_experts
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.ShloMosaic.TcCoe Idealize.SL.Sem

/-- The reference's frame: the run of its operations leaves the arguments and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The experts reference's frame: the run of its operations leaves the arguments and declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The merge reference's frame: the run of its operations leaves the arguments and declares no semaphore. -/
theorem frame_reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The premix reference's frame: the run of its operations leaves the arguments and declares no semaphore. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Every claim. -/
theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_experts.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ h => Cert.Kernel3.Gen.frame m ρ (ok_kernel3 m h), fun m ρ h => Cert.Kernel3Ideal.Gen.frame m ρ (ok_kernel3Ideal m h),
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  trivial, bounded, trivial, experts, trivial, merge, trivial, premix⟩

end Cert.Proof

end
